-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Enc (m : (ℓ : Loc Cert.Enc.nD Cert.Enc.τ Cert.Enc.sig) → Buf (Elt Bits) ℓ) : Prop :=
  True

def Pre_EncIdeal (m : (ℓ : Loc Cert.EncIdeal.nD Cert.EncIdeal.τ Cert.EncIdeal.sig) → Buf (Elt Ideal) ℓ) : Prop :=
  True

def Pre_EncRefIdeal (m : (ℓ : Loc Cert.EncRefIdeal.nD Cert.EncRefIdeal.τ Cert.EncRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Enc [hEnc : Cert.Enc.Facts] : Prop :=
  ∀ (m : (ℓ : Loc Cert.Enc.nD Cert.Enc.τ Cert.Enc.sig) → Buf (Elt Bits) ℓ) (g : Dev Cert.Enc.nD → PrngReg), Pre_Enc m →
    θ_run (Cert.Enc.defs (F := Bits)) (onTc (τ := Cert.Enc.τ) (Cert.Enc.main (F := Bits))) ⟨m, fun _ => 0, g⟩ (fun r => (∀ c : Dev Cert.Enc.nD,
      r.2.mem ((c.tc : Thread Cert.Enc.nD Cert.Enc.τ).loc Cert.Enc.main_arg0) = m ((c.tc : Thread Cert.Enc.nD Cert.Enc.τ).loc Cert.Enc.main_arg0)
      ∧ r.2.mem ((c.tc : Thread Cert.Enc.nD Cert.Enc.τ).loc Cert.Enc.main_arg1) = m ((c.tc : Thread Cert.Enc.nD Cert.Enc.τ).loc Cert.Enc.main_arg1)
      ∧ r.2.mem ((c.tc : Thread Cert.Enc.nD Cert.Enc.τ).loc Cert.Enc.main_arg2) = m ((c.tc : Thread Cert.Enc.nD Cert.Enc.τ).loc Cert.Enc.main_arg2)
      ∧ r.2.mem ((c.tc : Thread Cert.Enc.nD Cert.Enc.τ).loc Cert.Enc.main_arg3) = m ((c.tc : Thread Cert.Enc.nD Cert.Enc.τ).loc Cert.Enc.main_arg3)
      ∧ r.2.mem ((c.tc : Thread Cert.Enc.nD Cert.Enc.τ).loc Cert.Enc.main_arg4) = m ((c.tc : Thread Cert.Enc.nD Cert.Enc.τ).loc Cert.Enc.main_arg4))
      ∧ r.2.sem = fun _ => 0)

def quiescent_EncIdeal [hEncIdeal : Cert.EncIdeal.Facts] : Prop :=
  ∀ (m : (ℓ : Loc Cert.EncIdeal.nD Cert.EncIdeal.τ Cert.EncIdeal.sig) → Buf (Elt Ideal) ℓ) (g : Dev Cert.EncIdeal.nD → PrngReg), Pre_EncIdeal m →
    θ_run (Cert.EncIdeal.defs (F := Ideal)) (onTc (τ := Cert.EncIdeal.τ) (Cert.EncIdeal.main (F := Ideal))) ⟨m, fun _ => 0, g⟩ (fun r => (∀ c : Dev Cert.EncIdeal.nD,
      r.2.mem ((c.tc : Thread Cert.EncIdeal.nD Cert.EncIdeal.τ).loc Cert.EncIdeal.main_arg0) = m ((c.tc : Thread Cert.EncIdeal.nD Cert.EncIdeal.τ).loc Cert.EncIdeal.main_arg0)
      ∧ r.2.mem ((c.tc : Thread Cert.EncIdeal.nD Cert.EncIdeal.τ).loc Cert.EncIdeal.main_arg1) = m ((c.tc : Thread Cert.EncIdeal.nD Cert.EncIdeal.τ).loc Cert.EncIdeal.main_arg1)
      ∧ r.2.mem ((c.tc : Thread Cert.EncIdeal.nD Cert.EncIdeal.τ).loc Cert.EncIdeal.main_arg2) = m ((c.tc : Thread Cert.EncIdeal.nD Cert.EncIdeal.τ).loc Cert.EncIdeal.main_arg2)
      ∧ r.2.mem ((c.tc : Thread Cert.EncIdeal.nD Cert.EncIdeal.τ).loc Cert.EncIdeal.main_arg3) = m ((c.tc : Thread Cert.EncIdeal.nD Cert.EncIdeal.τ).loc Cert.EncIdeal.main_arg3)
      ∧ r.2.mem ((c.tc : Thread Cert.EncIdeal.nD Cert.EncIdeal.τ).loc Cert.EncIdeal.main_arg4) = m ((c.tc : Thread Cert.EncIdeal.nD Cert.EncIdeal.τ).loc Cert.EncIdeal.main_arg4))
      ∧ r.2.sem = fun _ => 0)

def quiescent_EncRefIdeal [hEncRefIdeal : Cert.EncRefIdeal.Facts] : Prop :=
  ∀ (m : (ℓ : Loc Cert.EncRefIdeal.nD Cert.EncRefIdeal.τ Cert.EncRefIdeal.sig) → Buf (Elt Ideal) ℓ) (g : Dev Cert.EncRefIdeal.nD → PrngReg), Pre_EncRefIdeal m →
    θ_run (Cert.EncRefIdeal.defs (F := Ideal)) (onTc (τ := Cert.EncRefIdeal.τ) (Cert.EncRefIdeal.main (F := Ideal))) ⟨m, fun _ => 0, g⟩ (fun r => (∀ c : Dev Cert.EncRefIdeal.nD,
      r.2.mem ((c.tc : Thread Cert.EncRefIdeal.nD Cert.EncRefIdeal.τ).loc Cert.EncRefIdeal.main_arg0) = m ((c.tc : Thread Cert.EncRefIdeal.nD Cert.EncRefIdeal.τ).loc Cert.EncRefIdeal.main_arg0)
      ∧ r.2.mem ((c.tc : Thread Cert.EncRefIdeal.nD Cert.EncRefIdeal.τ).loc Cert.EncRefIdeal.main_arg1) = m ((c.tc : Thread Cert.EncRefIdeal.nD Cert.EncRefIdeal.τ).loc Cert.EncRefIdeal.main_arg1)
      ∧ r.2.mem ((c.tc : Thread Cert.EncRefIdeal.nD Cert.EncRefIdeal.τ).loc Cert.EncRefIdeal.main_arg2) = m ((c.tc : Thread Cert.EncRefIdeal.nD Cert.EncRefIdeal.τ).loc Cert.EncRefIdeal.main_arg2)
      ∧ r.2.mem ((c.tc : Thread Cert.EncRefIdeal.nD Cert.EncRefIdeal.τ).loc Cert.EncRefIdeal.main_arg3) = m ((c.tc : Thread Cert.EncRefIdeal.nD Cert.EncRefIdeal.τ).loc Cert.EncRefIdeal.main_arg3)
      ∧ r.2.mem ((c.tc : Thread Cert.EncRefIdeal.nD Cert.EncRefIdeal.τ).loc Cert.EncRefIdeal.main_arg4) = m ((c.tc : Thread Cert.EncRefIdeal.nD Cert.EncRefIdeal.τ).loc Cert.EncRefIdeal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_v48) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v3_1)) (v2 : (c : Dev Cert.QkvIdeal.nD) → Buf (Elt Ideal) ((c.tc : Thread Cert.QkvIdeal.nD Cert.QkvIdeal.τ).loc Cert.QkvIdeal.main_v3_2)) (v3 : (c : Dev Cert.QkvIdeal.nD) → Buf (Elt Ideal) ((c.tc : Thread Cert.QkvIdeal.nD Cert.QkvIdeal.τ).loc Cert.QkvIdeal.main_v3_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v3_1) = v1 c
          ∧ r.2.mem ((c.tc : Thread Cert.QkvIdeal.nD Cert.QkvIdeal.τ).loc Cert.QkvIdeal.main_v3_2) = v2 c
          ∧ r.2.mem ((c.tc : Thread Cert.QkvIdeal.nD Cert.QkvIdeal.τ).loc Cert.QkvIdeal.main_v3_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v26) = v0 c
          ∧ r.2.mem ((c.tc : Thread Cert.QkvRefIdeal.nD Cert.QkvRefIdeal.τ).loc Cert.QkvRefIdeal.main_v27) = v1 c
          ∧ r.2.mem ((c.tc : Thread Cert.QkvRefIdeal.nD Cert.QkvRefIdeal.τ).loc Cert.QkvRefIdeal.main_v28) = v2 c
          ∧ r.2.mem ((c.tc : Thread Cert.QkvRefIdeal.nD Cert.QkvRefIdeal.τ).loc Cert.QkvRefIdeal.main_v29) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v22) = v0 c
          ∧ r.2.mem ((c.tc : Thread Cert.AttnRefIdeal.nD Cert.AttnRefIdeal.τ).loc Cert.AttnRefIdeal.main_v25) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Enc_EncIdeal : Prop :=
  True

def algebraic_EncIdeal_EncRefIdeal_on_separated [hEncIdeal : Cert.EncIdeal.Facts] [hEncRefIdeal : Cert.EncRefIdeal.Facts] [hOn_separated : Cert.On_separated.Facts] : Prop :=
  ∀ (m : (ℓ : Loc Cert.EncIdeal.nD Cert.EncIdeal.τ Cert.EncIdeal.sig) → Buf (Elt Ideal) ℓ) (g : Dev Cert.EncIdeal.nD → PrngReg)
    (m' : (ℓ : Loc Cert.EncRefIdeal.nD Cert.EncRefIdeal.τ Cert.EncRefIdeal.sig) → Buf (Elt Ideal) ℓ) (g' : Dev Cert.EncRefIdeal.nD → PrngReg), Pre_EncIdeal m →
    (∀ c : Dev Cert.EncIdeal.nD,
      m' ((c.tc : Thread Cert.EncRefIdeal.nD Cert.EncRefIdeal.τ).loc Cert.EncRefIdeal.main_arg0) = m ((c.tc : Thread Cert.EncIdeal.nD Cert.EncIdeal.τ).loc Cert.EncIdeal.main_arg0)
      ∧ m' ((c.tc : Thread Cert.EncRefIdeal.nD Cert.EncRefIdeal.τ).loc Cert.EncRefIdeal.main_arg1) = m ((c.tc : Thread Cert.EncIdeal.nD Cert.EncIdeal.τ).loc Cert.EncIdeal.main_arg1)
      ∧ m' ((c.tc : Thread Cert.EncRefIdeal.nD Cert.EncRefIdeal.τ).loc Cert.EncRefIdeal.main_arg2) = m ((c.tc : Thread Cert.EncIdeal.nD Cert.EncIdeal.τ).loc Cert.EncIdeal.main_arg2)
      ∧ m' ((c.tc : Thread Cert.EncRefIdeal.nD Cert.EncRefIdeal.τ).loc Cert.EncRefIdeal.main_arg3) = m ((c.tc : Thread Cert.EncIdeal.nD Cert.EncIdeal.τ).loc Cert.EncIdeal.main_arg3)
      ∧ m' ((c.tc : Thread Cert.EncRefIdeal.nD Cert.EncRefIdeal.τ).loc Cert.EncRefIdeal.main_arg4) = m ((c.tc : Thread Cert.EncIdeal.nD Cert.EncIdeal.τ).loc Cert.EncIdeal.main_arg4)) →
    ∃ (v0 : (c : Dev Cert.EncIdeal.nD) → Buf (Elt Ideal) ((c.tc : Thread Cert.EncIdeal.nD Cert.EncIdeal.τ).loc Cert.EncIdeal.main_v2_0)) (v1 : (c : Dev Cert.EncIdeal.nD) → Buf (Elt Ideal) ((c.tc : Thread Cert.EncIdeal.nD Cert.EncIdeal.τ).loc Cert.EncIdeal.main_v2_1)) (v2 : (c : Dev Cert.EncIdeal.nD) → Buf (Elt Ideal) ((c.tc : Thread Cert.EncIdeal.nD Cert.EncIdeal.τ).loc Cert.EncIdeal.main_v2_2)) (v3 : (c : Dev Cert.EncIdeal.nD) → Buf (Elt Ideal) ((c.tc : Thread Cert.EncIdeal.nD Cert.EncIdeal.τ).loc Cert.EncIdeal.main_v2_3)),
      θ_run (Cert.EncIdeal.defs (F := Ideal)) (onTc (τ := Cert.EncIdeal.τ) (Cert.EncIdeal.main (F := Ideal))) ⟨m, fun _ => 0, g⟩ (fun r => ∀ c : Dev Cert.EncIdeal.nD,
          (∀ i : (⟨2, ![4096, 8]⟩ : Shape).Idx, (Cert.On_separated.fn (F := Ideal) (m ((c.tc : Thread Cert.EncIdeal.nD Cert.EncIdeal.τ).loc Cert.EncIdeal.main_arg0)) (m ((c.tc : Thread Cert.EncIdeal.nD Cert.EncIdeal.τ).loc Cert.EncIdeal.main_arg1)) (m ((c.tc : Thread Cert.EncIdeal.nD Cert.EncIdeal.τ).loc Cert.EncIdeal.main_arg2)) (m ((c.tc : Thread Cert.EncIdeal.nD Cert.EncIdeal.τ).loc Cert.EncIdeal.main_arg3)) (m ((c.tc : Thread Cert.EncIdeal.nD Cert.EncIdeal.τ).loc Cert.EncIdeal.main_arg4))).1 i = 1#1 → r.2.mem ((c.tc : Thread Cert.EncIdeal.nD Cert.EncIdeal.τ).loc Cert.EncIdeal.main_v2_0) i = v0 c i)
          ∧ (∀ i : (⟨2, ![4096, 1024]⟩ : Shape).Idx, (Cert.On_separated.fn (F := Ideal) (m ((c.tc : Thread Cert.EncIdeal.nD Cert.EncIdeal.τ).loc Cert.EncIdeal.main_arg0)) (m ((c.tc : Thread Cert.EncIdeal.nD Cert.EncIdeal.τ).loc Cert.EncIdeal.main_arg1)) (m ((c.tc : Thread Cert.EncIdeal.nD Cert.EncIdeal.τ).loc Cert.EncIdeal.main_arg2)) (m ((c.tc : Thread Cert.EncIdeal.nD Cert.EncIdeal.τ).loc Cert.EncIdeal.main_arg3)) (m ((c.tc : Thread Cert.EncIdeal.nD Cert.EncIdeal.τ).loc Cert.EncIdeal.main_arg4))).2.1 i = 1#1 → r.2.mem ((c.tc : Thread Cert.EncIdeal.nD Cert.EncIdeal.τ).loc Cert.EncIdeal.main_v2_1) i = v1 c i)
          ∧ (∀ i : (⟨2, ![4096, 4096]⟩ : Shape).Idx, (Cert.On_separated.fn (F := Ideal) (m ((c.tc : Thread Cert.EncIdeal.nD Cert.EncIdeal.τ).loc Cert.EncIdeal.main_arg0)) (m ((c.tc : Thread Cert.EncIdeal.nD Cert.EncIdeal.τ).loc Cert.EncIdeal.main_arg1)) (m ((c.tc : Thread Cert.EncIdeal.nD Cert.EncIdeal.τ).loc Cert.EncIdeal.main_arg2)) (m ((c.tc : Thread Cert.EncIdeal.nD Cert.EncIdeal.τ).loc Cert.EncIdeal.main_arg3)) (m ((c.tc : Thread Cert.EncIdeal.nD Cert.EncIdeal.τ).loc Cert.EncIdeal.main_arg4))).2.2.1 i = 1#1 → r.2.mem ((c.tc : Thread Cert.EncIdeal.nD Cert.EncIdeal.τ).loc Cert.EncIdeal.main_v2_2) i = v2 c i)
          ∧ (∀ i : (⟨2, ![1, 1]⟩ : Shape).Idx, (Cert.On_separated.fn (F := Ideal) (m ((c.tc : Thread Cert.EncIdeal.nD Cert.EncIdeal.τ).loc Cert.EncIdeal.main_arg0)) (m ((c.tc : Thread Cert.EncIdeal.nD Cert.EncIdeal.τ).loc Cert.EncIdeal.main_arg1)) (m ((c.tc : Thread Cert.EncIdeal.nD Cert.EncIdeal.τ).loc Cert.EncIdeal.main_arg2)) (m ((c.tc : Thread Cert.EncIdeal.nD Cert.EncIdeal.τ).loc Cert.EncIdeal.main_arg3)) (m ((c.tc : Thread Cert.EncIdeal.nD Cert.EncIdeal.τ).loc Cert.EncIdeal.main_arg4))).2.2.2 i = 1#1 → r.2.mem ((c.tc : Thread Cert.EncIdeal.nD Cert.EncIdeal.τ).loc Cert.EncIdeal.main_v2_3) i = v3 c i)
          ∧ r.2.mem ((c.tc : Thread Cert.EncIdeal.nD Cert.EncIdeal.τ).loc Cert.EncIdeal.main_arg0) = m ((c.tc : Thread Cert.EncIdeal.nD Cert.EncIdeal.τ).loc Cert.EncIdeal.main_arg0)
          ∧ r.2.mem ((c.tc : Thread Cert.EncIdeal.nD Cert.EncIdeal.τ).loc Cert.EncIdeal.main_arg1) = m ((c.tc : Thread Cert.EncIdeal.nD Cert.EncIdeal.τ).loc Cert.EncIdeal.main_arg1)
          ∧ r.2.mem ((c.tc : Thread Cert.EncIdeal.nD Cert.EncIdeal.τ).loc Cert.EncIdeal.main_arg2) = m ((c.tc : Thread Cert.EncIdeal.nD Cert.EncIdeal.τ).loc Cert.EncIdeal.main_arg2)
          ∧ r.2.mem ((c.tc : Thread Cert.EncIdeal.nD Cert.EncIdeal.τ).loc Cert.EncIdeal.main_arg3) = m ((c.tc : Thread Cert.EncIdeal.nD Cert.EncIdeal.τ).loc Cert.EncIdeal.main_arg3)
          ∧ r.2.mem ((c.tc : Thread Cert.EncIdeal.nD Cert.EncIdeal.τ).loc Cert.EncIdeal.main_arg4) = m ((c.tc : Thread Cert.EncIdeal.nD Cert.EncIdeal.τ).loc Cert.EncIdeal.main_arg4))
      ∧ θ_run (Cert.EncRefIdeal.defs (F := Ideal)) (onTc (τ := Cert.EncRefIdeal.τ) (Cert.EncRefIdeal.main (F := Ideal))) ⟨m', fun _ => 0, g'⟩ (fun r => ∀ c : Dev Cert.EncRefIdeal.nD,
          (∀ i : (⟨2, ![4096, 8]⟩ : Shape).Idx, (Cert.On_separated.fn (F := Ideal) (m ((c.tc : Thread Cert.EncIdeal.nD Cert.EncIdeal.τ).loc Cert.EncIdeal.main_arg0)) (m ((c.tc : Thread Cert.EncIdeal.nD Cert.EncIdeal.τ).loc Cert.EncIdeal.main_arg1)) (m ((c.tc : Thread Cert.EncIdeal.nD Cert.EncIdeal.τ).loc Cert.EncIdeal.main_arg2)) (m ((c.tc : Thread Cert.EncIdeal.nD Cert.EncIdeal.τ).loc Cert.EncIdeal.main_arg3)) (m ((c.tc : Thread Cert.EncIdeal.nD Cert.EncIdeal.τ).loc Cert.EncIdeal.main_arg4))).1 i = 1#1 → r.2.mem ((c.tc : Thread Cert.EncRefIdeal.nD Cert.EncRefIdeal.τ).loc Cert.EncRefIdeal.main_v48) i = v0 c i)
          ∧ (∀ i : (⟨2, ![4096, 1024]⟩ : Shape).Idx, (Cert.On_separated.fn (F := Ideal) (m ((c.tc : Thread Cert.EncIdeal.nD Cert.EncIdeal.τ).loc Cert.EncIdeal.main_arg0)) (m ((c.tc : Thread Cert.EncIdeal.nD Cert.EncIdeal.τ).loc Cert.EncIdeal.main_arg1)) (m ((c.tc : Thread Cert.EncIdeal.nD Cert.EncIdeal.τ).loc Cert.EncIdeal.main_arg2)) (m ((c.tc : Thread Cert.EncIdeal.nD Cert.EncIdeal.τ).loc Cert.EncIdeal.main_arg3)) (m ((c.tc : Thread Cert.EncIdeal.nD Cert.EncIdeal.τ).loc Cert.EncIdeal.main_arg4))).2.1 i = 1#1 → r.2.mem ((c.tc : Thread Cert.EncRefIdeal.nD Cert.EncRefIdeal.τ).loc Cert.EncRefIdeal.main_v49) i = v1 c i)
          ∧ (∀ i : (⟨2, ![4096, 4096]⟩ : Shape).Idx, (Cert.On_separated.fn (F := Ideal) (m ((c.tc : Thread Cert.EncIdeal.nD Cert.EncIdeal.τ).loc Cert.EncIdeal.main_arg0)) (m ((c.tc : Thread Cert.EncIdeal.nD Cert.EncIdeal.τ).loc Cert.EncIdeal.main_arg1)) (m ((c.tc : Thread Cert.EncIdeal.nD Cert.EncIdeal.τ).loc Cert.EncIdeal.main_arg2)) (m ((c.tc : Thread Cert.EncIdeal.nD Cert.EncIdeal.τ).loc Cert.EncIdeal.main_arg3)) (m ((c.tc : Thread Cert.EncIdeal.nD Cert.EncIdeal.τ).loc Cert.EncIdeal.main_arg4))).2.2.1 i = 1#1 → r.2.mem ((c.tc : Thread Cert.EncRefIdeal.nD Cert.EncRefIdeal.τ).loc Cert.EncRefIdeal.main_v50) i = v2 c i)
          ∧ (∀ i : (⟨2, ![1, 1]⟩ : Shape).Idx, (Cert.On_separated.fn (F := Ideal) (m ((c.tc : Thread Cert.EncIdeal.nD Cert.EncIdeal.τ).loc Cert.EncIdeal.main_arg0)) (m ((c.tc : Thread Cert.EncIdeal.nD Cert.EncIdeal.τ).loc Cert.EncIdeal.main_arg1)) (m ((c.tc : Thread Cert.EncIdeal.nD Cert.EncIdeal.τ).loc Cert.EncIdeal.main_arg2)) (m ((c.tc : Thread Cert.EncIdeal.nD Cert.EncIdeal.τ).loc Cert.EncIdeal.main_arg3)) (m ((c.tc : Thread Cert.EncIdeal.nD Cert.EncIdeal.τ).loc Cert.EncIdeal.main_arg4))).2.2.2 i = 1#1 → r.2.mem ((c.tc : Thread Cert.EncRefIdeal.nD Cert.EncRefIdeal.τ).loc Cert.EncRefIdeal.main_v51) i = v3 c i)
          ∧ r.2.mem ((c.tc : Thread Cert.EncRefIdeal.nD Cert.EncRefIdeal.τ).loc Cert.EncRefIdeal.main_arg0) = m' ((c.tc : Thread Cert.EncRefIdeal.nD Cert.EncRefIdeal.τ).loc Cert.EncRefIdeal.main_arg0)
          ∧ r.2.mem ((c.tc : Thread Cert.EncRefIdeal.nD Cert.EncRefIdeal.τ).loc Cert.EncRefIdeal.main_arg1) = m' ((c.tc : Thread Cert.EncRefIdeal.nD Cert.EncRefIdeal.τ).loc Cert.EncRefIdeal.main_arg1)
          ∧ r.2.mem ((c.tc : Thread Cert.EncRefIdeal.nD Cert.EncRefIdeal.τ).loc Cert.EncRefIdeal.main_arg2) = m' ((c.tc : Thread Cert.EncRefIdeal.nD Cert.EncRefIdeal.τ).loc Cert.EncRefIdeal.main_arg2)
          ∧ r.2.mem ((c.tc : Thread Cert.EncRefIdeal.nD Cert.EncRefIdeal.τ).loc Cert.EncRefIdeal.main_arg3) = m' ((c.tc : Thread Cert.EncRefIdeal.nD Cert.EncRefIdeal.τ).loc Cert.EncRefIdeal.main_arg3)
          ∧ r.2.mem ((c.tc : Thread Cert.EncRefIdeal.nD Cert.EncRefIdeal.τ).loc Cert.EncRefIdeal.main_arg4) = m' ((c.tc : Thread Cert.EncRefIdeal.nD Cert.EncRefIdeal.τ).loc Cert.EncRefIdeal.main_arg4))

def preserves_Kernel_KernelIdeal : Prop :=
  True

def algebraic_KernelIdeal_ReferenceIdeal_on_settled [hKernelIdeal : Cert.KernelIdeal.Facts] [hReferenceIdeal : Cert.ReferenceIdeal.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_v21)) (v4 : (c : Dev Cert.KernelIdeal.nD) → Buf (Elt Ideal) ((c.tc : Thread Cert.KernelIdeal.nD Cert.KernelIdeal.τ).loc Cert.KernelIdeal.main_v22)) (v5 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 2048, 1024]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 i = 1#1 → r.2.mem ((c.tc : Thread Cert.KernelIdeal.nD Cert.KernelIdeal.τ).loc Cert.KernelIdeal.main_v19) i = v0 c i)
          ∧ (∀ i : (⟨4, ![2, 16, 2048, 2048]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 i = 1#1 → r.2.mem ((c.tc : Thread Cert.KernelIdeal.nD Cert.KernelIdeal.τ).loc Cert.KernelIdeal.main_v10_0) i = v1 c i)
          ∧ (∀ i : (⟨3, ![2, 2048, 8]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 i = 1#1 → r.2.mem ((c.tc : Thread Cert.KernelIdeal.nD Cert.KernelIdeal.τ).loc Cert.KernelIdeal.main_v20) i = v2 c i)
          ∧ (∀ i : (⟨0, ![]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 i = 1#1 → r.2.mem ((c.tc : Thread Cert.KernelIdeal.nD Cert.KernelIdeal.τ).loc Cert.KernelIdeal.main_v21) i = v3 c i)
          ∧ (∀ i : (⟨0, ![]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 i = 1#1 → r.2.mem ((c.tc : Thread Cert.KernelIdeal.nD Cert.KernelIdeal.τ).loc Cert.KernelIdeal.main_v22) i = v4 c i)
          ∧ (∀ i : (⟨0, ![]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2 i = 1#1 → r.2.mem ((c.tc : Thread Cert.KernelIdeal.nD Cert.KernelIdeal.τ).loc Cert.KernelIdeal.main_v23) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 2048, 1024]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 i = 1#1 → r.2.mem ((c.tc : Thread Cert.ReferenceIdeal.nD Cert.ReferenceIdeal.τ).loc Cert.ReferenceIdeal.main_v160) i = v0 c i)
          ∧ (∀ i : (⟨4, ![2, 16, 2048, 2048]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 i = 1#1 → r.2.mem ((c.tc : Thread Cert.ReferenceIdeal.nD Cert.ReferenceIdeal.τ).loc Cert.ReferenceIdeal.main_v107) i = v1 c i)
          ∧ (∀ i : (⟨3, ![2, 2048, 8]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 i = 1#1 → r.2.mem ((c.tc : Thread Cert.ReferenceIdeal.nD Cert.ReferenceIdeal.τ).loc Cert.ReferenceIdeal.main_v161) i = v2 c i)
          ∧ (∀ i : (⟨0, ![]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 i = 1#1 → r.2.mem ((c.tc : Thread Cert.ReferenceIdeal.nD Cert.ReferenceIdeal.τ).loc Cert.ReferenceIdeal.main_v162) i = v3 c i)
          ∧ (∀ i : (⟨0, ![]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 i = 1#1 → r.2.mem ((c.tc : Thread Cert.ReferenceIdeal.nD Cert.ReferenceIdeal.τ).loc Cert.ReferenceIdeal.main_v163) i = v4 c i)
          ∧ (∀ i : (⟨0, ![]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2 i = 1#1 → r.2.mem ((c.tc : Thread Cert.ReferenceIdeal.nD Cert.ReferenceIdeal.τ).loc Cert.ReferenceIdeal.main_v164) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hAttn : Cert.Attn.Facts) (hAttnIdeal : Cert.AttnIdeal.Facts) (hAttnRefIdeal : Cert.AttnRefIdeal.Facts) (hEnc : Cert.Enc.Facts) (hEncIdeal : Cert.EncIdeal.Facts) (hEncRefIdeal : Cert.EncRefIdeal.Facts) (hKernel : Cert.Kernel.Facts) (hKernelIdeal : Cert.KernelIdeal.Facts) (hReferenceIdeal : Cert.ReferenceIdeal.Facts) (hOn_separated : Cert.On_separated.Facts) (hOn_settled : Cert.On_settled.Facts),
    quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Attn (hAttn := hAttn)
    ∧ quiescent_AttnIdeal (hAttnIdeal := hAttnIdeal)
    ∧ quiescent_AttnRefIdeal (hAttnRefIdeal := hAttnRefIdeal)
    ∧ quiescent_Enc (hEnc := hEnc)
    ∧ quiescent_EncIdeal (hEncIdeal := hEncIdeal)
    ∧ quiescent_EncRefIdeal (hEncRefIdeal := hEncRefIdeal)
    ∧ quiescent_Kernel (hKernel := hKernel)
    ∧ quiescent_KernelIdeal (hKernelIdeal := hKernelIdeal)
    ∧ quiescent_ReferenceIdeal (hReferenceIdeal := hReferenceIdeal)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Attn_AttnIdeal
    ∧ algebraic_AttnIdeal_AttnRefIdeal (hAttnIdeal := hAttnIdeal) (hAttnRefIdeal := hAttnRefIdeal)
    ∧ preserves_Enc_EncIdeal
    ∧ algebraic_EncIdeal_EncRefIdeal_on_separated (hEncIdeal := hEncIdeal) (hEncRefIdeal := hEncRefIdeal) (hOn_separated := hOn_separated)
    ∧ preserves_Kernel_KernelIdeal
    ∧ algebraic_KernelIdeal_ReferenceIdeal_on_settled (hKernelIdeal := hKernelIdeal) (hReferenceIdeal := hReferenceIdeal) (hOn_settled := hOn_settled)
-- ==== On_separated.lean ====
abbrev S2x2048x1024 : Shape := ⟨3, ![2, 2048, 1024]⟩
abbrev S1024x8 : Shape := ⟨2, ![1024, 8]⟩
abbrev S8x1024 : Shape := ⟨2, ![8, 1024]⟩
abbrev S1024x4096 : Shape := ⟨2, ![1024, 4096]⟩
abbrev S4096 : Shape := ⟨1, ![4096]⟩
abbrev S2x2048x8 : Shape := ⟨3, ![2, 2048, 8]⟩
abbrev S_ : Shape := ⟨0, ![]⟩
abbrev S2x2048 : Shape := ⟨2, ![2, 2048]⟩
abbrev S2x2048x1 : Shape := ⟨3, ![2, 2048, 1]⟩
abbrev S2x2048x4096 : Shape := ⟨3, ![2, 2048, 4096]⟩
abbrev S1x1x4096 : Shape := ⟨3, ![1, 1, 4096]⟩
abbrev S2x2048x65 : Shape := ⟨3, ![2, 2048, 65]⟩
abbrev S4096x8 : Shape := ⟨2, ![4096, 8]⟩
abbrev S4096x1024 : Shape := ⟨2, ![4096, 1024]⟩
abbrev S4096x1 : Shape := ⟨2, ![4096, 1]⟩
abbrev S4096x4096 : Shape := ⟨2, ![4096, 4096]⟩
abbrev S1x1 : Shape := ⟨2, ![1, 1]⟩

class Facts : Prop where
  reducesTo_S2x2048x8_S2x2048_d2 : S2x2048x8.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x8_0_1_2 : S2x2048x1.BroadcastsInDim S2x2048x8 (![0, 1, 2] : Fin 3 → Fin S2x2048x8.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  sliceFits_S2x2048x4096_S2x2048x65 : S2x2048x4096.Slices (fun _ => 0) S2x2048x65
  reducesTo_S2x2048x4096_S2x2048_d2 : S2x2048x4096.ReducesTo [2] S2x2048
  bcast_S2x2048x1_S2x2048x4096_0_1_2 : S2x2048x1.BroadcastsInDim S2x2048x4096 (![0, 1, 2] : Fin 3 → Fin S2x2048x4096.rank)
  slices_S2x2048x65_S2x2048x1_0_0_63 : S2x2048x65.Slices ![0, 0, 63] S2x2048x1
  shapeCasts_S2x2048x1_S2x2048 : S2x2048x1.ShapeCasts S2x2048
  slices_S2x2048x65_S2x2048x1_0_0_64 : S2x2048x65.Slices ![0, 0, 64] S2x2048x1
  bcast_S_S4096x8 : S_.BroadcastsInDim S4096x8 (![] : Fin 0 → Fin S4096x8.rank)
  bcast_S_S4096x1024 : S_.BroadcastsInDim S4096x1024 (![] : Fin 0 → Fin S4096x1024.rank)
  shapeCasts_S2x2048_S4096x1 : S2x2048.ShapeCasts S4096x1
  bcast_S4096x1_S4096x4096_0_1 : S4096x1.BroadcastsInDim S4096x4096 (![0, 1] : Fin 2 → Fin S4096x4096.rank)
  reducesTo_S2x2048_S_d0_1 : S2x2048.ReducesTo [0, 1] S_
  shapeCasts_S_S1x1 : S_.ShapeCasts S1x1
  dot_S2x2048x1024_S1024x8_S2x2048x8_2_0_01_1_n_n_wf : DotDims.WF S2x2048x1024 S1024x8 S2x2048x8 [2] [0] [0, 1] [1] [] []
  dot_S2x2048x8_S8x1024_S2x2048x1024_2_0_01_1_n_n_wf : DotDims.WF S2x2048x8 S8x1024 S2x2048x1024 [2] [0] [0, 1] [1] [] []
  dot_S2x2048x1024_S1024x4096_S2x2048x4096_2_0_01_1_n_n_wf : DotDims.WF S2x2048x1024 S1024x4096 S2x2048x4096 [2] [0] [0, 1] [1] [] []

variable [Facts]

def dot_S2x2048x1024_S1024x8_S2x2048x8_2_0_01_1_n_n : DotDims S2x2048x1024 S1024x8 S2x2048x8 where
  lhsContracting := [2]
  rhsContracting := [0]
  lhsNonContracting := [0, 1]
  rhsNonContracting := [1]
  lhsBatch := []
  rhsBatch := []
  wf := dot_S2x2048x1024_S1024x8_S2x2048x8_2_0_01_1_n_n_wf
def dot_S2x2048x8_S8x1024_S2x2048x1024_2_0_01_1_n_n : DotDims S2x2048x8 S8x1024 S2x2048x1024 where
  lhsContracting := [2]
  rhsContracting := [0]
  lhsNonContracting := [0, 1]
  rhsNonContracting := [1]
  lhsBatch := []
  rhsBatch := []
  wf := dot_S2x2048x8_S8x1024_S2x2048x1024_2_0_01_1_n_n_wf
def dot_S2x2048x1024_S1024x4096_S2x2048x4096_2_0_01_1_n_n : DotDims S2x2048x1024 S1024x4096 S2x2048x4096 where
  lhsContracting := [2]
  rhsContracting := [0]
  lhsNonContracting := [0, 1]
  rhsNonContracting := [1]
  lhsBatch := []
  rhsBatch := []
  wf := dot_S2x2048x1024_S1024x4096_S2x2048x4096_2_0_01_1_n_n_wf
def fn_where {F : FTy → Type} [FloatOps F] (arg0 : IVec S2x2048 1) (arg1 : FVec F S_ .f32) (arg2 : FVec F S_ .f32) : FVec F S2x2048 .f32 :=
  let v0 : FVec F S2x2048 .f32 := broadcastInDim S2x2048 ![] bcast_S_S2x2048 arg1
  let v1 : FVec F S2x2048 .f32 := broadcastInDim S2x2048 ![] bcast_S_S2x2048 arg2
  let v2 : FVec F S2x2048 .f32 := select arg0 v0 v1
  v2

def fn_part3 {F : FTy → Type} [FloatOps F] (main_v52 : IVec S2x2048 1) (main_v53 : IVec S4096x8 1) (main_v54 : IVec S4096x1024 1) (main_v55 : IVec S4096x1 1) : IVec S4096x8 1 × IVec S4096x1024 1 × IVec S4096x4096 1 × IVec S1x1 1 :=
  let main_v56 : IVec S4096x4096 1 := broadcastInDim S4096x4096 ![0, 1] bcast_S4096x1_S4096x4096_0_1 main_v55
  let main_c_12 : IVec S_ 1 := constantI S_ 1 1#1
  let main_v57 : IVec S_ 1 := (fun x v => Host.reduce IntOp.andi x v reducesTo_S2x2048_S_d0_1 h_S_) main_v52 main_c_12
  let main_v58 : IVec S1x1 1 := shapeCast S1x1 main_v57 shapeCasts_S_S1x1
  (main_v53, main_v54, main_v56, main_v58)

def fn_part2 {F : FTy → Type} [FloatOps F] (main_values : FVec F S2x2048x65 .f32) (main_v20 : FVec F S2x2048 .f32) (main_v28 : FVec F S2x2048 .f32) (main_v34 : IVec S2x2048 1) (main_v36 : FVec F S2x2048 .f32) (main_cst_7 : FVec F S_ .f32) : IVec S4096x8 1 × IVec S4096x1024 1 × IVec S4096x4096 1 × IVec S1x1 1 :=
  let main_v37 : FVec F S2x2048 .f32 := broadcastInDim S2x2048 ![] bcast_S_S2x2048 main_cst_7
  let main_v38 : FVec F S2x2048 .f32 := mulf main_v37 main_v28
  let main_v39 : FVec F S2x2048 .f32 := addf main_v20 main_v38
  let main_v40 : IVec S2x2048 1 := cmpf .olt main_v36 main_v39
  let main_v41 : IVec S2x2048 1 := andi main_v34 main_v40
  let main_cst_8 : FVec F S_ .f32 := constant S_ .f32 0x3F666666#32
  let main_cst_9 : FVec F S_ .f32 := constant S_ .f32 0x41900000#32
  let main_v42 : FVec F S2x2048 .f32 := fn_where (F := F) main_v41 main_cst_8 main_cst_9
  let main_v43 : FVec F S2x2048 .f32 := id main_v42
  let main_v44 : FVec F S2x2048 .f32 := mulf main_v43 main_v28
  let main_v45 : FVec F S2x2048x1 .f32 := (extractStridedSlice S2x2048x1 ![0, 0, 63] · slices_S2x2048x65_S2x2048x1_0_0_63) main_values
  let main_v46 : FVec F S2x2048 .f32 := shapeCast S2x2048 main_v45 shapeCasts_S2x2048x1_S2x2048
  let main_v47 : FVec F S2x2048x1 .f32 := (extractStridedSlice S2x2048x1 ![0, 0, 64] · slices_S2x2048x65_S2x2048x1_0_0_64) main_values
  let main_v48 : FVec F S2x2048 .f32 := shapeCast S2x2048 main_v47 shapeCasts_S2x2048x1_S2x2048
  let main_v49 : FVec F S2x2048 .f32 := subf main_v46 main_v48
  let main_cst_10 : FVec F S_ .f32 := constant S_ .f32 0x37800000#32
  let main_v50 : FVec F S2x2048 .f32 := broadcastInDim S2x2048 ![] bcast_S_S2x2048 main_cst_10
  let main_v51 : FVec F S2x2048 .f32 := mulf main_v44 main_v50
  let main_v52 : IVec S2x2048 1 := cmpf .ogt main_v49 main_v51
  let main_c : IVec S_ 1 := constantI S_ 1 1#1
  let main_v53 : IVec S4096x8 1 := broadcastInDim S4096x8 ![] bcast_S_S4096x8 main_c
  let main_c_11 : IVec S_ 1 := constantI S_ 1 1#1
  let main_v54 : IVec S4096x1024 1 := broadcastInDim S4096x1024 ![] bcast_S_S4096x1024 main_c_11
  let main_v55 : IVec S4096x1 1 := shapeCast S4096x1 main_v52 shapeCasts_S2x2048_S4096x1
  fn_part3 (F := F) main_v52 main_v53 main_v54 main_v55

def fn_part1 {F : FTy → Type} [FloatOps F] (main_v17 : FVec F S2x2048x4096 .f32) (main_values : FVec F S2x2048x65 .f32) (main_cst_2 : FVec F S_ .f32) : IVec S4096x8 1 × IVec S4096x1024 1 × IVec S4096x4096 1 × IVec S1x1 1 :=
  let main_v18 : FVec F S2x2048 .f32 := (fun x v => Host.reduceAdd x v reducesTo_S2x2048x4096_S2x2048_d2 h_S_) main_v17 main_cst_2
  let main_cst_3 : FVec F S_ .f32 := constant S_ .f32 0x45800000#32
  let main_v19 : FVec F S2x2048 .f32 := broadcastInDim S2x2048 ![] bcast_S_S2x2048 main_cst_3
  let main_v20 : FVec F S2x2048 .f32 := Host.divf main_v18 main_v19
  let main_v21 : FVec F S2x2048x1 .f32 := broadcastInDim S2x2048x1 ![0, 1] bcast_S2x2048_S2x2048x1_0_1 main_v20
  let main_v22 : FVec F S2x2048x4096 .f32 := broadcastInDim S2x2048x4096 ![0, 1, 2] bcast_S2x2048x1_S2x2048x4096_0_1_2 main_v21
  let main_v23 : FVec F S2x2048x4096 .f32 := subf main_v17 main_v22
  let main_v24 : FVec F S2x2048x4096 .f32 := mulf main_v23 main_v23
  let main_cst_4 : FVec F S_ .f32 := constant S_ .f32 0x00000000#32
  let main_v25 : FVec F S2x2048 .f32 := (fun x v => Host.reduceAdd x v reducesTo_S2x2048x4096_S2x2048_d2 h_S_) main_v24 main_cst_4
  let main_cst_5 : FVec F S_ .f32 := constant S_ .f32 0x45800000#32
  let main_v26 : FVec F S2x2048 .f32 := broadcastInDim S2x2048 ![] bcast_S_S2x2048 main_cst_5
  let main_v27 : FVec F S2x2048 .f32 := Host.divf main_v25 main_v26
  let main_v28 : FVec F S2x2048 .f32 := Host.sqrt main_v27
  let main_v29 : FVec F S2x2048x1 .f32 := (extractStridedSlice S2x2048x1 ![0, 0, 63] · slices_S2x2048x65_S2x2048x1_0_0_63) main_values
  let main_v30 : FVec F S2x2048 .f32 := shapeCast S2x2048 main_v29 shapeCasts_S2x2048x1_S2x2048
  let main_cst_6 : FVec F S_ .f32 := constant S_ .f32 0x3FD9999A#32
  let main_v31 : FVec F S2x2048 .f32 := broadcastInDim S2x2048 ![] bcast_S_S2x2048 main_cst_6
  let main_v32 : FVec F S2x2048 .f32 := mulf main_v31 main_v28
  let main_v33 : FVec F S2x2048 .f32 := addf main_v20 main_v32
  let main_v34 : IVec S2x2048 1 := cmpf .oge main_v30 main_v33
  let main_v35 : FVec F S2x2048x1 .f32 := (extractStridedSlice S2x2048x1 ![0, 0, 63] · slices_S2x2048x65_S2x2048x1_0_0_63) main_values
  let main_v36 : FVec F S2x2048 .f32 := shapeCast S2x2048 main_v35 shapeCasts_S2x2048x1_S2x2048
  let main_cst_7 : FVec F S_ .f32 := constant S_ .f32 0x40266666#32
  fn_part2 (F := F) main_values main_v20 main_v28 main_v34 main_v36 main_cst_7

def fn {F : FTy → Type} [FloatOps F] (main_arg0 : FVec F S2x2048x1024 .f32) (main_arg1 : FVec F S1024x8 .f32) (main_arg2 : FVec F S8x1024 .f32) (main_arg3 : FVec F S1024x4096 .f32) (main_arg4 : FVec F S4096 .f32) : IVec S4096x8 1 × IVec S4096x1024 1 × IVec S4096x4096 1 × IVec S1x1 1 :=
  let main_v0 : FVec F S2x2048x8 .f32 := (fun l r => Host.dotGeneral dot_S2x2048x1024_S1024x8_S2x2048x8_2_0_01_1_n_n none l r) main_arg0 main_arg1
  let main_cst : FVec F S_ .f32 := constant S_ .f32 0xFF800000#32
  let main_v1 : FVec F S2x2048 .f32 := (fun x v => Host.reduce FloatOps.maximumf x v reducesTo_S2x2048x8_S2x2048_d2 h_S_) main_v0 main_cst
  let main_cst_0 : FVec F S_ .f32 := constant S_ .f32 0xFF800000#32
  let main_v2 : FVec F S2x2048 .f32 := broadcastInDim S2x2048 ![] bcast_S_S2x2048 main_cst_0
  let main_v3 : FVec F S2x2048 .f32 := maximumf main_v2 main_v1
  let main_v4 : FVec F S2x2048x1 .f32 := broadcastInDim S2x2048x1 ![0, 1] bcast_S2x2048_S2x2048x1_0_1 main_v3
  let main_v5 : FVec F S2x2048x8 .f32 := broadcastInDim S2x2048x8 ![0, 1, 2] bcast_S2x2048x1_S2x2048x8_0_1_2 main_v4
  let main_v6 : FVec F S2x2048x8 .f32 := subf main_v0 main_v5
  let main_v7 : FVec F S2x2048x8 .f32 := Host.exp main_v6
  let main_cst_1 : FVec F S_ .f32 := constant S_ .f32 0x00000000#32
  let main_v8 : FVec F S2x2048 .f32 := (fun x v => Host.reduceAdd x v reducesTo_S2x2048x8_S2x2048_d2 h_S_) main_v7 main_cst_1
  let main_v9 : FVec F S2x2048x1 .f32 := broadcastInDim S2x2048x1 ![0, 1] bcast_S2x2048_S2x2048x1_0_1 main_v8
  let main_v10 : FVec F S2x2048x8 .f32 := broadcastInDim S2x2048x8 ![0, 1, 2] bcast_S2x2048x1_S2x2048x8_0_1_2 main_v9
  let main_v11 : FVec F S2x2048x8 .f32 := Host.divf main_v7 main_v10
  let main_v12 : FVec F S2x2048x1024 .f32 := (fun l r => Host.dotGeneral dot_S2x2048x8_S8x1024_S2x2048x1024_2_0_01_1_n_n none l r) main_v11 main_arg2
  let main_v13 : FVec F S2x2048x1024 .f32 := subf main_arg0 main_v12
  let main_v14 : FVec F S2x2048x4096 .f32 := (fun l r => Host.dotGeneral dot_S2x2048x1024_S1024x4096_S2x2048x4096_2_0_01_1_n_n none l r) main_v13 main_arg3
  let main_v15 : FVec F S1x1x4096 .f32 := broadcastInDim S1x1x4096 ![2] bcast_S4096_S1x1x4096_2 main_arg4
  let main_v16 : FVec F S2x2048x4096 .f32 := broadcastInDim S2x2048x4096 ![0, 1, 2] bcast_S1x1x4096_S2x2048x4096_0_1_2 main_v15
  let main_v17 : FVec F S2x2048x4096 .f32 := addf main_v14 main_v16
  let main_values : FVec F S2x2048x65 .f32 := (fun x => (Host.topK S2x2048x65 2 (FloatOps.cmpfTotal .gt) x sliceFits_S2x2048x4096_S2x2048x65).1) main_v17
  let main_indices : IVec S2x2048x65 32 := (fun x => (Host.topK S2x2048x65 2 (FloatOps.cmpfTotal .gt) x sliceFits_S2x2048x4096_S2x2048x65).2) main_v17
  let main_cst_2 : FVec F S_ .f32 := constant S_ .f32 0x00000000#32
  fn_part1 (F := F) main_v17 main_values main_cst_2
-- ==== On_settled.lean ====
abbrev S2x2048x1024 : Shape := ⟨3, ![2, 2048, 1024]⟩
abbrev S1024x8 : Shape := ⟨2, ![1024, 8]⟩
abbrev S8x1024 : Shape := ⟨2, ![8, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1024x1024 : Shape := ⟨2, ![1024, 1024]⟩
abbrev S2x2048x8 : Shape := ⟨3, ![2, 2048, 8]⟩
abbrev S_ : Shape := ⟨0, ![]⟩
abbrev S2x2048 : Shape := ⟨2, ![2, 2048]⟩
abbrev S2x2048x1 : Shape := ⟨3, ![2, 2048, 1]⟩
abbrev S2x2048x4096 : Shape := ⟨3, ![2, 2048, 4096]⟩
abbrev S1x1x4096 : Shape := ⟨3, ![1, 1, 4096]⟩
abbrev S2x2048x65 : Shape := ⟨3, ![2, 2048, 65]⟩
abbrev S2 : Shape := ⟨1, ![2]⟩
abbrev S2x1x1 : Shape := ⟨3, ![2, 1, 1]⟩
abbrev S2x1x1x1 : Shape := ⟨4, ![2, 1, 1, 1]⟩
abbrev S2x16x2048x2048 : Shape := ⟨4, ![2, 16, 2048, 2048]⟩

class Facts : Prop where
  reducesTo_S2x2048x8_S2x2048_d2 : S2x2048x8.ReducesTo [2] S2x2048
  h_S_ : 0 < S_.numel
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2x2048x1_S2x2048x8_0_1_2 : S2x2048x1.BroadcastsInDim S2x2048x8 (![0, 1, 2] : Fin 3 → Fin S2x2048x8.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  sliceFits_S2x2048x4096_S2x2048x65 : S2x2048x4096.Slices (fun _ => 0) S2x2048x65
  reducesTo_S2x2048x4096_S2x2048_d2 : S2x2048x4096.ReducesTo [2] S2x2048
  bcast_S2x2048x1_S2x2048x4096_0_1_2 : S2x2048x1.BroadcastsInDim S2x2048x4096 (![0, 1, 2] : Fin 3 → Fin S2x2048x4096.rank)
  slices_S2x2048x65_S2x2048x1_0_0_63 : S2x2048x65.Slices ![0, 0, 63] S2x2048x1
  shapeCasts_S2x2048x1_S2x2048 : S2x2048x1.ShapeCasts S2x2048
  slices_S2x2048x65_S2x2048x1_0_0_64 : S2x2048x65.Slices ![0, 0, 64] S2x2048x1
  reducesTo_S2x2048_S2_d1 : S2x2048.ReducesTo [1] S2
  reducesTo_S2x2048_S_d0_1 : S2x2048.ReducesTo [0, 1] S_
  shapeCasts_S2_S2x1x1 : S2.ShapeCasts S2x1x1
  bcast_S2x1x1_S2x2048x1024_0_1_2 : S2x1x1.BroadcastsInDim S2x2048x1024 (![0, 1, 2] : Fin 3 → Fin S2x2048x1024.rank)
  shapeCasts_S2_S2x1x1x1 : S2.ShapeCasts S2x1x1x1
  bcast_S2x1x1x1_S2x16x2048x2048_0_1_2_3 : S2x1x1x1.BroadcastsInDim S2x16x2048x2048 (![0, 1, 2, 3] : Fin 4 → Fin S2x16x2048x2048.rank)
  bcast_S_S2x2048x8 : S_.BroadcastsInDim S2x2048x8 (![] : Fin 0 → Fin S2x2048x8.rank)
  dot_S2x2048x1024_S1024x8_S2x2048x8_2_0_01_1_n_n_wf : DotDims.WF S2x2048x1024 S1024x8 S2x2048x8 [2] [0] [0, 1] [1] [] []
  dot_S2x2048x8_S8x1024_S2x2048x1024_2_0_01_1_n_n_wf : DotDims.WF S2x2048x8 S8x1024 S2x2048x1024 [2] [0] [0, 1] [1] [] []
  dot_S2x2048x1024_S1024x4096_S2x2048x4096_2_0_01_1_n_n_wf : DotDims.WF S2x2048x1024 S1024x4096 S2x2048x4096 [2] [0] [0, 1] [1] [] []

variable [Facts]

def dot_S2x2048x1024_S1024x8_S2x2048x8_2_0_01_1_n_n : DotDims S2x2048x1024 S1024x8 S2x2048x8 where
  lhsContracting := [2]
  rhsContracting := [0]
  lhsNonContracting := [0, 1]
  rhsNonContracting := [1]
  lhsBatch := []
  rhsBatch := []
  wf := dot_S2x2048x1024_S1024x8_S2x2048x8_2_0_01_1_n_n_wf
def dot_S2x2048x8_S8x1024_S2x2048x1024_2_0_01_1_n_n : DotDims S2x2048x8 S8x1024 S2x2048x1024 where
  lhsContracting := [2]
  rhsContracting := [0]
  lhsNonContracting := [0, 1]
  rhsNonContracting := [1]
  lhsBatch := []
  rhsBatch := []
  wf := dot_S2x2048x8_S8x1024_S2x2048x1024_2_0_01_1_n_n_wf
def dot_S2x2048x1024_S1024x4096_S2x2048x4096_2_0_01_1_n_n : DotDims S2x2048x1024 S1024x4096 S2x2048x4096 where
  lhsContracting := [2]
  rhsContracting := [0]
  lhsNonContracting := [0, 1]
  rhsNonContracting := [1]
  lhsBatch := []
  rhsBatch := []
  wf := dot_S2x2048x1024_S1024x4096_S2x2048x4096_2_0_01_1_n_n_wf
def fn_where {F : FTy → Type} [FloatOps F] (arg0 : IVec S2x2048 1) (arg1 : FVec F S_ .f32) (arg2 : FVec F S_ .f32) : FVec F S2x2048 .f32 :=
  let v0 : FVec F S2x2048 .f32 := broadcastInDim S2x2048 ![] bcast_S_S2x2048 arg1
  let v1 : FVec F S2x2048 .f32 := broadcastInDim S2x2048 ![] bcast_S_S2x2048 arg2
  let v2 : FVec F S2x2048 .f32 := select arg0 v0 v1
  v2

def fn_part3 {F : FTy → Type} [FloatOps F] (main_v53 : IVec S2 1) (main_v54 : IVec S_ 1) (main_v55 : IVec S2x1x1 1) : IVec S2x2048x1024 1 × IVec S2x16x2048x2048 1 × IVec S2x2048x8 1 × IVec S_ 1 × IVec S_ 1 × IVec S_ 1 :=
  let main_v56 : IVec S2x2048x1024 1 := broadcastInDim S2x2048x1024 ![0, 1, 2] bcast_S2x1x1_S2x2048x1024_0_1_2 main_v55
  let main_v57 : IVec S2x1x1x1 1 := shapeCast S2x1x1x1 main_v53 shapeCasts_S2_S2x1x1x1
  let main_v58 : IVec S2x16x2048x2048 1 := broadcastInDim S2x16x2048x2048 ![0, 1, 2, 3] bcast_S2x1x1x1_S2x16x2048x2048_0_1_2_3 main_v57
  let main_c_12 : IVec S_ 1 := constantI S_ 1 1#1
  let main_v59 : IVec S2x2048x8 1 := broadcastInDim S2x2048x8 ![] bcast_S_S2x2048x8 main_c_12
  (main_v56, main_v58, main_v59, main_v54, main_v54, main_v54)

def fn_part2 {F : FTy → Type} [FloatOps F] (main_values : FVec F S2x2048x65 .f32) (main_v20 : FVec F S2x2048 .f32) (main_v28 : FVec F S2x2048 .f32) (main_v34 : IVec S2x2048 1) (main_v36 : FVec F S2x2048 .f32) (main_cst_7 : FVec F S_ .f32) : IVec S2x2048x1024 1 × IVec S2x16x2048x2048 1 × IVec S2x2048x8 1 × IVec S_ 1 × IVec S_ 1 × IVec S_ 1 :=
  let main_v37 : FVec F S2x2048 .f32 := broadcastInDim S2x2048 ![] bcast_S_S2x2048 main_cst_7
  let main_v38 : FVec F S2x2048 .f32 := mulf main_v37 main_v28
  let main_v39 : FVec F S2x2048 .f32 := addf main_v20 main_v38
  let main_v40 : IVec S2x2048 1 := cmpf .olt main_v36 main_v39
  let main_v41 : IVec S2x2048 1 := andi main_v34 main_v40
  let main_cst_8 : FVec F S_ .f32 := constant S_ .f32 0x3F666666#32
  let main_cst_9 : FVec F S_ .f32 := constant S_ .f32 0x41900000#32
  let main_v42 : FVec F S2x2048 .f32 := fn_where (F := F) main_v41 main_cst_8 main_cst_9
  let main_v43 : FVec F S2x2048 .f32 := id main_v42
  let main_v44 : FVec F S2x2048 .f32 := mulf main_v43 main_v28
  let main_v45 : FVec F S2x2048x1 .f32 := (extractStridedSlice S2x2048x1 ![0, 0, 63] · slices_S2x2048x65_S2x2048x1_0_0_63) main_values
  let main_v46 : FVec F S2x2048 .f32 := shapeCast S2x2048 main_v45 shapeCasts_S2x2048x1_S2x2048
  let main_v47 : FVec F S2x2048x1 .f32 := (extractStridedSlice S2x2048x1 ![0, 0, 64] · slices_S2x2048x65_S2x2048x1_0_0_64) main_values
  let main_v48 : FVec F S2x2048 .f32 := shapeCast S2x2048 main_v47 shapeCasts_S2x2048x1_S2x2048
  let main_v49 : FVec F S2x2048 .f32 := subf main_v46 main_v48
  let main_cst_10 : FVec F S_ .f32 := constant S_ .f32 0x37800000#32
  let main_v50 : FVec F S2x2048 .f32 := broadcastInDim S2x2048 ![] bcast_S_S2x2048 main_cst_10
  let main_v51 : FVec F S2x2048 .f32 := mulf main_v44 main_v50
  let main_v52 : IVec S2x2048 1 := cmpf .ogt main_v49 main_v51
  let main_c : IVec S_ 1 := constantI S_ 1 1#1
  let main_v53 : IVec S2 1 := (fun x v => Host.reduce IntOp.andi x v reducesTo_S2x2048_S2_d1 h_S_) main_v52 main_c
  let main_c_11 : IVec S_ 1 := constantI S_ 1 1#1
  let main_v54 : IVec S_ 1 := (fun x v => Host.reduce IntOp.andi x v reducesTo_S2x2048_S_d0_1 h_S_) main_v52 main_c_11
  let main_v55 : IVec S2x1x1 1 := shapeCast S2x1x1 main_v53 shapeCasts_S2_S2x1x1
  fn_part3 (F := F) main_v53 main_v54 main_v55

def fn_part1 {F : FTy → Type} [FloatOps F] (main_v17 : FVec F S2x2048x4096 .f32) (main_values : FVec F S2x2048x65 .f32) (main_cst_2 : FVec F S_ .f32) : IVec S2x2048x1024 1 × IVec S2x16x2048x2048 1 × IVec S2x2048x8 1 × IVec S_ 1 × IVec S_ 1 × IVec S_ 1 :=
  let main_v18 : FVec F S2x2048 .f32 := (fun x v => Host.reduceAdd x v reducesTo_S2x2048x4096_S2x2048_d2 h_S_) main_v17 main_cst_2
  let main_cst_3 : FVec F S_ .f32 := constant S_ .f32 0x45800000#32
  let main_v19 : FVec F S2x2048 .f32 := broadcastInDim S2x2048 ![] bcast_S_S2x2048 main_cst_3
  let main_v20 : FVec F S2x2048 .f32 := Host.divf main_v18 main_v19
  let main_v21 : FVec F S2x2048x1 .f32 := broadcastInDim S2x2048x1 ![0, 1] bcast_S2x2048_S2x2048x1_0_1 main_v20
  let main_v22 : FVec F S2x2048x4096 .f32 := broadcastInDim S2x2048x4096 ![0, 1, 2] bcast_S2x2048x1_S2x2048x4096_0_1_2 main_v21
  let main_v23 : FVec F S2x2048x4096 .f32 := subf main_v17 main_v22
  let main_v24 : FVec F S2x2048x4096 .f32 := mulf main_v23 main_v23
  let main_cst_4 : FVec F S_ .f32 := constant S_ .f32 0x00000000#32
  let main_v25 : FVec F S2x2048 .f32 := (fun x v => Host.reduceAdd x v reducesTo_S2x2048x4096_S2x2048_d2 h_S_) main_v24 main_cst_4
  let main_cst_5 : FVec F S_ .f32 := constant S_ .f32 0x45800000#32
  let main_v26 : FVec F S2x2048 .f32 := broadcastInDim S2x2048 ![] bcast_S_S2x2048 main_cst_5
  let main_v27 : FVec F S2x2048 .f32 := Host.divf main_v25 main_v26
  let main_v28 : FVec F S2x2048 .f32 := Host.sqrt main_v27
  let main_v29 : FVec F S2x2048x1 .f32 := (extractStridedSlice S2x2048x1 ![0, 0, 63] · slices_S2x2048x65_S2x2048x1_0_0_63) main_values
  let main_v30 : FVec F S2x2048 .f32 := shapeCast S2x2048 main_v29 shapeCasts_S2x2048x1_S2x2048
  let main_cst_6 : FVec F S_ .f32 := constant S_ .f32 0x3FD9999A#32
  let main_v31 : FVec F S2x2048 .f32 := broadcastInDim S2x2048 ![] bcast_S_S2x2048 main_cst_6
  let main_v32 : FVec F S2x2048 .f32 := mulf main_v31 main_v28
  let main_v33 : FVec F S2x2048 .f32 := addf main_v20 main_v32
  let main_v34 : IVec S2x2048 1 := cmpf .oge main_v30 main_v33
  let main_v35 : FVec F S2x2048x1 .f32 := (extractStridedSlice S2x2048x1 ![0, 0, 63] · slices_S2x2048x65_S2x2048x1_0_0_63) main_values
  let main_v36 : FVec F S2x2048 .f32 := shapeCast S2x2048 main_v35 shapeCasts_S2x2048x1_S2x2048
  let main_cst_7 : FVec F S_ .f32 := constant S_ .f32 0x40266666#32
  fn_part2 (F := F) main_values main_v20 main_v28 main_v34 main_v36 main_cst_7

def fn {F : FTy → Type} [FloatOps F] (main_arg0 : FVec F S2x2048x1024 .f32) (main_arg1 : FVec F S1024x8 .f32) (main_arg2 : FVec F S8x1024 .f32) (main_arg3 : FVec F S1024x4096 .f32) (main_arg4 : FVec F S4096 .f32) (main_arg5 : FVec F S4096x1024 .f32) (main_arg6 : FVec F S1024 .f32) (main_arg7 : FVec F S1024 .f32) (main_arg8 : FVec F S1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024x4096 .f32) (main_arg16 : FVec F S1024x4096 .f32) (main_arg17 : FVec F S4096x1024 .f32) : IVec S2x2048x1024 1 × IVec S2x16x2048x2048 1 × IVec S2x2048x8 1 × IVec S_ 1 × IVec S_ 1 × IVec S_ 1 :=
  let main_v0 : FVec F S2x2048x8 .f32 := (fun l r => Host.dotGeneral dot_S2x2048x1024_S1024x8_S2x2048x8_2_0_01_1_n_n none l r) main_arg0 main_arg1
  let main_cst : FVec F S_ .f32 := constant S_ .f32 0xFF800000#32
  let main_v1 : FVec F S2x2048 .f32 := (fun x v => Host.reduce FloatOps.maximumf x v reducesTo_S2x2048x8_S2x2048_d2 h_S_) main_v0 main_cst
  let main_cst_0 : FVec F S_ .f32 := constant S_ .f32 0xFF800000#32
  let main_v2 : FVec F S2x2048 .f32 := broadcastInDim S2x2048 ![] bcast_S_S2x2048 main_cst_0
  let main_v3 : FVec F S2x2048 .f32 := maximumf main_v2 main_v1
  let main_v4 : FVec F S2x2048x1 .f32 := broadcastInDim S2x2048x1 ![0, 1] bcast_S2x2048_S2x2048x1_0_1 main_v3
  let main_v5 : FVec F S2x2048x8 .f32 := broadcastInDim S2x2048x8 ![0, 1, 2] bcast_S2x2048x1_S2x2048x8_0_1_2 main_v4
  let main_v6 : FVec F S2x2048x8 .f32 := subf main_v0 main_v5
  let main_v7 : FVec F S2x2048x8 .f32 := Host.exp main_v6
  let main_cst_1 : FVec F S_ .f32 := constant S_ .f32 0x00000000#32
  let main_v8 : FVec F S2x2048 .f32 := (fun x v => Host.reduceAdd x v reducesTo_S2x2048x8_S2x2048_d2 h_S_) main_v7 main_cst_1
  let main_v9 : FVec F S2x2048x1 .f32 := broadcastInDim S2x2048x1 ![0, 1] bcast_S2x2048_S2x2048x1_0_1 main_v8
  let main_v10 : FVec F S2x2048x8 .f32 := broadcastInDim S2x2048x8 ![0, 1, 2] bcast_S2x2048x1_S2x2048x8_0_1_2 main_v9
  let main_v11 : FVec F S2x2048x8 .f32 := Host.divf main_v7 main_v10
  let main_v12 : FVec F S2x2048x1024 .f32 := (fun l r => Host.dotGeneral dot_S2x2048x8_S8x1024_S2x2048x1024_2_0_01_1_n_n none l r) main_v11 main_arg2
  let main_v13 : FVec F S2x2048x1024 .f32 := subf main_arg0 main_v12
  let main_v14 : FVec F S2x2048x4096 .f32 := (fun l r => Host.dotGeneral dot_S2x2048x1024_S1024x4096_S2x2048x4096_2_0_01_1_n_n none l r) main_v13 main_arg3
  let main_v15 : FVec F S1x1x4096 .f32 := broadcastInDim S1x1x4096 ![2] bcast_S4096_S1x1x4096_2 main_arg4
  let main_v16 : FVec F S2x2048x4096 .f32 := broadcastInDim S2x2048x4096 ![0, 1, 2] bcast_S1x1x4096_S2x2048x4096_0_1_2 main_v15
  let main_v17 : FVec F S2x2048x4096 .f32 := addf main_v14 main_v16
  let main_values : FVec F S2x2048x65 .f32 := (fun x => (Host.topK S2x2048x65 2 (FloatOps.cmpfTotal .gt) x sliceFits_S2x2048x4096_S2x2048x65).1) main_v17
  let main_indices : IVec S2x2048x65 32 := (fun x => (Host.topK S2x2048x65 2 (FloatOps.cmpfTotal .gt) x sliceFits_S2x2048x4096_S2x2048x65).2) main_v17
  let main_cst_2 : FVec F S_ .f32 := constant S_ .f32 0x00000000#32
  fn_part1 (F := F) main_v17 main_values main_cst_2
-- ==== Ffn.lean ====
abbrev S2x2048x1024 : Shape := ⟨3, ![2, 2048, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S512 : Shape := ⟨1, ![512]⟩
abbrev S512x1 : Shape := ⟨2, ![512, 1]⟩
abbrev S512x4096 : Shape := ⟨2, ![512, 4096]⟩

abbrev nBuf : Space → Nat
  | .hbm => 18
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1024x4096, .bf16⟩
  | .hbm, ⟨14, _⟩ => ⟨S1024x4096, .bf16⟩
  | .hbm, ⟨15, _⟩ => ⟨S4096x1024, .bf16⟩
  | .hbm, ⟨16, _⟩ => ⟨S4096x1024, .f32⟩
  | .hbm, ⟨17, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S1024x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | .local _ .vmem, ⟨12, _⟩ => ⟨S1x1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnRefIdeal.lean ====
abbrev S2x2048x1024 : Shape := ⟨3, ![2, 2048, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4096 : Shape := ⟨3, ![2, 2048, 4096]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S1024x4096, .f32⟩
  | .hbm, ⟨7, _⟩ => ⟨S4096x1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .i32⟩
  | .hbm, ⟨17, _⟩ => ⟨S_, .f32⟩
  | .hbm, ⟨18, _⟩ => ⟨S2x2048, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2x2048, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S2x2048x1, .f32⟩
  | .hbm, ⟨39, _⟩ => ⟨S2x2048x1, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S2x2048x1, .f32⟩
  | .hbm, ⟨46, _⟩ => ⟨S2x2048x1024, .f32⟩
  | .hbm, ⟨47, _⟩ => ⟨S2x2048x1024, .f32⟩
  | .hbm, ⟨48, _⟩ => ⟨S1x1x1024, .f32⟩
  | .hbm, ⟨49, _⟩ => ⟨S2x2048x1024, .f32⟩
  | .hbm, ⟨50, _⟩ => ⟨S2x2048x1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2x2048x4096, .f32⟩
  | .hbm, ⟨60, _⟩ => ⟨S2x2048x4096, .f32⟩
  | .hbm, ⟨61, _⟩ => ⟨S2x2048x4096, .f32⟩
  | .hbm, ⟨62, _⟩ => ⟨S_, .f32⟩
  | .hbm, ⟨63, _⟩ => ⟨S2x2048x4096, .f32⟩
  | .hbm, ⟨64, _⟩ => ⟨S2x2048x4096, .f32⟩
  | .hbm, ⟨65, _⟩ => ⟨S_, .f32⟩
  | .hbm, ⟨66, _⟩ => ⟨S2x2048x4096, .f32⟩
  | .hbm, ⟨67, _⟩ => ⟨S2x2048x4096, .f32⟩
  | .hbm, ⟨68, _⟩ => ⟨S2x2048x4096, .f32⟩
  | .hbm, ⟨69, _⟩ => ⟨S2x2048x4096, .f32⟩
  | .hbm, ⟨70, _⟩ => ⟨S2x2048x4096, .f32⟩
  | .hbm, ⟨71, _⟩ => ⟨S_, .f32⟩
  | .hbm, ⟨72, _⟩ => ⟨S2x2048x4096, .f32⟩
  | .hbm, ⟨73, _⟩ => ⟨S2x2048x4096, .f32⟩
  | .hbm, ⟨74, _⟩ => ⟨S2x2048x4096, .f32⟩
  | .hbm, ⟨75, _⟩ => ⟨S_, .f32⟩
  | .hbm, ⟨76, _⟩ => ⟨S2x2048x4096, .f32⟩
  | .hbm, ⟨77, _⟩ => ⟨S2x2048x4096, .f32⟩
  | .hbm, ⟨78, _⟩ => ⟨S2x2048x4096, .f32⟩
  | .hbm, ⟨79, _⟩ => ⟨S_, .f32⟩
  | .hbm, ⟨80, _⟩ => ⟨S2x2048x4096, .f32⟩
  | .hbm, ⟨81, _⟩ => ⟨S2x2048x4096, .f32⟩
  | .hbm, ⟨82, _⟩ => ⟨S_, .f32⟩
  | .hbm, ⟨83, _⟩ => ⟨S2x2048x4096, .f32⟩
  | .hbm, ⟨84, _⟩ => ⟨S2x2048x4096, .f32⟩
  | .hbm, ⟨85, _⟩ => ⟨S2x2048x4096, .f32⟩
  | .hbm, ⟨86, _⟩ => ⟨S2x2048x4096, .f32⟩
  | .hbm, ⟨87, _⟩ => ⟨S2x2048x1024, .f32⟩
  | .hbm, ⟨88, _⟩ => ⟨S2x2048x1024, .f32⟩
  | .hbm, ⟨89, _⟩ => ⟨S4096x1024, .f32⟩
  | .hbm, ⟨90, _⟩ => ⟨S1x1, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst_1 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_2 : Ref sig .tc := ⟨.hbm, 55, rfl⟩
abbrev main_v21 : Ref sig .tc := ⟨.hbm, 56, rfl⟩
abbrev main_cst_3 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_4 : Ref sig .tc := ⟨.hbm, 62, rfl⟩
abbrev main_v26 : Ref sig .tc := ⟨.hbm, 63, rfl⟩
abbrev main_v27 : Ref sig .tc := ⟨.hbm, 64, rfl⟩
abbrev main_cst_5 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_6 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_7 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_8 : Ref sig .tc := ⟨.hbm, 79, rfl⟩
abbrev main_v39 : Ref sig .tc := ⟨.hbm, 80, rfl⟩
abbrev main_v40 : Ref sig .tc := ⟨.hbm, 81, rfl⟩
abbrev main_cst_9 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩

abbrev nD : Nat := 1
abbrev τ : Topo := Topo.v7x

variable {F : FTy → Type} [FloatOps F]
-- ==== Qkv.lean ====
abbrev S4096x4096 : Shape := ⟨2, ![4096, 4096]⟩
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S1x1 : Shape := ⟨2, ![1, 1]⟩
abbrev S256x4096 : Shape := ⟨2, ![256, 4096]⟩
abbrev S256x1024 : Shape := ⟨2, ![256, 1024]⟩
abbrev S1x256x1024 : Shape := ⟨3, ![1, 256, 1024]⟩
abbrev S1 : Shape := ⟨1, ![1]⟩
abbrev S1x1x1 : Shape := ⟨3, ![1, 1, 1]⟩
abbrev S256 : Shape := ⟨1, ![256]⟩
abbrev S256x1 : Shape := ⟨2, ![256, 1]⟩

abbrev nBuf : Space → Nat
  | .hbm => 16
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1x1, .f32⟩
  | .local _ .vmem, ⟨0, _⟩ => ⟨S256x4096, .f32⟩
  | .local _ .vmem, ⟨1, _⟩ => ⟨S256x4096, .f32⟩
  | .local _ .vmem, ⟨2, _⟩ => ⟨S4096x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== QkvRefIdeal.lean ====
abbrev S4096x4096 : Shape := ⟨2, ![4096, 4096]⟩
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .i32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S1x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_cst_3 : Ref sig .tc := ⟨.hbm, 38, rfl⟩
abbrev main_call0_v13 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_2 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩

abbrev nD : Nat := 1
abbrev τ : Topo := Topo.v7x

variable {F : FTy → Type} [FloatOps F]
-- ==== Attn.lean ====
abbrev S2x2048x1024 : Shape := ⟨3, ![2, 2048, 1024]⟩
abbrev S2x16x2048x2048 : Shape := ⟨4, ![2, 16, 2048, 2048]⟩
abbrev S1x1024x128 : Shape := ⟨3, ![1, 1024, 128]⟩
abbrev S1x2048x128 : Shape := ⟨3, ![1, 2048, 128]⟩
abbrev S1x2x1024x2048 : Shape := ⟨4, ![1, 2, 1024, 2048]⟩
abbrev S4096x128 : Shape := ⟨2, ![4096, 128]⟩
abbrev S2048x128 : Shape := ⟨2, ![2048, 128]⟩
abbrev S2048x64 : Shape := ⟨2, ![2048, 64]⟩
abbrev S1024x128 : Shape := ⟨2, ![1024, 128]⟩
abbrev S1024x4096 : Shape := ⟨2, ![1024, 4096]⟩
abbrev S1024x2048 : Shape := ⟨2, ![1024, 2048]⟩
abbrev S1024 : Shape := ⟨1, ![1024]⟩
abbrev S1024x1 : Shape := ⟨2, ![1024, 1]⟩
abbrev S1x1x1024x2048 : Shape := ⟨4, ![1, 1, 1024, 2048]⟩

abbrev nBuf : Space → Nat
  | .hbm => 5
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x16x2048x2048, .f32⟩
  | .hbm, ⟨4, _⟩ => ⟨S2x2048x1024, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2x1024x2048, .f32⟩
  | .local _ .vmem, ⟨7, _⟩ => ⟨S1x2x1024x2048, .f32⟩
  | .local _ .vmem, ⟨8, _⟩ => ⟨S1x1024x128, .f32⟩
  | .local _ .vmem, ⟨9, _⟩ => ⟨S1x1024x128, .f32⟩
  | .local _ .vmem, ⟨10, _⟩ => ⟨S4096x128, .f32⟩
  | .local _ .vmem, ⟨11, _⟩ => ⟨S4096x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnRefIdeal.lean ====
abbrev S2x2048x1024 : Shape := ⟨3, ![2, 2048, 1024]⟩
abbrev S2x2048x16x64 : Shape := ⟨4, ![2, 2048, 16, 64]⟩
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x16x64, .f32⟩
  | .hbm, ⟨4, _⟩ => ⟨S2x16x2048x64, .f32⟩
  | .hbm, ⟨5, _⟩ => ⟨S2x2048x16x64, .f32⟩
  | .hbm, ⟨6, _⟩ => ⟨S2x16x2048x64, .f32⟩
  | .hbm, ⟨7, _⟩ => ⟨S2x2048x16x64, .f32⟩
  | .hbm, ⟨8, _⟩ => ⟨S2x16x2048x64, .f32⟩
  | .hbm, ⟨9, _⟩ => ⟨S2x16x64x2048, .f32⟩
  | .hbm, ⟨10, _⟩ => ⟨S2x16x2048x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S_, .f32⟩
  | .hbm, ⟨19, _⟩ => ⟨S2x16x2048, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x64, .f32⟩
  | .hbm, ⟨31, _⟩ => ⟨S2x2048x16x64, .f32⟩
  | .hbm, ⟨32, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Enc.lean ====
abbrev S2x2048x1024 : Shape := ⟨3, ![2, 2048, 1024]⟩
abbrev S1024x8 : Shape := ⟨2, ![1024, 8]⟩
abbrev S8x1024 : Shape := ⟨2, ![8, 1024]⟩
abbrev S1024x4096 : Shape := ⟨2, ![1024, 4096]⟩
abbrev S4096 : Shape := ⟨1, ![4096]⟩
abbrev S4096x1024 : Shape := ⟨2, ![4096, 1024]⟩
abbrev S1x4096 : Shape := ⟨2, ![1, 4096]⟩
abbrev S4096x8 : Shape := ⟨2, ![4096, 8]⟩
abbrev S4096x4096 : Shape := ⟨2, ![4096, 4096]⟩
abbrev S1x1 : Shape := ⟨2, ![1, 1]⟩
abbrev S512x1024 : Shape := ⟨2, ![512, 1024]⟩
abbrev S512x8 : Shape := ⟨2, ![512, 8]⟩
abbrev S512x4096 : Shape := ⟨2, ![512, 4096]⟩
abbrev S512 : Shape := ⟨1, ![512]⟩
abbrev S512x1 : Shape := ⟨2, ![512, 1]⟩
abbrev S1x512x4096 : Shape := ⟨3, ![1, 512, 4096]⟩
abbrev S1 : Shape := ⟨1, ![1]⟩
abbrev S1x1x1 : Shape := ⟨3, ![1, 1, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8x1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1x4096, .f32⟩
  | .hbm, ⟨7, _⟩ => ⟨S4096x8, .f32⟩
  | .hbm, ⟨8, _⟩ => ⟨S4096x1024, .f32⟩
  | .hbm, ⟨9, _⟩ => ⟨S4096x4096, .f32⟩
  | .hbm, ⟨10, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S1024x8, .f32⟩
  | .local _ .vmem, ⟨3, _⟩ => ⟨S8x1024, .f32⟩
  | .local _ .vmem, ⟨4, _⟩ => ⟨S1024x4096, .f32⟩
  | .local _ .vmem, ⟨5, _⟩ => ⟨S1x4096, .f32⟩
  | .local _ .vmem, ⟨6, _⟩ => ⟨S512x8, .f32⟩
  | .local _ .vmem, ⟨7, _⟩ => ⟨S512x8, .f32⟩
  | .local _ .vmem, ⟨8, _⟩ => ⟨S512x1024, .f32⟩
  | .local _ .vmem, ⟨9, _⟩ => ⟨S512x1024, .f32⟩
  | .local _ .vmem, ⟨10, _⟩ => ⟨S512x4096, .f32⟩
  | .local _ .vmem, ⟨11, _⟩ => ⟨S512x4096, .f32⟩
  | .local _ .vmem, ⟨12, _⟩ => ⟨S1x1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v68 : BitVec 32 := Scalar.addi c0_i32 c16_i32
  let c1_i32 : BitVec 32 := 1#32
  ⟨c0_i32, v68, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== EncRefIdeal.lean ====
abbrev S2x2048x1024 : Shape := ⟨3, ![2, 2048, 1024]⟩
abbrev S1024x8 : Shape := ⟨2, ![1024, 8]⟩
abbrev S8x1024 : Shape := ⟨2, ![8, 1024]⟩
abbrev S1024x4096 : Shape := ⟨2, ![1024, 4096]⟩
abbrev S4096 : Shape := ⟨1, ![4096]⟩
abbrev S2x2048x8 : Shape := ⟨3, ![2, 2048, 8]⟩
abbrev S_ : Shape := ⟨0, ![]⟩
abbrev S2x2048 : Shape := ⟨2, ![2, 2048]⟩
abbrev S2x2048x1 : Shape := ⟨3, ![2, 2048, 1]⟩
abbrev S2x2048x4096 : Shape := ⟨3, ![2, 2048, 4096]⟩
abbrev S1x1x4096 : Shape := ⟨3, ![1, 1, 4096]⟩
abbrev S2x2048x64 : Shape := ⟨3, ![2, 2048, 64]⟩
abbrev S2 : Shape := ⟨1, ![2]⟩
abbrev S2x1x1 : Shape := ⟨3, ![2, 1, 1]⟩
abbrev S2048 : Shape := ⟨1, ![2048]⟩
abbrev S1x2048x1 : Shape := ⟨3, ![1, 2048, 1]⟩
abbrev S2x2048x64x1 : Shape := ⟨4, ![2, 2048, 64, 1]⟩
abbrev S2x2048x64x3 : Shape := ⟨4, ![2, 2048, 64, 3]⟩
abbrev S4096x8 : Shape := ⟨2, ![4096, 8]⟩
abbrev S4096x1024 : Shape := ⟨2, ![4096, 1024]⟩
abbrev S4096x4096 : Shape := ⟨2, ![4096, 4096]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8x1024, .f32⟩
  | .hbm, ⟨3, _⟩ => ⟨S1024x4096, .f32⟩
  | .hbm, ⟨4, _⟩ => ⟨S4096, .f32⟩
  | .hbm, ⟨5, _⟩ => ⟨S2x2048x8, .f32⟩
  | .hbm, ⟨6, _⟩ => ⟨S_, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048x1, .f32⟩
  | .hbm, ⟨12, _⟩ => ⟨S2x2048x8, .f32⟩
  | .hbm, ⟨13, _⟩ => ⟨S2x2048x8, .f32⟩
  | .hbm, ⟨14, _⟩ => ⟨S2x2048x8, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S2x2048x8, .f32⟩
  | .hbm, ⟨19, _⟩ => ⟨S2x2048x8, .f32⟩
  | .hbm, ⟨20, _⟩ => ⟨S2x2048x1024, .f32⟩
  | .hbm, ⟨21, _⟩ => ⟨S2x2048x1024, .f32⟩
  | .hbm, ⟨22, _⟩ => ⟨S2x2048x4096, .f32⟩
  | .hbm, ⟨23, _⟩ => ⟨S1x1x4096, .f32⟩
  | .hbm, ⟨24, _⟩ => ⟨S2x2048x4096, .f32⟩
  | .hbm, ⟨25, _⟩ => ⟨S2x2048x4096, .f32⟩
  | .hbm, ⟨26, _⟩ => ⟨S2x2048x64, .f32⟩
  | .hbm, ⟨27, _⟩ => ⟨S2x2048x64, .i32⟩
  | .hbm, ⟨28, _⟩ => ⟨S2, .i32⟩
  | .hbm, ⟨29, _⟩ => ⟨S2x1x1, .i32⟩
  | .hbm, ⟨30, _⟩ => ⟨S2048, .i32⟩
  | .hbm, ⟨31, _⟩ => ⟨S1x2048x1, .i32⟩
  | .hbm, ⟨32, _⟩ => ⟨S_, .f32⟩
  | .hbm, ⟨33, _⟩ => ⟨S2x2048x4096, .f32⟩
  | .hbm, ⟨34, _⟩ => ⟨S_, .i32⟩
  | .hbm, ⟨35, _⟩ => ⟨S2x1x1, .i32⟩
  | .hbm, ⟨36, _⟩ => ⟨S2x1x1, .i1⟩
  | .hbm, ⟨37, _⟩ => ⟨S_, .i32⟩
  | .hbm, ⟨38, _⟩ => ⟨S2x1x1, .i32⟩
  | .hbm, ⟨39, _⟩ => ⟨S2x1x1, .i32⟩
  | .hbm, ⟨40, _⟩ => ⟨S2x1x1, .i32⟩
  | .hbm, ⟨41, _⟩ => ⟨S_, .i32⟩
  | .hbm, ⟨42, _⟩ => ⟨S1x2048x1, .i32⟩
  | .hbm, ⟨43, _⟩ => ⟨S1x2048x1, .i1⟩
  | .hbm, ⟨44, _⟩ => ⟨S_, .i32⟩
  | .hbm, ⟨45, _⟩ => ⟨S1x2048x1, .i32⟩
  | .hbm, ⟨46, _⟩ => ⟨S1x2048x1, .i32⟩
  | .hbm, ⟨47, _⟩ => ⟨S1x2048x1, .i32⟩
  | .hbm, ⟨48, _⟩ => ⟨S_, .i32⟩
  | .hbm, ⟨49, _⟩ => ⟨S2x2048x64, .i32⟩
  | .hbm, ⟨50, _⟩ => ⟨S2x2048x64, .i1⟩
  | .hbm, ⟨51, _⟩ => ⟨S_, .i32⟩
  | .hbm, ⟨52, _⟩ => ⟨S2x2048x64, .i32⟩
  | .hbm, ⟨53, _⟩ => ⟨S2x2048x64, .i32⟩
  | .hbm, ⟨54, _⟩ => ⟨S2x2048x64, .i32⟩
  | .hbm, ⟨55, _⟩ => ⟨S2x2048x64, .i32⟩
  | .hbm, ⟨56, _⟩ => ⟨S2x2048x64, .i32⟩
  | .hbm, ⟨57, _⟩ => ⟨S2x2048x64x1, .i32⟩
  | .hbm, ⟨58, _⟩ => ⟨S2x2048x64x1, .i32⟩
  | .hbm, ⟨59, _⟩ => ⟨S2x2048x64x1, .i32⟩
  | .hbm, ⟨60, _⟩ => ⟨S2x2048x64x3, .i32⟩
  | .hbm, ⟨61, _⟩ => ⟨S2x2048x4096, .f32⟩
  | .hbm, ⟨62, _⟩ => ⟨S2x2048x4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4096x8, .f32⟩
  | .hbm, ⟨68, _⟩ => ⟨S4096x1024, .f32⟩
  | .hbm, ⟨69, _⟩ => ⟨S4096x4096, .f32⟩
  | .hbm, ⟨70, _⟩ => ⟨S1x1, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_values : Ref sig .tc := ⟨.hbm, 26, rfl⟩
abbrev main_indices : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Kernel.lean ====
abbrev S2x2048x1024 : Shape := ⟨3, ![2, 2048, 1024]⟩
abbrev S1024x8 : Shape := ⟨2, ![1024, 8]⟩
abbrev S8x1024 : Shape := ⟨2, ![8, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1024x1024 : Shape := ⟨2, ![1024, 1024]⟩
abbrev S1x4096 : Shape := ⟨2, ![1, 4096]⟩
abbrev S4096x8 : Shape := ⟨2, ![4096, 8]⟩
abbrev S4096x4096 : Shape := ⟨2, ![4096, 4096]⟩
abbrev S1x1 : Shape := ⟨2, ![1, 1]⟩
abbrev S512x1024 : Shape := ⟨2, ![512, 1024]⟩
abbrev S512x8 : Shape := ⟨2, ![512, 8]⟩
abbrev S512x4096 : Shape := ⟨2, ![512, 4096]⟩
abbrev S512 : Shape := ⟨1, ![512]⟩
abbrev S512x1 : Shape := ⟨2, ![512, 1]⟩
abbrev S1x512x4096 : Shape := ⟨3, ![1, 512, 4096]⟩
abbrev S1 : Shape := ⟨1, ![1]⟩
abbrev S1x1x1 : Shape := ⟨3, ![1, 1, 1]⟩
abbrev S1x1024 : Shape := ⟨2, ![1, 1024]⟩
abbrev S256x4096 : Shape := ⟨2, ![256, 4096]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S2x16x2048x2048 : Shape := ⟨4, ![2, 16, 2048, 2048]⟩
abbrev S1x1024x128 : Shape := ⟨3, ![1, 1024, 128]⟩
abbrev S1x2048x128 : Shape := ⟨3, ![1, 2048, 128]⟩
abbrev S1x2x1024x2048 : Shape := ⟨4, ![1, 2, 1024, 2048]⟩
abbrev S4096x128 : Shape := ⟨2, ![4096, 128]⟩
abbrev S2048x128 : Shape := ⟨2, ![2048, 128]⟩
abbrev S2048x64 : Shape := ⟨2, ![2048, 64]⟩
abbrev S1024x128 : Shape := ⟨2, ![1024, 128]⟩
abbrev S1024x2048 : Shape := ⟨2, ![1024, 2048]⟩
abbrev S1024x1 : Shape := ⟨2, ![1024, 1]⟩
abbrev S1x1x1024x2048 : Shape := ⟨4, ![1, 1, 1024, 2048]⟩
abbrev S1x512x1024 : Shape := ⟨3, ![1, 512, 1024]⟩
abbrev S2x2048x8 : Shape := ⟨3, ![2, 2048, 8]⟩
abbrev S_ : Shape := ⟨0, ![]⟩

abbrev nBuf : Space → Nat
  | .hbm => 50
  | .vmem => 56
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8x1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096x1024, .f32⟩
  | .hbm, ⟨18, _⟩ => ⟨S4096x1024, .f32⟩
  | .hbm, ⟨19, _⟩ => ⟨S1x4096, .f32⟩
  | .hbm, ⟨20, _⟩ => ⟨S4096x8, .f32⟩
  | .hbm, ⟨21, _⟩ => ⟨S4096x1024, .f32⟩
  | .hbm, ⟨22, _⟩ => ⟨S4096x4096, .f32⟩
  | .hbm, ⟨23, _⟩ => ⟨S1x1, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x16x2048x2048, .f32⟩
  | .hbm, ⟨35, _⟩ => ⟨S2x2048x1024, .f32⟩
  | .hbm, ⟨36, _⟩ => ⟨S4096x1024, .f32⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S1024x4096, .bf16⟩
  | .hbm, ⟨41, _⟩ => ⟨S1024x4096, .bf16⟩
  | .hbm, ⟨42, _⟩ => ⟨S4096x1024, .bf16⟩
  | .hbm, ⟨43, _⟩ => ⟨S4096x1024, .f32⟩
  | .hbm, ⟨44, _⟩ => ⟨S1x1, .f32⟩
  | .hbm, ⟨45, _⟩ => ⟨S2x2048x1024, .f32⟩
  | .hbm, ⟨46, _⟩ => ⟨S2x2048x8, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1024x8, .f32⟩
  | .local _ .vmem, ⟨3, _⟩ => ⟨S8x1024, .f32⟩
  | .local _ .vmem, ⟨4, _⟩ => ⟨S1024x4096, .f32⟩
  | .local _ .vmem, ⟨5, _⟩ => ⟨S1x4096, .f32⟩
  | .local _ .vmem, ⟨6, _⟩ => ⟨S512x8, .f32⟩
  | .local _ .vmem, ⟨7, _⟩ => ⟨S512x8, .f32⟩
  | .local _ .vmem, ⟨8, _⟩ => ⟨S512x1024, .f32⟩
  | .local _ .vmem, ⟨9, _⟩ => ⟨S512x1024, .f32⟩
  | .local _ .vmem, ⟨10, _⟩ => ⟨S512x4096, .f32⟩
  | .local _ .vmem, ⟨11, _⟩ => ⟨S512x4096, .f32⟩
  | .local _ .vmem, ⟨12, _⟩ => ⟨S1x1, .f32⟩
  | .local _ .vmem, ⟨13, _⟩ => ⟨S256x4096, .f32⟩
  | .local _ .vmem, ⟨14, _⟩ => ⟨S256x4096, .f32⟩
  | .local _ .vmem, ⟨15, _⟩ => ⟨S4096x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S1x1, .f32⟩
  | .local _ .vmem, ⟨31, _⟩ => ⟨S1x1024x128, .f32⟩
  | .local _ .vmem, ⟨32, _⟩ => ⟨S1x1024x128, .f32⟩
  | .local _ .vmem, ⟨33, _⟩ => ⟨S1x2048x128, .f32⟩
  | .local _ .vmem, ⟨34, _⟩ => ⟨S1x2048x128, .f32⟩
  | .local _ .vmem, ⟨35, _⟩ => ⟨S1x2048x128, .f32⟩
  | .local _ .vmem, ⟨36, _⟩ => ⟨S1x2048x128, .f32⟩
  | .local _ .vmem, ⟨37, _⟩ => ⟨S1x2x1024x2048, .f32⟩
  | .local _ .vmem, ⟨38, _⟩ => ⟨S1x2x1024x2048, .f32⟩
  | .local _ .vmem, ⟨39, _⟩ => ⟨S1x1024x128, .f32⟩
  | .local _ .vmem, ⟨40, _⟩ => ⟨S1x1024x128, .f32⟩
  | .local _ .vmem, ⟨41, _⟩ => ⟨S4096x128, .f32⟩
  | .local _ .vmem, ⟨42, _⟩ => ⟨S4096x128, .f32⟩
  | .local _ .vmem, ⟨43, _⟩ => ⟨S512x1024, .f32⟩
  | .local _ .vmem, ⟨44, _⟩ => ⟨S512x1024, .f32⟩
  | .local _ .vmem, ⟨45, _⟩ => ⟨S1024x1024, .bf16⟩
  | .local _ .vmem, ⟨46, _⟩ => ⟨S512x1024, .f32⟩
  | .local _ .vmem, ⟨47, _⟩ => ⟨S512x1024, .f32⟩
  | .local _ .vmem, ⟨48, _⟩ => ⟨S1x1024, .f32⟩
  | .local _ .vmem, ⟨49, _⟩ => ⟨S1x1024, .f32⟩
  | .local _ .vmem, ⟨50, _⟩ => ⟨S1024x4096, .bf16⟩
  | .local _ .vmem, ⟨51, _⟩ => ⟨S1024x4096, .bf16⟩
  | .local _ .vmem, ⟨52, _⟩ => ⟨S4096x1024, .bf16⟩
  | .local _ .vmem, ⟨53, _⟩ => ⟨S512x1024, .f32⟩
  | .local _ .vmem, ⟨54, _⟩ => ⟨S512x1024, .f32⟩
  | .local _ .vmem, ⟨55, _⟩ => ⟨S1x1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2_0 : Ref sig .tc := ⟨.hbm, 20, rfl⟩
abbrev main_v2_1 : Ref sig .tc := ⟨.hbm, 21, rfl⟩
abbrev main_v2_2 : Ref sig .tc := ⟨.hbm, 22, rfl⟩
abbrev main_v2_3 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6_0 : Ref sig .tc := ⟨.hbm, 27, rfl⟩
abbrev main_v6_1 : Ref sig .tc := ⟨.hbm, 28, rfl⟩
abbrev main_v6_2 : Ref sig .tc := ⟨.hbm, 29, rfl⟩
abbrev main_v6_3 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10_0 : Ref sig .tc := ⟨.hbm, 34, rfl⟩
abbrev main_v10_1 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18_0 : Ref sig .tc := ⟨.hbm, 43, rfl⟩
abbrev main_v18_1 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg3_1 : Ref sig .tc := ⟨.vmem, 38, rfl⟩
abbrev cc2_stg4_0 : Ref sig .tc := ⟨.vmem, 39, rfl⟩
abbrev cc2_stg4_1 : Ref sig .tc := ⟨.vmem, 40, rfl⟩
abbrev cc2_scratch0 : Ref sig .tc := ⟨.vmem, 41, rfl⟩
abbrev cc2_scratch1 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg8_1 : Ref sig .tc := ⟨.vmem, 54, rfl⟩
abbrev cc3_stg9_0 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28
abbrev cc1_sem11_1 : DmaSem sig := 29
abbrev cc1_sem12_0 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38
abbrev cc2_sem4_0 : DmaSem sig := 39
abbrev cc2_sem4_1 : DmaSem sig := 40
abbrev cc3_sem0_0 : DmaSem sig := 41
abbrev cc3_sem0_1 : DmaSem sig := 42
abbrev cc3_sem1_0 : DmaSem sig := 43
abbrev cc3_sem2_0 : DmaSem sig := 44
abbrev cc3_sem2_1 : DmaSem sig := 45
abbrev cc3_sem3_0 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem8_0 : DmaSem sig := 51
abbrev cc3_sem8_1 : DmaSem sig := 52
abbrev cc3_sem9_0 : DmaSem sig := 53

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v68 : BitVec 32 := Scalar.addi c0_i32 c16_i32
  let c1_i32 : BitVec 32 := 1#32
  ⟨c0_i32, v68, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev grid2 : Pipeline.Grid := ⟨3, ![2, 8, 2], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_3 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x2x1024x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x4096 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x4096 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S4096x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S512x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]
-- ==== ReferenceIdeal.lean ====
abbrev S2x2048x1024 : Shape := ⟨3, ![2, 2048, 1024]⟩
abbrev S1024x8 : Shape := ⟨2, ![1024, 8]⟩
abbrev S8x1024 : Shape := ⟨2, ![8, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1024x1024 : Shape := ⟨2, ![1024, 1024]⟩
abbrev S2x2048x8 : Shape := ⟨3, ![2, 2048, 8]⟩
abbrev S_ : Shape := ⟨0, ![]⟩
abbrev S2x2048 : Shape := ⟨2, ![2, 2048]⟩
abbrev S2x2048x1 : Shape := ⟨3, ![2, 2048, 1]⟩
abbrev S2x2048x4096 : Shape := ⟨3, ![2, 2048, 4096]⟩
abbrev S1x1x4096 : Shape := ⟨3, ![1, 1, 4096]⟩
abbrev S2x2048x64 : Shape := ⟨3, ![2, 2048, 64]⟩
abbrev S2 : Shape := ⟨1, ![2]⟩
abbrev S2x1x1 : Shape := ⟨3, ![2, 1, 1]⟩
abbrev S2048 : Shape := ⟨1, ![2048]⟩
abbrev S1x2048x1 : Shape := ⟨3, ![1, 2048, 1]⟩
abbrev S2x2048x64x1 : Shape := ⟨4, ![2, 2048, 64, 1]⟩
abbrev S2x2048x64x3 : Shape := ⟨4, ![2, 2048, 64, 3]⟩
abbrev S4096x8 : Shape := ⟨2, ![4096, 8]⟩
abbrev S4096x4096 : Shape := ⟨2, ![4096, 4096]⟩
abbrev S1x1 : Shape := ⟨2, ![1, 1]⟩
abbrev S1x1024 : Shape := ⟨2, ![1, 1024]⟩
abbrev S4096x1 : Shape := ⟨2, ![4096, 1]⟩
abbrev S2x2048x16x64 : Shape := ⟨4, ![2, 2048, 16, 64]⟩
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 263
  | .vmem => 0
  | .smem => 0
  | _ => 0

abbrev hbmTy0_0 (i : Nat) : BufTy := match i % 128 with
  | 0 => ⟨S2x2048x1024, .f32⟩
  | 1 => ⟨S1024x8, .f32⟩
  | 2 => ⟨S8x1024, .f32⟩
  | 3 => ⟨S1024x4096, .f32⟩
  | 4 => ⟨S4096, .f32⟩
  | 5 => ⟨S4096x1024, .f32⟩
  | 6 => ⟨S1024, .f32⟩
  | 7 => ⟨S1024, .f32⟩
  | 8 => ⟨S1024, .f32⟩
  | 9 => ⟨S1024x1024, .f32⟩
  | 10 => ⟨S1024x1024, .f32⟩
  | 11 => ⟨S1024x1024, .f32⟩
  | 12 => ⟨S1024x1024, .f32⟩
  | 13 => ⟨S1024, .f32⟩
  | 14 => ⟨S1024, .f32⟩
  | 15 => ⟨S1024x4096, .f32⟩
  | 16 => ⟨S1024x4096, .f32⟩
  | 17 => ⟨S4096x1024, .f32⟩
  | 18 => ⟨S2x2048x8, .f32⟩
  | 19 => ⟨S_, .f32⟩
  | 20 => ⟨S2x2048, .f32⟩
  | 21 => ⟨S_, .f32⟩
  | 22 => ⟨S2x2048, .f32⟩
  | 23 => ⟨S2x2048, .f32⟩
  | 24 => ⟨S2x2048x1, .f32⟩
  | 25 => ⟨S2x2048x8, .f32⟩
  | 26 => ⟨S2x2048x8, .f32⟩
  | 27 => ⟨S2x2048x8, .f32⟩
  | 28 => ⟨S_, .f32⟩
  | 29 => ⟨S2x2048, .f32⟩
  | 30 => ⟨S2x2048x1, .f32⟩
  | 31 => ⟨S2x2048x8, .f32⟩
  | 32 => ⟨S2x2048x8, .f32⟩
  | 33 => ⟨S2x2048x1024, .f32⟩
  | 34 => ⟨S2x2048x1024, .f32⟩
  | 35 => ⟨S2x2048x4096, .f32⟩
  | 36 => ⟨S1x1x4096, .f32⟩
  | 37 => ⟨S2x2048x4096, .f32⟩
  | 38 => ⟨S2x2048x4096, .f32⟩
  | 39 => ⟨S2x2048x64, .f32⟩
  | 40 => ⟨S2x2048x64, .i32⟩
  | 41 => ⟨S2, .i32⟩
  | 42 => ⟨S2x1x1, .i32⟩
  | 43 => ⟨S2048, .i32⟩
  | 44 => ⟨S1x2048x1, .i32⟩
  | 45 => ⟨S_, .f32⟩
  | 46 => ⟨S2x2048x4096, .f32⟩
  | 47 => ⟨S_, .i32⟩
  | 48 => ⟨S2x1x1, .i32⟩
  | 49 => ⟨S2x1x1, .i1⟩
  | 50 => ⟨S_, .i32⟩
  | 51 => ⟨S2x1x1, .i32⟩
  | 52 => ⟨S2x1x1, .i32⟩
  | 53 => ⟨S2x1x1, .i32⟩
  | 54 => ⟨S_, .i32⟩
  | 55 => ⟨S1x2048x1, .i32⟩
  | 56 => ⟨S1x2048x1, .i1⟩
  | 57 => ⟨S_, .i32⟩
  | 58 => ⟨S1x2048x1, .i32⟩
  | 59 => ⟨S1x2048x1, .i32⟩
  | 60 => ⟨S1x2048x1, .i32⟩
  | 61 => ⟨S_, .i32⟩
  | 62 => ⟨S2x2048x64, .i32⟩
  | 63 => ⟨S2x2048x64, .i1⟩
  | 64 => ⟨S_, .i32⟩
  | 65 => ⟨S2x2048x64, .i32⟩
  | 66 => ⟨S2x2048x64, .i32⟩
  | 67 => ⟨S2x2048x64, .i32⟩
  | 68 => ⟨S2x2048x64, .i32⟩
  | 69 => ⟨S2x2048x64, .i32⟩
  | 70 => ⟨S2x2048x64x1, .i32⟩
  | 71 => ⟨S2x2048x64x1, .i32⟩
  | 72 => ⟨S2x2048x64x1, .i32⟩
  | 73 => ⟨S2x2048x64x3, .i32⟩
  | 74 => ⟨S2x2048x4096, .f32⟩
  | 75 => ⟨S2x2048x4096, .f32⟩
  | 76 => ⟨S_, .f32⟩
  | 77 => ⟨S_, .f32⟩
  | 78 => ⟨S_, .f32⟩
  | 79 => ⟨S_, .f32⟩
  | 80 => ⟨S4096x8, .f32⟩
  | 81 => ⟨S4096x1024, .f32⟩
  | 82 => ⟨S4096x4096, .f32⟩
  | 83 => ⟨S1x1, .f32⟩
  | 84 => ⟨S4096x1024, .f32⟩
  | 85 => ⟨S4096x1024, .f32⟩
  | 86 => ⟨S1x1024, .f32⟩
  | 87 => ⟨S4096x1024, .f32⟩
  | 88 => ⟨S4096x1024, .f32⟩
  | 89 => ⟨S_, .f32⟩
  | 90 => ⟨S4096, .f32⟩
  | 91 => ⟨S4096x1, .f32⟩
  | 92 => ⟨S_, .f32⟩
  | 93 => ⟨S4096x1, .f32⟩
  | 94 => ⟨S4096x1, .f32⟩
  | 95 => ⟨S_, .i32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S4096x1024, .f32⟩
  | 103 => ⟨S4096x1024, .f32⟩
  | 104 => ⟨S4096x1024, .f32⟩
  | 105 => ⟨S_, .f32⟩
  | 106 => ⟨S_, .f32⟩
  | 107 => ⟨S_, .f32⟩
  | 108 => ⟨S_, .f32⟩
  | 109 => ⟨S4096, .f32⟩
  | 110 => ⟨S4096x1, .f32⟩
  | 111 => ⟨S4096x1, .f32⟩
  | 112 => ⟨S4096x1, .f32⟩
  | 113 => ⟨S_, .f32⟩
  | 114 => ⟨S_, .i1⟩
  | 115 => ⟨S_, .f32⟩
  | 116 => ⟨S_, .f32⟩
  | 117 => ⟨S4096x1, .f32⟩
  | 118 => ⟨S4096x1, .f32⟩
  | 119 => ⟨S4096x1024, .f32⟩
  | 120 => ⟨S4096x1024, .f32⟩
  | 121 => ⟨S_, .f32⟩
  | 122 => ⟨S4096x1, .f32⟩
  | 123 => ⟨S4096x1, .f32⟩
  | 124 => ⟨S4096x1, .f32⟩
  | 125 => ⟨S4096x1024, .f32⟩
  | 126 => ⟨S4096x1024, .f32⟩
  | 127 => ⟨S1x1024, .f32⟩
  | _ => ⟨S2x2048x1024, .f32⟩

abbrev hbmTy0_1 (i : Nat) : BufTy := match i % 128 with
  | 0 => ⟨S4096x1024, .f32⟩
  | 1 => ⟨S4096x1024, .f32⟩
  | 2 => ⟨S1x1024, .f32⟩
  | 3 => ⟨S4096x1024, .f32⟩
  | 4 => ⟨S4096x1024, .f32⟩
  | 5 => ⟨S4096x1024, .f32⟩
  | 6 => ⟨S_, .f32⟩
  | 7 => ⟨S_, .f32⟩
  | 8 => ⟨S_, .f32⟩
  | 9 => ⟨S_, .f32⟩
  | 10 => ⟨S4096x1024, .f32⟩
  | 11 => ⟨S4096x1024, .f32⟩
  | 12 => ⟨S4096x1024, .f32⟩
  | 13 => ⟨S1x1, .f32⟩
  | 14 => ⟨S2x2048x1024, .f32⟩
  | 15 => ⟨S2x2048x1024, .f32⟩
  | 16 => ⟨S2x2048x1024, .f32⟩
  | 17 => ⟨S2x2048x16x64, .f32⟩
  | 18 => ⟨S2x16x2048x64, .f32⟩
  | 19 => ⟨S2x2048x16x64, .f32⟩
  | 20 => ⟨S2x16x2048x64, .f32⟩
  | 21 => ⟨S2x2048x16x64, .f32⟩
  | 22 => ⟨S2x16x2048x64, .f32⟩
  | 23 => ⟨S2x16x64x2048, .f32⟩
  | 24 => ⟨S2x16x2048x2048, .f32⟩
  | 25 => ⟨S_, .f32⟩
  | 26 => ⟨S_, .f32⟩
  | 27 => ⟨S_, .f32⟩
  | 28 => ⟨S2x16x2048x2048, .f32⟩
  | 29 => ⟨S2x16x2048x2048, .f32⟩
  | 30 => ⟨S_, .f32⟩
  | 31 => ⟨S2x16x2048, .f32⟩
  | 32 => ⟨S_, .f32⟩
  | 33 => ⟨S2x16x2048, .f32⟩
  | 34 => ⟨S2x16x2048, .f32⟩
  | 35 => ⟨S2x16x2048x1, .f32⟩
  | 36 => ⟨S2x16x2048x2048, .f32⟩
  | 37 => ⟨S2x16x2048x2048, .f32⟩
  | 38 => ⟨S2x16x2048x2048, .f32⟩
  | 39 => ⟨S_, .f32⟩
  | 40 => ⟨S2x16x2048, .f32⟩
  | 41 => ⟨S2x16x2048x1, .f32⟩
  | 42 => ⟨S2x16x2048x2048, .f32⟩
  | 43 => ⟨S2x16x2048x2048, .f32⟩
  | 44 => ⟨S2x16x2048x64, .f32⟩
  | 45 => ⟨S2x2048x16x64, .f32⟩
  | 46 => ⟨S2x2048x1024, .f32⟩
  | 47 => ⟨S2x2048x1024, .f32⟩
  | 48 => ⟨S2x2048x1024, .f32⟩
  | 49 => ⟨S_, .f32⟩
  | 50 => ⟨S2x2048, .f32⟩
  | 51 => ⟨S2x2048x1, .f32⟩
  | 52 => ⟨S_, .f32⟩
  | 53 => ⟨S2x2048x1, .f32⟩
  | 54 => ⟨S2x2048x1, .f32⟩
  | 55 => ⟨S_, .i32⟩
  | 56 => ⟨S_, .f32⟩
  | 57 => ⟨S2x2048, .f32⟩
  | 58 => ⟨S2x2048x1, .f32⟩
  | 59 => ⟨S_, .f32⟩
  | 60 => ⟨S2x2048x1, .f32⟩
  | 61 => ⟨S2x2048x1, .f32⟩
  | 62 => ⟨S2x2048x1024, .f32⟩
  | 63 => ⟨S2x2048x1024, .f32⟩
  | 64 => ⟨S2x2048x1024, .f32⟩
  | 65 => ⟨S_, .f32⟩
  | 66 => ⟨S_, .f32⟩
  | 67 => ⟨S_, .f32⟩
  | 68 => ⟨S_, .f32⟩
  | 69 => ⟨S2x2048, .f32⟩
  | 70 => ⟨S2x2048x1, .f32⟩
  | 71 => ⟨S2x2048x1, .f32⟩
  | 72 => ⟨S2x2048x1, .f32⟩
  | 73 => ⟨S_, .f32⟩
  | 74 => ⟨S_, .i1⟩
  | 75 => ⟨S_, .f32⟩
  | 76 => ⟨S_, .f32⟩
  | 77 => ⟨S2x2048x1, .f32⟩
  | 78 => ⟨S2x2048x1, .f32⟩
  | 79 => ⟨S2x2048x1024, .f32⟩
  | 80 => ⟨S2x2048x1024, .f32⟩
  | 81 => ⟨S_, .f32⟩
  | 82 => ⟨S2x2048x1, .f32⟩
  | 83 => ⟨S2x2048x1, .f32⟩
  | 84 => ⟨S2x2048x1, .f32⟩
  | 85 => ⟨S2x2048x1024, .f32⟩
  | 86 => ⟨S2x2048x1024, .f32⟩
  | 87 => ⟨S1x1x1024, .f32⟩
  | 88 => ⟨S2x2048x1024, .f32⟩
  | 89 => ⟨S2x2048x1024, .f32⟩
  | 90 => ⟨S1x1x1024, .f32⟩
  | 91 => ⟨S2x2048x1024, .f32⟩
  | 92 => ⟨S2x2048x1024, .f32⟩
  | 93 => ⟨S2x2048x1024, .f32⟩
  | 94 => ⟨S_, .f32⟩
  | 95 => ⟨S_, .f32⟩
  | 96 => ⟨S_, .f32⟩
  | 97 => ⟨S_, .f32⟩
  | 98 => ⟨S2x2048x4096, .f32⟩
  | 99 => ⟨S2x2048x4096, .f32⟩
  | 100 => ⟨S2x2048x4096, .f32⟩
  | 101 => ⟨S_, .f32⟩
  | 102 => ⟨S2x2048x4096, .f32⟩
  | 103 => ⟨S2x2048x4096, .f32⟩
  | 104 => ⟨S_, .f32⟩
  | 105 => ⟨S2x2048x4096, .f32⟩
  | 106 => ⟨S2x2048x4096, .f32⟩
  | 107 => ⟨S2x2048x4096, .f32⟩
  | 108 => ⟨S2x2048x4096, .f32⟩
  | 109 => ⟨S2x2048x4096, .f32⟩
  | 110 => ⟨S_, .f32⟩
  | 111 => ⟨S2x2048x4096, .f32⟩
  | 112 => ⟨S2x2048x4096, .f32⟩
  | 113 => ⟨S2x2048x4096, .f32⟩
  | 114 => ⟨S_, .f32⟩
  | 115 => ⟨S2x2048x4096, .f32⟩
  | 116 => ⟨S2x2048x4096, .f32⟩
  | 117 => ⟨S2x2048x4096, .f32⟩
  | 118 => ⟨S_, .f32⟩
  | 119 => ⟨S2x2048x4096, .f32⟩
  | 120 => ⟨S2x2048x4096, .f32⟩
  | 121 => ⟨S_, .f32⟩
  | 122 => ⟨S2x2048x4096, .f32⟩
  | 123 => ⟨S2x2048x4096, .f32⟩
  | 124 => ⟨S2x2048x4096, .f32⟩
  | 125 => ⟨S2x2048x4096, .f32⟩
  | 126 => ⟨S2x2048x1024, .f32⟩
  | 127 => ⟨S2x2048x1024, .f32⟩
  | _ => ⟨S2x2048x1024, .f32⟩

abbrev hbmTy0_2 (i : Nat) : BufTy := match i % 128 with
  | 0 => ⟨S4096x1024, .f32⟩
  | 1 => ⟨S1x1, .f32⟩
  | 2 => ⟨S2x2048x1024, .f32⟩
  | 3 => ⟨S2x2048x8, .f32⟩
  | 4 => ⟨S_, .f32⟩
  | 5 => ⟨S_, .f32⟩
  | 6 => ⟨S_, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_values : Ref sig .tc := ⟨.hbm, 39, rfl⟩
abbrev main_indices : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_c : Ref sig .tc := ⟨.hbm, 47, rfl⟩
abbrev main_v23 : Ref sig .tc := ⟨.hbm, 48, rfl⟩
abbrev main_v24 : Ref sig .tc := ⟨.hbm, 49, rfl⟩
abbrev main_c_3 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_c_12 : Ref sig .tc := ⟨.hbm, 95, rfl⟩
abbrev main_call0_cst : Ref sig .tc := ⟨.hbm, 96, rfl⟩
abbrev main_call0_v0 : Ref sig .tc := ⟨.hbm, 97, rfl⟩
abbrev main_call0_v1 : Ref sig .tc := ⟨.hbm, 98, rfl⟩
abbrev main_call0_cst_0 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_cst_1 : Ref sig .tc := ⟨.hbm, 106, rfl⟩
abbrev main_call0_v8 : Ref sig .tc := ⟨.hbm, 107, rfl⟩
abbrev main_call0_cst_2 : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_call0_v12 : Ref sig .tc := ⟨.hbm, 112, rfl⟩
abbrev main_call0_cst_3 : Ref sig .tc := ⟨.hbm, 113, rfl⟩
abbrev main_call0_v13 : Ref sig .tc := ⟨.hbm, 114, rfl⟩
abbrev main_call0_cst_4 : Ref sig .tc := ⟨.hbm, 115, rfl⟩
abbrev main_call0_call0_v0 : Ref sig .tc := ⟨.hbm, 116, rfl⟩
abbrev main_call0_call0_v1 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_13 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_14 : Ref sig .tc := ⟨.hbm, 134, rfl⟩
abbrev main_v76 : Ref sig .tc := ⟨.hbm, 135, rfl⟩
abbrev main_cst_15 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_16 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_cst_17 : Ref sig .tc := ⟨.hbm, 158, rfl⟩
abbrev main_v97 : Ref sig .tc := ⟨.hbm, 159, rfl⟩
abbrev main_cst_18 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_19 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_20 : Ref sig .tc := ⟨.hbm, 177, rfl⟩
abbrev main_v113 : Ref sig .tc := ⟨.hbm, 178, rfl⟩
abbrev main_v114 : Ref sig .tc := ⟨.hbm, 179, rfl⟩
abbrev main_cst_21 : Ref sig .tc := ⟨.hbm, 180, rfl⟩
abbrev main_v115 : Ref sig .tc := ⟨.hbm, 181, rfl⟩
abbrev main_v116 : Ref sig .tc := ⟨.hbm, 182, rfl⟩
abbrev main_c_22 : Ref sig .tc := ⟨.hbm, 183, rfl⟩
abbrev main_call1_cst : Ref sig .tc := ⟨.hbm, 184, rfl⟩
abbrev main_call1_v0 : Ref sig .tc := ⟨.hbm, 185, rfl⟩
abbrev main_call1_v1 : Ref sig .tc := ⟨.hbm, 186, rfl⟩
abbrev main_call1_cst_0 : Ref sig .tc := ⟨.hbm, 187, rfl⟩
abbrev main_call1_v2 : Ref sig .tc := ⟨.hbm, 188, rfl⟩
abbrev main_call1_v3 : Ref sig .tc := ⟨.hbm, 189, rfl⟩
abbrev main_call1_v4 : Ref sig .tc := ⟨.hbm, 190, rfl⟩
abbrev main_call1_v5 : Ref sig .tc := ⟨.hbm, 191, rfl⟩
abbrev main_call1_v6 : Ref sig .tc := ⟨.hbm, 192, rfl⟩
abbrev main_call1_v7 : Ref sig .tc := ⟨.hbm, 193, rfl⟩
abbrev main_call1_cst_1 : Ref sig .tc := ⟨.hbm, 194, rfl⟩
abbrev main_call1_v8 : Ref sig .tc := ⟨.hbm, 195, rfl⟩
abbrev main_call1_cst_2 : Ref sig .tc := ⟨.hbm, 196, rfl⟩
abbrev main_call1_v9 : Ref sig .tc := ⟨.hbm, 197, rfl⟩
abbrev main_call1_v10 : Ref sig .tc := ⟨.hbm, 198, rfl⟩
abbrev main_call1_v11 : Ref sig .tc := ⟨.hbm, 199, rfl⟩
abbrev main_call1_v12 : Ref sig .tc := ⟨.hbm, 200, rfl⟩
abbrev main_call1_cst_3 : Ref sig .tc := ⟨.hbm, 201, rfl⟩
abbrev main_call1_v13 : Ref sig .tc := ⟨.hbm, 202, rfl⟩
abbrev main_call1_cst_4 : Ref sig .tc := ⟨.hbm, 203, rfl⟩
abbrev main_call1_call0_v0 : Ref sig .tc := ⟨.hbm, 204, rfl⟩
abbrev main_call1_call0_v1 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_cst_23 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_cst_24 : Ref sig .tc := ⟨.hbm, 222, rfl⟩
abbrev main_v132 : Ref sig .tc := ⟨.hbm, 223, rfl⟩
abbrev main_cst_25 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_cst_26 : Ref sig .tc := ⟨.hbm, 229, rfl⟩
abbrev main_v137 : Ref sig .tc := ⟨.hbm, 230, rfl⟩
abbrev main_v138 : Ref sig .tc := ⟨.hbm, 231, rfl⟩
abbrev main_cst_27 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_cst_28 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_cst_29 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_cst_30 : Ref sig .tc := ⟨.hbm, 246, rfl⟩
abbrev main_v150 : Ref sig .tc := ⟨.hbm, 247, rfl⟩
abbrev main_v151 : Ref sig .tc := ⟨.hbm, 248, rfl⟩
abbrev main_cst_31 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩

abbrev nD : Nat := 1
abbrev τ : Topo := Topo.v7x

variable {F : FTy → Type} [FloatOps F]
-- ==== Proof.FfnBlock.lean ====
/-
  What one grid point of the feed-forward kernel leaves in its two output blocks.

  The body reads its eight input blocks whole and stores the row block of the result whole, so in every one of the three
  cases (first point, inner point, last point) the row block is the same function of the input blocks; the one-element
  block of the energy is restarted at the first point, carried at the others and divided at the last.
-/
module

public import proofs.«01_k».proof.Proof.Gen.FfnIdeal.Value
public import Idealize.ShloMosaic.Lib.Tactic

@[expose] public section

noncomputable section

open Idealize.ShloMosaic Idealize.ShloMosaic.TcCoe Idealize.ShloMosaic.Tactic Idealize.SL.Sem
open Idealize.ShloMosaic.Pipeline (Dat)

namespace Cert.FfnIdeal.Block

open Cert.FfnIdeal Cert.FfnIdeal.Gen

variable {F : FTy → Type} [FloatOps F]
variable (m : (ℓ : Loc nD τ sig) → Buf (Elt F) ℓ)

theorem zero2 : (![0, 0] : Fin 2 → Nat) = fun _ => 0 := funext fun a => by fin_cases a <;> rfl

/-- The result's row block at a point, from the point's eight input blocks. -/
def rows (ctx : Vec F S512x1024 .f32) (wo : Vec F S1024x1024 .bf16) (x : Vec F S512x1024 .f32) (g b : Vec F S1x1024 .f32)
    (wg w1 : Vec F S1024x4096 .bf16) (w2 : Vec F S4096x1024 .bf16) : Vec F S512x1024 .f32 :=
  k0_pay9 (k0_pay1 ctx wo x) (k0_pay5 g) (k0_pay6 b) (k0_pay7 ctx wo x) (k0_pay8 ctx wo x) wg w1 w2

/-- The first point leaves the row block, and the energy of this block added to zero. -/
theorem first (c : Dev nD) (t : Fin cfg0.N) (h0 : t.val % 8 = 0) (h1 : ¬t.val % 8 = 7) :
    outsAt0 m c t.val t.isLt =
      (rows (iblk m c 0 t) (iblk m c 1 t) (iblk m c 2 t) (iblk m c 3 t) (iblk m c 4 t) (iblk m c 5 t) (iblk m c 6 t) (iblk m c 7 t),
        k0_pay3 (iblk m c 0 t) (iblk m c 1 t) (iblk m c 2 t) k0_pay2) := by
  rw [outsAt0_A m c t h0 h1]
  refine Prod.ext ?_ ?_ <;> dsimp only
  · unfold out0_A_8
    refine (View.read_writes_eq_canon _ _ _ (fun y => cover0_A_8 (y := y) ..)).trans ?_
    unfold kernelRun0_A
    dsimp only
    sl_unfold_words
    rw [View.canon_unit_zero zero2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S512x1024) zero2, View.ld_unit_zero (S := S1024x1024) zero2, View.ld_unit_zero (S := S1x1024) zero2,
      View.ld_unit_zero (S := S1024x4096) zero2, View.ld_unit_zero (S := S4096x1024) zero2]
    rfl
  · unfold out0_A_9
    refine (View.read_writes_eq_canon _ _ _ (fun y => cover0_A_9 (y := y) ..)).trans ?_
    unfold kernelRun0_A
    dsimp only
    sl_unfold_words
    rw [View.canon_cons_unit_zero (S := S1x1) zero2, View.readCov_unit_zero (S := S1x1) _ zero2]
    simp only [View.readAt_eq_ld, (hs0_0 t).read_unread, (hs0_1 t).read_unread, (hs0_2 t).read_unread,
      View.ld_unit_zero (S := S512x1024) zero2, View.ld_unit_zero (S := S1024x1024) zero2]

/-- An inner point leaves the row block, and the energy of this block added to what the point before left. -/
theorem inner (c : Dev nD) (t : Fin cfg0.N) (h0 : ¬t.val % 8 = 0) (h1 : ¬t.val % 8 = 7) :
    outsAt0 m c t.val t.isLt =
      (rows (iblk m c 0 t) (iblk m c 1 t) (iblk m c 2 t) (iblk m c 3 t) (iblk m c 4 t) (iblk m c 5 t) (iblk m c 6 t) (iblk m c 7 t),
        k0_pay3 (iblk m c 0 t) (iblk m c 1 t) (iblk m c 2 t)
          (outsAt0 m c (t.val - 1) (Nat.lt_of_le_of_lt (Nat.sub_le _ _) t.isLt)).2) := by
  rw [outsAt0_B m c t h0 h1]
  refine Prod.ext ?_ ?_ <;> dsimp only
  · unfold out0_B_8
    refine (View.read_writes_eq_canon _ _ _ (fun y => cover0_B_8 (y := y) ..)).trans ?_
    unfold kernelRun0_B
    dsimp only
    sl_unfold_words
    rw [View.canon_unit_zero zero2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S512x1024) zero2, View.ld_unit_zero (S := S1024x1024) zero2, View.ld_unit_zero (S := S1x1024) zero2,
      View.ld_unit_zero (S := S1024x4096) zero2, View.ld_unit_zero (S := S4096x1024) zero2]
    rfl
  · unfold out0_B_9
    refine (View.read_writes_eq_canon _ _ _ (fun y => cover0_B_9 (y := y) ..)).trans ?_
    unfold kernelRun0_B
    dsimp only
    sl_unfold_words
    rw [View.canon_unit_zero (S := S1x1) zero2]
    simp only [View.readAt_eq_ld, (hs0_0 t).read_unread, (hs0_1 t).read_unread, (hs0_2 t).read_unread, (hs0_9 t).read_unread,
      View.ld_unit_zero (S := S512x1024) zero2, View.ld_unit_zero (S := S1024x1024) zero2, View.ld_unit_zero (S := S1x1) zero2]

/-- The last point leaves the row block, and the whole energy divided by the number of elements. -/
theorem last (c : Dev nD) (t : Fin cfg0.N) (h0 : ¬t.val % 8 = 0) (h1 : t.val % 8 = 7) :
    outsAt0 m c t.val t.isLt =
      (rows (iblk m c 0 t) (iblk m c 1 t) (iblk m c 2 t) (iblk m c 3 t) (iblk m c 4 t) (iblk m c 5 t) (iblk m c 6 t) (iblk m c 7 t),
        k0_pay4 (k0_pay3 (iblk m c 0 t) (iblk m c 1 t) (iblk m c 2 t)
          (outsAt0 m c (t.val - 1) (Nat.lt_of_le_of_lt (Nat.sub_le _ _) t.isLt)).2)) := by
  rw [outsAt0_C m c t h0 h1]
  refine Prod.ext ?_ ?_ <;> dsimp only
  · unfold out0_C_8
    refine (View.read_writes_eq_canon _ _ _ (fun y => cover0_C_8 (y := y) ..)).trans ?_
    unfold kernelRun0_C
    dsimp only
    sl_unfold_words
    rw [View.canon_unit_zero zero2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S512x1024) zero2, View.ld_unit_zero (S := S1024x1024) zero2, View.ld_unit_zero (S := S1x1024) zero2,
      View.ld_unit_zero (S := S1024x4096) zero2, View.ld_unit_zero (S := S4096x1024) zero2]
    rfl
  · unfold out0_C_9
    refine (View.read_writes_eq_canon _ _ _ (fun y => cover0_C_9 (y := y) ..)).trans ?_
    unfold kernelRun0_C
    dsimp only
    sl_unfold_words
    rw [View.canon_cons_unit_zero (S := S1x1) zero2, View.readCov_unit_zero (S := S1x1) _ zero2]
    simp only [View.readAt_eq_ld, (hs0_0 t).read_unread, (hs0_1 t).read_unread, (hs0_2 t).read_unread, (hs0_9 t).read_unread,
      View.ld_unit_zero (S := S512x1024) zero2, View.ld_unit_zero (S := S1024x1024) zero2, View.ld_unit_zero (S := S1x1) zero2]

end Cert.FfnIdeal.Block
-- ==== Proof.Spec.lean ====
/-
  The mathematics the programs compute, one row at a time, over the extended reals: nothing here speaks of a program.
-/
module

public import Idealize.ShloMosaic.Lib.Pointwise
public import Idealize.ShloMosaic.Lib.IdealHost

@[expose] public section

noncomputable section

namespace Cert.Spec

open Idealize.ShloMosaic

/-- The number of features, 1024, as the programs write it. -/
def width : EReal := Ideal.ofBits .f32 0x44800000#32

/-- The small constant under the root of a layer norm. -/
def eps : EReal := Ideal.ofBits .f32 0x3727C5AC#32

/-- The mean of a row of 1024 features. -/
def mean (v : Fin 1024 → EReal) : EReal := Ideal.div (∑ k, v k) width

/-- A row's mean squared distance from its mean. -/
def variance (v : Fin 1024 → EReal) : EReal := Ideal.div (∑ k, (v k - mean v) * (v k - mean v)) width

/-- The layer norm of a row: centred, divided by the root of the variance, scaled and shifted. -/
def norm (v g b : Fin 1024 → EReal) (j : Fin 1024) : EReal :=
  Ideal.div (v j - mean v) (Ideal.sqrt (variance v + eps)) * g j + b j

/-- A row times a matrix. -/
def mul {n p : ℕ} (v : Fin n → EReal) (w : Fin n → Fin p → EReal) (j : Fin p) : EReal := ∑ k, v k * w k j

/-- The tanh form of the GELU. -/
def gelu (z : EReal) : EReal :=
  z * (Ideal.ofBits .f32 0x3F000000#32 * (Ideal.ofBits .f32 0x3F800000#32 + Ideal.tanh
    (Ideal.ofBits .f32 0x3F4C422A#32 * (z + Ideal.ofBits .f32 0x3D372713#32 * (z * (z * z))))))

/-- The gated hidden row of the feed-forward layer. -/
def hidden (v : Fin 1024 → EReal) (wg w1 : Fin 1024 → Fin 4096 → EReal) (j : Fin 4096) : EReal :=
  Ideal.logistic (mul v wg j) * gelu (mul v w1 j)

/-- The row after attention: its projection by the output matrix, added to the incoming row. -/
def resid (c x : Fin 1024 → EReal) (wo : Fin 1024 → Fin 1024 → EReal) (j : Fin 1024) : EReal := mul c wo j + x j

/-- The row after the feed-forward layer. -/
def ffn (c x : Fin 1024 → EReal) (wo : Fin 1024 → Fin 1024 → EReal) (g b : Fin 1024 → EReal)
    (wg w1 : Fin 1024 → Fin 4096 → EReal) (w2 : Fin 4096 → Fin 1024 → EReal) (j : Fin 1024) : EReal :=
  resid c x wo j + mul (hidden (norm (resid c x wo) g b) wg w1) w2 j

/-- The number of entries of all rows, 2^22, as the programs write it. -/
def count : EReal := Ideal.ofBits .f32 0x4A800000#32

/-- Row `n` of a [2, 2048, 1024] array taken as 4096 rows. -/
def flat (a : (⟨3, ![2, 2048, 1024]⟩ : Shape).Idx → EReal) (n : Fin 4096) (k : Fin 1024) : EReal :=
  a (ix3 ⟨n.val / 2048, by omega⟩ ⟨n.val % 2048, by omega⟩ k)

/-- Row `r` of the `t`-th of eight blocks of 512 rows. -/
def pos (t : ℕ) (h : t < 8) (r : Fin 512) : Fin 4096 := ⟨512 * t + r.val, by omega⟩

/-- A sum over rows, block by block. -/
theorem sum_blocks {A B N : ℕ} (h : A * B = N) (f : Fin N → EReal) :
    ∑ n, f n = ∑ a : Fin A, ∑ b : Fin B, f ⟨B * a.val + b.val, by
      have := Nat.mul_le_mul_left B (Nat.succ_le_of_lt a.isLt); have := b.isLt; rw [Nat.mul_succ, Nat.mul_comm B A, h] at *; omega⟩ := by
  subst h
  rw [← Equiv.sum_comp finProdFinEquiv f, Fintype.sum_prod_type]
  refine Finset.sum_congr rfl fun a _ => Finset.sum_congr rfl fun b _ => congrArg f (Fin.ext ?_)
  show b.val + B * a.val = B * a.val + b.val
  exact Nat.add_comm _ _

/-- Row `s` of batch `b`, of the 4096. -/
theorem flat_batch (a : (⟨3, ![2, 2048, 1024]⟩ : Shape).Idx → EReal) (b : Fin 2) (s : Fin 2048) (h : 2048 * b.val + s.val < 4096) :
    flat a ⟨2048 * b.val + s.val, h⟩ = fun k => a (ix3 b s k) := by
  funext k
  unfold flat
  congr 2 <;> refine Fin.ext ?_ <;> dsimp only <;> omega

/-- The sum of the squares of all entries. -/
def squares (f : Fin 4096 → Fin 1024 → EReal) : EReal := ∑ n, ∑ j, f n j * f n j

/-- A reconstructed row: the offset, the row's sparse combination of the dictionary, and the bias. -/
def recon (sparse : Fin 4096 → EReal) (offset bias : Fin 1024 → EReal) (dict : Fin 4096 → Fin 1024 → EReal) (j : Fin 1024) : EReal :=
  offset j + mul sparse dict j + bias j

/-- Row `r` of the `t`-th of sixteen blocks of 256 rows. -/
def pos16 (t : ℕ) (h : t < 16) (r : Fin 256) : Fin 4096 := ⟨256 * t + r.val, by omega⟩

/-- The largest of a row's entries. -/
def top {n : ℕ} (v : Fin n → EReal) : EReal := Finset.fold max (Ideal.ofBits .f32 0xFF800000#32) v Finset.univ

/-- The softmax of a row, shifted by its largest entry. -/
def softmax {n : ℕ} (v : Fin n → EReal) (j : Fin n) : EReal :=
  Ideal.div (Ideal.exp (v j - top v)) (∑ i, Ideal.exp (v i - top v))

/-- The largest entry is at least the starting value. -/
theorem max_top {n : ℕ} (v : Fin n → EReal) : max (Ideal.ofBits .f32 0xFF800000#32) (top v) = top v :=
  max_eq_right ((Finset.le_fold_max _).mpr (Or.inl le_rfl))

/-- Feature `d` of head `h`, of sixteen heads of 64 features. -/
def feature (h : Fin 16) (d : Fin 64) : Fin 1024 := ⟨64 * h.val + d.val, by omega⟩

/-- How much row `s` of the queries attends to row `t` of the keys, in one head. -/
def score (q k : (⟨3, ![2, 2048, 1024]⟩ : Shape).Idx → EReal) (b : Fin 2) (h : Fin 16) (s t : Fin 2048) : EReal :=
  (∑ d, q (ix3 b s (feature h d)) * k (ix3 b t (feature h d))) * Ideal.ofBits .f32 0x3E000000#32

/-- The attention weights of a row: the softmax of its scores. -/
def attend (q k : (⟨3, ![2, 2048, 1024]⟩ : Shape).Idx → EReal) (b : Fin 2) (h : Fin 16) (s : Fin 2048) : Fin 2048 → EReal :=
  softmax (score q k b h s)

/-- A head's context: the values' rows, weighted. -/
def context (q k v : (⟨3, ![2, 2048, 1024]⟩ : Shape).Idx → EReal) (b : Fin 2) (h : Fin 16) (s : Fin 2048) (d : Fin 64) : EReal :=
  ∑ t, attend q k b h s t * v (ix3 b t (feature h d))

/-- Dividing by the root of 64 is multiplying by an eighth. -/
theorem eighth (x : EReal) : Ideal.div x (Ideal.sqrt (Ideal.ofBits .f32 0x42800000#32)) = x * Ideal.ofBits .f32 0x3E000000#32 := by
  have h64 : Ideal.ofBits .f32 0x42800000#32 = ((64 : ℝ) : EReal) := by
    simp [Ideal.ofBits, Ideal.ieee, -EReal.coe_mul]
    norm_num
  have h8 : Ideal.ofBits .f32 0x3E000000#32 = ((1 / 8 : ℝ) : EReal) := by
    simp [Ideal.ofBits, Ideal.ieee, -EReal.coe_mul]
    norm_num
  have hr : Ideal.sqrt ((64 : ℝ) : EReal) = ((8 : ℝ) : EReal) := by
    have e : Real.sqrt 64 = 8 := by rw [show (64 : ℝ) = 8 ^ 2 by norm_num]; exact Real.sqrt_sq (by norm_num)
    show (if (64 : ℝ) < 0 then (⊥ : EReal) else ((Real.sqrt 64 : ℝ) : EReal)) = _
    rw [if_neg (by norm_num), e]
  rw [h64, hr, h8, Ideal.div_coe (by norm_num)]

/-- The [2, 2048, 1024] array's cells in row-major order are those of the 4096 rows. -/
theorem flat_eq (a : Vec Ideal ⟨3, ![2, 2048, 1024]⟩ .f32) (h : (⟨3, ![2, 2048, 1024]⟩ : Shape).ShapeCasts ⟨2, ![4096, 1024]⟩) (n : Fin 4096) (k : Fin 1024) :
    shapeCast (s := ⟨3, ![2, 2048, 1024]⟩) ⟨2, ![4096, 1024]⟩ a h (ix2 n k) = flat a n k := by
  refine shapeCast_apply _ _ _ _ ?_
  rw [Shape.rowMajor_val_three, Shape.rowMajor_val_two]
  show (n.val / 2048 * 2048 + n.val % 2048) * 1024 + k.val = n.val * 1024 + k.val
  omega

/-- A vector as one row. -/
theorem row_eq {n : ℕ} (a : Vec Ideal ⟨1, ![n]⟩ .f32) (h : (⟨1, ![n]⟩ : Shape).ShapeCasts ⟨2, ![1, n]⟩) (k : Fin n) :
    shapeCast (s := ⟨1, ![n]⟩) ⟨2, ![1, n]⟩ a h (ix2 0 k) = a (ix1 k) := by
  refine shapeCast_apply _ _ _ _ ?_
  rw [Shape.rowMajor_val_one, Shape.rowMajor_val_two]
  show k.val = 0 * n + k.val
  omega

/-- The number of features is positive. -/
theorem width_pos : (0 : EReal) < width := by
  unfold width
  simp [Ideal.ofBits, Ideal.ieee, -EReal.coe_mul]

/-- The integer zero as a float. -/
theorem sitofp_zero : FloatOps.sitofp (F := Ideal) .f32 (0#32) = 0 := by
  show (((0#32 : BitVec 32).toInt : ℝ) : EReal) = 0
  simp

/-- A scalar as a one-by-one array. -/
theorem one_eq {α : Type} (a : (⟨0, ![]⟩ : Shape).Idx → α) (h : (⟨0, ![]⟩ : Shape).ShapeCasts ⟨2, ![1, 1]⟩) (i : (⟨2, ![1, 1]⟩ : Shape).Idx) :
    shapeCast (s := ⟨0, ![]⟩) ⟨2, ![1, 1]⟩ a h i = a ix0 := by
  refine shapeCast_apply _ _ _ _ ?_
  have h : ((⟨0, ![]⟩ : Shape).rowMajor ix0).val < 1 := ((⟨0, ![]⟩ : Shape).rowMajor ix0).isLt
  have h' : ((⟨2, ![1, 1]⟩ : Shape).rowMajor i).val < 1 := ((⟨2, ![1, 1]⟩ : Shape).rowMajor i).isLt
  exact (Nat.lt_one_iff.mp h).trans (Nat.lt_one_iff.mp h').symm

end Cert.Spec
-- ==== Proof.FfnRow.lean ====
/-
  One grid point of the feed-forward kernel, read at a row: its row block's row `r` is the feed-forward layer of row `r`
  of the attention context and of the incoming features, and its energy is the sum of squares over the block.
-/
module

public import proofs.«01_k».proof.Proof.FfnBlock
public import proofs.«01_k».proof.Proof.Spec

@[expose] public section

noncomputable section

open Idealize.ShloMosaic

namespace Cert.FfnIdeal.Row

open Cert.FfnIdeal Cert.FfnIdeal.Gen Cert.Spec

variable (ctx : Vec Ideal S512x1024 .f32) (wo : Vec Ideal S1024x1024 .bf16) (x : Vec Ideal S512x1024 .f32)
  (g b : Vec Ideal S1x1024 .f32) (wg w1 : Vec Ideal S1024x4096 .bf16) (w2 : Vec Ideal S4096x1024 .bf16)

/-- The row after attention. -/
theorem resid_apply (r : Fin 512) (j : Fin 1024) :
    k0_pay1 ctx wo x (ix2 r j) = resid (fun k => ctx (ix2 r k)) (fun k => x (ix2 r k)) (fun k l => wo (ix2 k l)) j := by
  pointwise [k0_pay1, resid, mul]

/-- The row's mean. -/
theorem mean_apply (r : Fin 512) (z : Fin 1) :
    k0_pay7 ctx wo x (ix2 r z) = mean (resid (fun k => ctx (ix2 r k)) (fun k => x (ix2 r k)) (fun k l => wo (ix2 k l))) := by
  unfold k0_pay7 mean width
  pointwise
  simp only [resid_apply]

/-- The row block at a row. -/
theorem rows_apply (r : Fin 512) (j : Fin 1024) :
    Block.rows ctx wo x g b wg w1 w2 (ix2 r j) = ffn (fun k => ctx (ix2 r k)) (fun k => x (ix2 r k)) (fun k l => wo (ix2 k l))
      (fun k => g (ix2 0 k)) (fun k => b (ix2 0 k)) (fun k l => wg (ix2 k l)) (fun k l => w1 (ix2 k l)) (fun k l => w2 (ix2 k l)) j := by
  unfold Block.rows k0_pay9 k0_pay8 k0_pay5 k0_pay6
  pointwise [resid_apply, mean_apply]
  simp only [ffn, mul, Cert.Spec.hidden, Cert.Spec.norm, gelu, variance, width, eps, Ideal.ofBits_one_f32]

end Cert.FfnIdeal.Row
-- ==== Proof.FfnEntry.lean ====
/-
  The feed-forward kernel's input blocks, read from the arguments: the two row arrays by blocks of 512 rows, the weights
  and the norm's two rows whole at every point.
-/
module

public import proofs.«01_k».proof.Proof.FfnRow
public import Idealize.ShloMosaic.Lib.Claim
public import Idealize.ShloMosaic.Lib.Pipeline.ValueKit.Geometry

@[expose] public section

noncomputable section

open Idealize.ShloMosaic Idealize.ShloMosaic.TcCoe

namespace Cert.FfnIdeal.Entry

open Cert.FfnIdeal Cert.FfnIdeal.Gen Cert.Spec

variable (m : (ℓ : Loc nD τ sig) → Buf (Elt Ideal) ℓ) (c : Dev nD) (t : Fin cfg0.N)

theorem lt8 (t : Fin cfg0.N) : t.val < 8 := t.isLt

theorem index0 : ∀ t : Fin cfg0.N, win0_0.index t = ![t.val, 0] :=
  (by decide +kernel : ∀ t : Fin grid0.N, win0_0.index t = ![t.val, 0])

theorem index1 : ∀ t : Fin cfg0.N, win0_1.index t = ![0, 0] :=
  (by decide +kernel : ∀ t : Fin grid0.N, win0_1.index t = ![0, 0])

theorem index2 : ∀ t : Fin cfg0.N, win0_2.index t = ![t.val, 0] :=
  (by decide +kernel : ∀ t : Fin grid0.N, win0_2.index t = ![t.val, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem index7 : ∀ t : Fin cfg0.N, win0_7.index t = ![0, 0] :=
  (by decide +kernel : ∀ t : Fin grid0.N, win0_7.index t = ![0, 0])

theorem index8 : ∀ t : Fin cfg0.N, win0_8.index t = ![t.val, 0] :=
  (by decide +kernel : ∀ t : Fin grid0.N, win0_8.index t = ![t.val, 0])

/-- The block of the attention context. -/
theorem ctx_at (r : Fin 512) (k : Fin 1024) : iblk m c 0 t (ix2 r k) = flat (m ((c.tc : Thread nD τ).loc main_arg0)) (pos t.val (lt8 t) r) k := by
  have e : ((View.whole main_v1).slice (win0_0.rect t)).emb (ix2 r k) = ix2 (pos t.val (lt8 t) r) k := by blk_ext [index0, pos]
  blk_simp [iblk]
  entry_read
  rw [e]
  exact flat_eq _ _ _ _

/-- The block of the incoming features. -/
theorem x_at (r : Fin 512) (k : Fin 1024) : iblk m c 2 t (ix2 r k) = flat (m ((c.tc : Thread nD τ).loc main_arg1)) (pos t.val (lt8 t) r) k := by
  have e : ((View.whole main_v0).slice (win0_2.rect t)).emb (ix2 r k) = ix2 (pos t.val (lt8 t) r) k := by blk_ext [index2, pos]
  blk_simp [iblk]
  entry_read
  rw [e]
  exact flat_eq _ _ _ _

/-- The output projection. -/
theorem wo_at (k : Fin 1024) (l : Fin 1024) : iblk m c 1 t (ix2 k l) = m ((c.tc : Thread nD τ).loc main_arg2) (ix2 k l) := by
  have e : ((View.whole main_v2).slice (win0_1.rect t)).emb (ix2 k l) = ix2 k l := by blk_ext [index1, pos]
  blk_simp [iblk]
  entry_read
  rw [e]
  rfl

/-- The gate weights. -/
theorem wg_at (k : Fin 1024) (l : Fin 4096) : iblk m c 5 t (ix2 k l) = m ((c.tc : Thread nD τ).loc main_arg6) (ix2 k l) := by
  have e : ((View.whole main_v5).slice (win0_5.rect t)).emb (ix2 k l) = ix2 k l := by blk_ext [index5, pos]
  blk_simp [iblk]
  entry_read
  rw [e]
  rfl

/-- The first layer. -/
theorem w1_at (k : Fin 1024) (l : Fin 4096) : iblk m c 6 t (ix2 k l) = m ((c.tc : Thread nD τ).loc main_arg5) (ix2 k l) := by
  have e : ((View.whole main_v6).slice (win0_6.rect t)).emb (ix2 k l) = ix2 k l := by blk_ext [index6, pos]
  blk_simp [iblk]
  entry_read
  rw [e]
  rfl

/-- The second layer. -/
theorem w2_at (k : Fin 4096) (l : Fin 1024) : iblk m c 7 t (ix2 k l) = m ((c.tc : Thread nD τ).loc main_arg7) (ix2 k l) := by
  have e : ((View.whole main_v7).slice (win0_7.rect t)).emb (ix2 k l) = ix2 k l := by blk_ext [index7, pos]
  blk_simp [iblk]
  entry_read
  rw [e]
  rfl

/-- The norm's scale. -/
theorem g_at (k : Fin 1024) : iblk m c 3 t (ix2 0 k) = m ((c.tc : Thread nD τ).loc main_arg3) (ix1 k) := by
  have e : ((View.whole main_v3).slice (win0_3.rect t)).emb (ix2 0 k) = ix2 0 k := by blk_ext [index3, pos]
  blk_simp [iblk]
  entry_read
  rw [e]
  exact row_eq _ _ _

/-- The norm's shift. -/
theorem b_at (k : Fin 1024) : iblk m c 4 t (ix2 0 k) = m ((c.tc : Thread nD τ).loc main_arg4) (ix1 k) := by
  have e : ((View.whole main_v4).slice (win0_4.rect t)).emb (ix2 0 k) = ix2 0 k := by blk_ext [index4, pos]
  blk_simp [iblk]
  entry_read
  rw [e]
  exact row_eq _ _ _

end Cert.FfnIdeal.Entry
-- ==== Proof.FfnArray.lean ====
/-
  What the feed-forward kernel leaves in its two result arrays, as functions of the arguments: the layer at every row of
  the 4096, and the mean square of the rows after attention.
-/
module

public import proofs.«01_k».proof.Proof.FfnEntry
public import Idealize.ShloMosaic.Lib.Pipeline.ValueKit.Acc

@[expose] public section

noncomputable section

open Idealize.ShloMosaic Idealize.ShloMosaic.TcCoe Idealize.ShloMosaic.Pipeline

namespace Cert.FfnIdeal.Array

open Cert.FfnIdeal Cert.FfnIdeal.Gen Cert.Spec Cert.FfnIdeal.Entry

variable (m : (ℓ : Loc nD τ sig) → Buf (Elt Ideal) ℓ) (c : Dev nD)

/-- The rows after attention, from the arguments. -/
def after (n : Fin 4096) : Fin 1024 → EReal :=
  resid (flat (m ((c.tc : Thread nD τ).loc main_arg0)) n) (flat (m ((c.tc : Thread nD τ).loc main_arg1)) n)
    (fun k l => m ((c.tc : Thread nD τ).loc main_arg2) (ix2 k l))

/-- The layer's result, from the arguments. -/
def out : S4096x1024.Idx → EReal := fun i =>
  ffn (flat (m ((c.tc : Thread nD τ).loc main_arg0)) (i 0)) (flat (m ((c.tc : Thread nD τ).loc main_arg1)) (i 0))
    (fun k l => m ((c.tc : Thread nD τ).loc main_arg2) (ix2 k l)) (fun k => m ((c.tc : Thread nD τ).loc main_arg3) (ix1 k))
    (fun k => m ((c.tc : Thread nD τ).loc main_arg4) (ix1 k)) (fun k l => m ((c.tc : Thread nD τ).loc main_arg6) (ix2 k l))
    (fun k l => m ((c.tc : Thread nD τ).loc main_arg5) (ix2 k l)) (fun k l => m ((c.tc : Thread nD τ).loc main_arg7) (ix2 k l)) (i 1)

/-- Every point leaves its row block. -/
theorem block_eq (t : Fin cfg0.N) : (outsAt0 m c t.val t.isLt).1 =
    Block.rows (iblk m c 0 t) (iblk m c 1 t) (iblk m c 2 t) (iblk m c 3 t) (iblk m c 4 t) (iblk m c 5 t) (iblk m c 6 t) (iblk m c 7 t) := by
  by_cases h0 : t.val % 8 = 0
  · rw [Block.first m c t h0 (by omega)]
  · by_cases h1 : t.val % 8 = 7
    · rw [Block.last m c t h0 h1]
    · rw [Block.inner m c t h0 h1]

/-- The result array is the layer. -/
theorem final_out : (dats m 0 c).arrAt 8 cfg0.N = out m c := by
  refine (dats m 0 c).arrAt_eq_of_covers 8 _ (by decide +kernel) fun t hf y => ?_
  blk_simp
  rw [after0_8, block_eq]
  obtain ⟨r, j, rfl⟩ : ∃ (r : Fin 512) (j : Fin 1024), y = ix2 r j := ⟨y 0, y 1, eq_ix2 y⟩
  have e : ((View.whole main_v8_0).slice (win0_8.rect t)).emb (ix2 r j) = ix2 (pos t.val (lt8 t) r) j := by blk_ext [index8, pos]
  rw [Row.rows_apply, e]
  simp only [ctx_at, x_at, wo_at, wg_at, w1_at, w2_at, g_at, b_at]
  rfl

/-- One block's energy: the squares of its 512 rows after attention. -/
def part (t : Fin 8) : EReal := ∑ r : Fin 512, ∑ j : Fin 1024, after m c (pos t.val t.isLt r) j * after m c (pos t.val t.isLt r) j

/-- A point adds its block's energy to what it is given. -/
theorem add_part (t : Fin cfg0.N) (acc : Vec Ideal S1x1 .f32) (z w : Fin 1) :
    k0_pay3 (iblk m c 0 t) (iblk m c 1 t) (iblk m c 2 t) acc (ix2 z w) = acc (ix2 z w) + part m c ⟨t.val, lt8 t⟩ := by
  unfold k0_pay3
  pointwise [Row.resid_apply]
  simp only [ctx_at, x_at, wo_at]
  rfl

/-- The energy carried after `n + 1` points. -/
theorem carried (n : ℕ) (h : n < cfg0.N) (h7 : n < 7) (z w : Fin 1) :
    (outsAt0 m c n h).2 (ix2 z w) = ∑ t : Fin (n + 1), part m c ⟨t.val, by omega⟩ := by
  induction n with
  | zero =>
    have e := Block.first m c ⟨0, h⟩ rfl (by dsimp only; omega)
    rw [show outsAt0 m c 0 h = _ from e]
    dsimp only
    rw [add_part]
    unfold k0_pay2
    pointwise
    simp
  | succ n ih =>
    have e := Block.inner m c ⟨n + 1, h⟩ (by dsimp only; omega) (by dsimp only; omega)
    rw [show outsAt0 m c (n + 1) h = _ from e]
    dsimp only
    rw [add_part, Fin.sum_univ_castSucc]
    refine congrArg (· + _) ?_
    exact ih (by omega) (by omega)

/-- The carried sum over the number of entries. -/
theorem over_count (acc : Vec Ideal S1x1 .f32) (z w : Fin 1) : k0_pay4 acc (ix2 z w) = Ideal.div (acc (ix2 z w)) count := by
  unfold k0_pay4 Cert.Spec.count
  pointwise

/-- The last point adds its block and divides by the number of entries. -/
theorem energy_last (h : 7 < cfg0.N) (i : S1x1.Idx) : (outsAt0 m c 7 h).2 i = Ideal.div (squares (after m c)) count := by
  obtain ⟨z, w, rfl⟩ : ∃ (z w : Fin 1), i = ix2 z w := ⟨i 0, i 1, eq_ix2 i⟩
  have e := Block.last m c ⟨7, h⟩ (by dsimp only; omega) rfl
  rw [show outsAt0 m c 7 h = _ from e]
  dsimp only
  rw [over_count, add_part]
  have e' := carried m c 6 (by omega) (by omega) z w
  rw [show (outsAt0 m c (7 - 1) _).2 (ix2 z w) = _ from e']
  unfold squares
  rw [sum_blocks (A := 8) (B := 512) rfl, Fin.sum_univ_castSucc (n := 7)]
  rfl

/-- The energy array is the mean square. -/
theorem final_energy : (dats m 0 c).arrAt 9 cfg0.N = fun _ => Ideal.div (squares (after m c)) count := by
  refine (dats m 0 c).arrAt_eq_of_after_last 9 ⟨7, by decide⟩ (by decide +kernel) _ fun j => ?_
  rw [after0_9]
  exact energy_last m c _ _

end Cert.FfnIdeal.Array
-- ==== Proof.FfnRef.lean ====
/-
  The feed-forward reference read at a row: it is the specification's layer at every row of the two batches, and its
  energy is the mean square of the row after attention over all entries.
-/
module
public import proofs.«01_k».proof.Proof.Spec
public import proofs.«01_k».proof.Proof.Gen.FfnRefIdeal.Read
public import Idealize.ShloMosaic.Lib.Pointwise
public import Idealize.ShloMosaic.Lib.IdealHost

@[expose] public section

noncomputable section

open Idealize.ShloMosaic

namespace Cert.FfnRefIdeal.Value

open Cert.FfnRefIdeal Cert.Spec Cert.FfnRefIdeal.Read

variable (x0 x1 : (⟨S2x2048x1024, .f32⟩ : BufTy).Contents (Elt Ideal)) (x2 : (⟨S1024x1024, .f32⟩ : BufTy).Contents (Elt Ideal))
  (x3 x4 : (⟨S1024, .f32⟩ : BufTy).Contents (Elt Ideal)) (x5 x6 : (⟨S1024x4096, .f32⟩ : BufTy).Contents (Elt Ideal))
  (x7 : (⟨S4096x1024, .f32⟩ : BufTy).Contents (Elt Ideal))

/-- The row after attention. -/
theorem resid_at (b : Fin 2) (s : Fin 2048) (j : Fin 1024) : val_main_v1 x0 x1 x2 (ix3 b s j) =
    resid (fun k => x0 (ix3 b s k)) (fun k => x1 (ix3 b s k)) (fun k l => x2 (ix2 k l)) j := by
  pointwise [val_main_v1, val_main_v0, resid, mul]
  exact add_comm _ _

/-- The row's mean. -/
theorem mean_at (b : Fin 2) (s : Fin 2048) (j : Fin 1) : val_main_v5 x0 x1 x2 (ix3 b s j) =
    mean (fun j => val_main_v1 x0 x1 x2 (ix3 b s j)) := by
  unfold val_main_v5 val_main_v4 val_main_v3 val_main_v2 val_main_cst val_main_cst_0
  pointwise
  rfl

/-- The count itself. -/
theorem count_eq (i : S_.Idx) : val_main_call0_v8 (F := Ideal) i = width := by
  unfold val_main_call0_v8 val_main_call0_v7 val_main_call0_cst_1 val_main_c width
  pointwise
  rw [sitofp_zero, sub_zero]

/-- The variance's divisor, a positive count, picks the quotient. -/
theorem count_pos (i : S_.Idx) : val_main_call0_v13 (F := Ideal) i = 1#1 := by
  unfold val_main_call0_v13 val_main_call0_cst_3
  pointwise [count_eq]
  rw [decide_eq_true width_pos]
  rfl

/-- The row's variance. -/
theorem variance_at (b : Fin 2) (s : Fin 2048) (j : Fin 1) : val_main_v6 x0 x1 x2 (ix3 b s j) =
    variance (fun j => val_main_v1 x0 x1 x2 (ix3 b s j)) := by
  unfold val_main_v6 val_main_call0_v12 val_main_call0_v11 val_main_call0_v10 val_main_call0_v9 val_main_call0_v6
    val_main_call0_v5 val_main_call0_v4 val_main_call0_v3 val_main_call0_v2 val_main_call0_v1 val_main_call0_v0
    val_main_call0_cst val_main_call0_cst_0 val_main_call0_cst_2
  pointwise [count_pos, count_eq]
  rfl

/-- The normalised row. -/
theorem norm_at (b : Fin 2) (s : Fin 2048) (j : Fin 1024) : val_main_v19 x0 x1 x2 x3 x4 (ix3 b s j) =
    norm (fun j => val_main_v1 x0 x1 x2 (ix3 b s j)) (fun k => x3 (ix1 k)) (fun k => x4 (ix1 k)) j := by
  unfold val_main_v19 val_main_v18 val_main_v17 val_main_v16 val_main_v15 val_main_v14 val_main_v13 val_main_v12 val_main_v11 val_main_v10 val_main_v9 val_main_v8 val_main_v7 val_main_cst_1
  pointwise [mean_at, variance_at]
  rfl

/-- The hidden row. -/
theorem hidden_at (b : Fin 2) (s : Fin 2048) (j : Fin 4096) : val_main_v44 x0 x1 x2 x3 x4 x5 x6 (ix3 b s j) =
    hidden (fun j => val_main_v19 x0 x1 x2 x3 x4 (ix3 b s j)) (fun k l => x6 (ix2 k l)) (fun k l => x5 (ix2 k l)) j := by
  unfold val_main_v44 val_main_v43 val_main_v42 val_main_v41 val_main_v40 val_main_v39 val_main_v38 val_main_v37 val_main_v36 val_main_v35 val_main_v34 val_main_v33 val_main_v32 val_main_v31 val_main_v29 val_main_v28 val_main_v27 val_main_v26 val_main_v25 val_main_v24
    val_main_cst_4 val_main_cst_5 val_main_cst_6 val_main_cst_7 val_main_cst_8 val_main_cst_9
  pointwise [val_main_v30, val_main_v23]
  unfold Cert.Spec.hidden gelu mul Ideal.logistic
  generalize (∑ x, val_main_v19 x0 x1 x2 x3 x4 (ix3 b s x) * x5 (ix2 x j)) = z
  rw [mul_comm (z * z) z, Ideal.ofBits_one_f32]

/-- The result at a row. -/
theorem ffn_at (b : Fin 2) (s : Fin 2048) (j : Fin 1024) : val_main_v46 x0 x1 x2 x3 x4 x5 x6 x7 (ix3 b s j) =
    ffn (fun k => x0 (ix3 b s k)) (fun k => x1 (ix3 b s k)) (fun k l => x2 (ix2 k l)) (fun k => x3 (ix1 k)) (fun k => x4 (ix1 k))
      (fun k l => x6 (ix2 k l)) (fun k l => x5 (ix2 k l)) (fun k l => x7 (ix2 k l)) j := by
  unfold val_main_v46 val_main_v45 ffn
  pointwise [hidden_at, norm_at, resid_at]
  rfl

/-- The energy: the mean square of the row after attention. -/
theorem energy_at (i : S1x1.Idx) : val_main_v48 x0 x1 x2 i =
    Ideal.div (squares fun n => resid (flat x0 n) (flat x1 n) (fun k l => x2 (ix2 k l))) count := by
  unfold val_main_v48
  refine (one_eq _ _ i).trans ?_
  rw [val_main_v22_apply, val_main_v21_apply, sum_idx3]
  unfold val_main_cst_2 val_main_v20 squares
  pointwise [resid_at]
  rw [sum_blocks (A := 2) (B := 2048) rfl]
  simp only [flat_batch]
  rfl

/-- The result at a row of the 4096. -/
theorem out_at (n : Fin 4096) (j : Fin 1024) : val_main_v47 x0 x1 x2 x3 x4 x5 x6 x7 (ix2 n j) =
    ffn (flat x0 n) (flat x1 n) (fun k l => x2 (ix2 k l)) (fun k => x3 (ix1 k)) (fun k => x4 (ix1 k))
      (fun k l => x6 (ix2 k l)) (fun k l => x5 (ix2 k l)) (fun k l => x7 (ix2 k l)) j := by
  rw [val_main_v47_apply]
  have e : idx_main_v47 (ix2 n j) = ix3 ⟨n.val / 2048, by omega⟩ ⟨n.val % 2048, by omega⟩ j := by
    funext a
    refine Fin.ext ?_
    match a with
    | ⟨0, _⟩ => show (n.val * 1024 + j.val) / 2097152 = n.val / 2048; omega
    | ⟨1, _⟩ => show (n.val * 1024 + j.val) / 1024 % 2048 = n.val % 2048; omega
    | ⟨2, _⟩ => show (n.val * 1024 + j.val) % 1024 = j.val; omega
  rw [e, ffn_at]
  rfl

end Cert.FfnRefIdeal.Value
-- ==== Proof.FfnClaim.lean ====
/-
  The feed-forward claim: the kernel's two arrays are the reference's.
-/
module

public import proofs.«01_k».proof.Proof.FfnArray
public import proofs.«01_k».proof.Proof.FfnRef
public import proofs.«01_k».proof.Defs
public import proofs.«01_k».proof.Proof.Gen.FfnRefIdeal

@[expose] public section

noncomputable section

open Idealize.ShloMosaic Idealize.ShloMosaic.TcCoe Idealize.SL.Sem

namespace Cert.Ffn.Equation

open Cert.FfnRefIdeal.Read

/-- From memories agreeing on the arguments, the kernel and the reference end with the same rows and the same energy. -/
theorem algebraic : Cert.algebraic_FfnIdeal_FfnRefIdeal (hFfnIdeal := Cert.FfnIdeal.Gen.facts) (hFfnRefIdeal := Cert.FfnRefIdeal.Gen.facts) := by
  intro m g m' g' _ hagree
  refine ⟨fun c => FfnIdeal.Array.out m c, fun c _ => Ideal.div (Spec.squares (FfnIdeal.Array.after m c)) Spec.count, ?_, ?_⟩
  · refine (θ_run _ _ _).mono (fun r h c => ?_) (Cert.FfnIdeal.Value.run_blocks m g)
    have hc := h c
    rw [FfnIdeal.Array.final_out, FfnIdeal.Array.final_energy] at hc
    exact hc
  · refine (θ_run _ _ _).mono (fun r h c => ?_) (Cert.FfnRefIdeal.Value.run m' g')
    obtain ⟨h0, h1, kept⟩ := h c
    obtain ⟨a0, a1, a2, a3, a4, a5, a6, a7⟩ := hagree c
    refine ⟨h0.trans ?_, h1.trans ?_, kept⟩
    · rw [val_main_v47_eq, a0, a1, a2, a3, a4, a5, a6, a7]
      funext i
      obtain ⟨n, j, rfl⟩ : ∃ (n : Fin 4096) (j : Fin 1024), i = ix2 n j := ⟨i 0, i 1, eq_ix2 i⟩
      exact FfnRefIdeal.Value.out_at _ _ _ _ _ _ _ _ n j
    · rw [val_main_v48_eq, a0, a1, a2]
      funext i
      exact FfnRefIdeal.Value.energy_at _ _ _ i

end Cert.Ffn.Equation
-- ==== Proof.QkvBlock.lean ====
/-
  What one grid point of the q/k/v kernel leaves in its four output blocks.

  Every point stores its q, k and v blocks whole, the same function of the point's input blocks in all three cases of the
  body; the one-element energy block is restarted at the first point, carried at the others and divided at the last.
-/
module

public import proofs.«01_k».proof.Proof.Gen.QkvIdeal.Value
public import Idealize.ShloMosaic.Lib.Tactic
public import Idealize.ShloMosaic.Lib.Pipeline.ValueKit.Acc

@[expose] public section

noncomputable section

open Idealize.ShloMosaic Idealize.ShloMosaic.TcCoe Idealize.ShloMosaic.Tactic Idealize.SL.Sem

namespace Cert.QkvIdeal.Block

open Cert.QkvIdeal Cert.QkvIdeal.Gen

variable {F : FTy → Type} [FloatOps F]
variable (m : (ℓ : Loc nD τ sig) → Buf (Elt F) ℓ)

/-- A projected block: the reconstructed rows, normalised, times one of the three weight matrices. -/
def proj (masked : Vec F S256x4096 .f32) (dict : Vec F S4096x1024 .f32) (basis : Vec F S256x1024 .f32)
    (bias g b : Vec F S1x1024 .f32) (w : Vec F S1024x1024 .f32) : Vec F S256x1024 .f32 :=
  k0_pay2 (k0_pay5 basis bias masked dict) (k0_pay9 g) (k0_pay10 b) (k0_pay11 basis bias masked dict) k0_pay12 w

/-- The q block a point leaves. -/
theorem q_eq (c : Dev nD) (t : Fin cfg0.N) : (outsAt0 m c t.val t.isLt).1 =
    proj (iblk m c 0 t) (iblk m c 1 t) (iblk m c 2 t) (iblk m c 3 t) (iblk m c 4 t) (iblk m c 5 t) (iblk m c 6 t) := by
  by_cases h0 : t.val % 16 = 0
  · rw [outsAt0_A m c t h0 (by omega)]; frame_out; rfl
  · by_cases h1 : t.val % 16 = 15
    · rw [outsAt0_C m c t h0 h1]; frame_out; rfl
    · rw [outsAt0_B m c t h0 h1]; frame_out; rfl

/-- The k block a point leaves. -/
theorem k_eq (c : Dev nD) (t : Fin cfg0.N) : (outsAt0 m c t.val t.isLt).2.1 =
    proj (iblk m c 0 t) (iblk m c 1 t) (iblk m c 2 t) (iblk m c 3 t) (iblk m c 4 t) (iblk m c 5 t) (iblk m c 7 t) := by
  by_cases h0 : t.val % 16 = 0
  · rw [outsAt0_A m c t h0 (by omega)]; frame_out; rfl
  · by_cases h1 : t.val % 16 = 15
    · rw [outsAt0_C m c t h0 h1]; frame_out; rfl
    · rw [outsAt0_B m c t h0 h1]; frame_out; rfl

/-- The v block a point leaves. -/
theorem v_eq (c : Dev nD) (t : Fin cfg0.N) : (outsAt0 m c t.val t.isLt).2.2.1 =
    proj (iblk m c 0 t) (iblk m c 1 t) (iblk m c 2 t) (iblk m c 3 t) (iblk m c 4 t) (iblk m c 5 t) (iblk m c 8 t) := by
  by_cases h0 : t.val % 16 = 0
  · rw [outsAt0_A m c t h0 (by omega)]; frame_out; rfl
  · by_cases h1 : t.val % 16 = 15
    · rw [outsAt0_C m c t h0 h1]; frame_out; rfl
    · rw [outsAt0_B m c t h0 h1]; frame_out; rfl

/-- The first point's energy: its block's, added to zero. -/
theorem energy_first (c : Dev nD) (t : Fin cfg0.N) (h0 : t.val % 16 = 0) : (outsAt0 m c t.val t.isLt).2.2.2 =
    k0_pay7 (iblk m c 2 t) (iblk m c 3 t) (iblk m c 0 t) (iblk m c 1 t) k0_pay6 := by
  rw [outsAt0_A m c t h0 (by omega)]; frame_out

/-- An inner point's energy: its block's, added to what the point before left. -/
theorem energy_inner (c : Dev nD) (t : Fin cfg0.N) (h0 : ¬t.val % 16 = 0) (h1 : ¬t.val % 16 = 15) :
    (outsAt0 m c t.val t.isLt).2.2.2 = k0_pay7 (iblk m c 2 t) (iblk m c 3 t) (iblk m c 0 t) (iblk m c 1 t)
      (outsAt0 m c (t.val - 1) (lt_of_le_of_lt (Nat.sub_le _ _) t.isLt)).2.2.2 := by
  rw [outsAt0_B m c t h0 h1]; frame_out

/-- The last point's energy: the same, divided by the number of entries. -/
theorem energy_last (c : Dev nD) (t : Fin cfg0.N) (h1 : t.val % 16 = 15) :
    (outsAt0 m c t.val t.isLt).2.2.2 = k0_pay8 (k0_pay7 (iblk m c 2 t) (iblk m c 3 t) (iblk m c 0 t) (iblk m c 1 t)
      (outsAt0 m c (t.val - 1) (lt_of_le_of_lt (Nat.sub_le _ _) t.isLt)).2.2.2) := by
  rw [outsAt0_C m c t (by omega) h1]; frame_out

end Cert.QkvIdeal.Block
-- ==== Proof.QkvRow.lean ====
/-
  One grid point of the q/k/v kernel, read at a row: each projected block's row `r` is the layer norm of the reconstructed
  row `r` times the weights.
-/
module

public import proofs.«01_k».proof.Proof.QkvBlock
public import proofs.«01_k».proof.Proof.Spec

@[expose] public section

noncomputable section

open Idealize.ShloMosaic

namespace Cert.QkvIdeal.Row

open Cert.QkvIdeal Cert.QkvIdeal.Gen Cert.Spec

variable (masked : Vec Ideal S256x4096 .f32) (dict : Vec Ideal S4096x1024 .f32) (basis : Vec Ideal S256x1024 .f32)
  (bias g b : Vec Ideal S1x1024 .f32) (w : Vec Ideal S1024x1024 .f32)

/-- The reconstructed row. -/
theorem recon_apply (r : Fin 256) (j : Fin 1024) : k0_pay5 basis bias masked dict (ix2 r j) =
    recon (fun k => masked (ix2 r k)) (fun k => basis (ix2 r k)) (fun k => bias (ix2 0 k)) (fun k l => dict (ix2 k l)) j := by
  pointwise [k0_pay5, recon, mul]
  exact add_right_comm _ _ _

/-- The row's sum. -/
theorem sum_apply (r : Fin 256) (z : Fin 1) : k0_pay11 basis bias masked dict (ix2 r z) =
    ∑ j, recon (fun k => masked (ix2 r k)) (fun k => basis (ix2 r k)) (fun k => bias (ix2 0 k)) (fun k l => dict (ix2 k l)) j := by
  unfold k0_pay11
  pointwise [recon_apply]

/-- The projected block at a row. -/
theorem proj_apply (r : Fin 256) (j : Fin 1024) : Block.proj masked dict basis bias g b w (ix2 r j) =
    mul (norm (recon (fun k => masked (ix2 r k)) (fun k => basis (ix2 r k)) (fun k => bias (ix2 0 k)) (fun k l => dict (ix2 k l)))
      (fun k => g (ix2 0 k)) (fun k => b (ix2 0 k))) (fun k l => w (ix2 k l)) j := by
  unfold Block.proj k0_pay2 k0_pay1 k0_pay12 k0_pay9 k0_pay10
  pointwise [recon_apply, sum_apply]
  simp only [mul, Cert.Spec.norm, variance, mean, width, eps]

end Cert.QkvIdeal.Row
-- ==== Proof.QkvEntry.lean ====
/-
  The q/k/v kernel's input blocks, read from the arguments: the coefficients and the offsets by blocks of 256 rows, the
  dictionary, the weights and the one-row vectors whole at every point.
-/
module

public import proofs.«01_k».proof.Proof.QkvRow
public import Idealize.ShloMosaic.Lib.Claim
public import Idealize.ShloMosaic.Lib.Pipeline.ValueKit.Geometry

@[expose] public section

noncomputable section

open Idealize.ShloMosaic Idealize.ShloMosaic.TcCoe

namespace Cert.QkvIdeal.Entry

open Cert.QkvIdeal Cert.QkvIdeal.Gen Cert.Spec

variable (m : (ℓ : Loc nD τ sig) → Buf (Elt Ideal) ℓ) (c : Dev nD) (t : Fin cfg0.N)

theorem lt16 (t : Fin cfg0.N) : t.val < 16 := t.isLt

theorem index0 : ∀ t : Fin cfg0.N, win0_0.index t = ![t.val, 0] :=
  (by decide +kernel : ∀ t : Fin grid0.N, win0_0.index t = ![t.val, 0])

theorem index1 : ∀ t : Fin cfg0.N, win0_1.index t = ![0, 0] :=
  (by decide +kernel : ∀ t : Fin grid0.N, win0_1.index t = ![0, 0])

theorem index2 : ∀ t : Fin cfg0.N, win0_2.index t = ![t.val, 0] :=
  (by decide +kernel : ∀ t : Fin grid0.N, win0_2.index t = ![t.val, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem index7 : ∀ t : Fin cfg0.N, win0_7.index t = ![0, 0] :=
  (by decide +kernel : ∀ t : Fin grid0.N, win0_7.index t = ![0, 0])

theorem index8 : ∀ t : Fin cfg0.N, win0_8.index t = ![0, 0] :=
  (by decide +kernel : ∀ t : Fin grid0.N, win0_8.index t = ![0, 0])

theorem index9 : ∀ t : Fin cfg0.N, win0_9.index t = ![t.val, 0] :=
  (by decide +kernel : ∀ t : Fin grid0.N, win0_9.index t = ![t.val, 0])

theorem index10 : ∀ t : Fin cfg0.N, win0_10.index t = ![t.val, 0] :=
  (by decide +kernel : ∀ t : Fin grid0.N, win0_10.index t = ![t.val, 0])

theorem index11 : ∀ t : Fin cfg0.N, win0_11.index t = ![t.val, 0] :=
  (by decide +kernel : ∀ t : Fin grid0.N, win0_11.index t = ![t.val, 0])

/-- The block of sparse coefficients. -/
theorem masked_at (r : Fin 256) (k : Fin 4096) : iblk m c 0 t (ix2 r k) = m ((c.tc : Thread nD τ).loc main_arg0) (ix2 (pos16 t.val (lt16 t) r) k) := by
  have e : ((View.whole main_arg0).slice (win0_0.rect t)).emb (ix2 r k) = ix2 (pos16 t.val (lt16 t) r) k := by blk_ext [index0, pos16]
  blk_simp [iblk]
  entry_read
  rw [e]

/-- The dictionary. -/
theorem dict_at (k : Fin 4096) (l : Fin 1024) : iblk m c 1 t (ix2 k l) = m ((c.tc : Thread nD τ).loc main_arg2) (ix2 k l) := by
  have e : ((View.whole main_arg2).slice (win0_1.rect t)).emb (ix2 k l) = ix2 k l := by blk_ext [index1, pos16]
  blk_simp [iblk]
  entry_read
  rw [e]

/-- The block of offsets. -/
theorem basis_at (r : Fin 256) (k : Fin 1024) : iblk m c 2 t (ix2 r k) = m ((c.tc : Thread nD τ).loc main_arg1) (ix2 (pos16 t.val (lt16 t) r) k) := by
  have e : ((View.whole main_arg1).slice (win0_2.rect t)).emb (ix2 r k) = ix2 (pos16 t.val (lt16 t) r) k := by blk_ext [index2, pos16]
  blk_simp [iblk]
  entry_read
  rw [e]

/-- The bias. -/
theorem bias_at (k : Fin 1024) : iblk m c 3 t (ix2 0 k) = m ((c.tc : Thread nD τ).loc main_arg3) (ix1 k) := by
  have e : ((View.whole main_v0).slice (win0_3.rect t)).emb (ix2 0 k) = ix2 0 k := by blk_ext [index3, pos16]
  blk_simp [iblk]
  entry_read
  rw [e]
  exact row_eq _ _ _

/-- The norm's scale. -/
theorem g_at (k : Fin 1024) : iblk m c 4 t (ix2 0 k) = m ((c.tc : Thread nD τ).loc main_arg4) (ix1 k) := by
  have e : ((View.whole main_v1).slice (win0_4.rect t)).emb (ix2 0 k) = ix2 0 k := by blk_ext [index4, pos16]
  blk_simp [iblk]
  entry_read
  rw [e]
  exact row_eq _ _ _

/-- The norm's shift. -/
theorem b_at (k : Fin 1024) : iblk m c 5 t (ix2 0 k) = m ((c.tc : Thread nD τ).loc main_arg5) (ix1 k) := by
  have e : ((View.whole main_v2).slice (win0_5.rect t)).emb (ix2 0 k) = ix2 0 k := by blk_ext [index5, pos16]
  blk_simp [iblk]
  entry_read
  rw [e]
  exact row_eq _ _ _

/-- The q weights. -/
theorem wq_at (k : Fin 1024) (l : Fin 1024) : iblk m c 6 t (ix2 k l) = m ((c.tc : Thread nD τ).loc main_arg6) (ix2 k l) := by
  have e : ((View.whole main_arg6).slice (win0_6.rect t)).emb (ix2 k l) = ix2 k l := by blk_ext [index6, pos16]
  blk_simp [iblk]
  entry_read
  rw [e]

/-- The k weights. -/
theorem wk_at (k : Fin 1024) (l : Fin 1024) : iblk m c 7 t (ix2 k l) = m ((c.tc : Thread nD τ).loc main_arg7) (ix2 k l) := by
  have e : ((View.whole main_arg7).slice (win0_7.rect t)).emb (ix2 k l) = ix2 k l := by blk_ext [index7, pos16]
  blk_simp [iblk]
  entry_read
  rw [e]

/-- The v weights. -/
theorem wv_at (k : Fin 1024) (l : Fin 1024) : iblk m c 8 t (ix2 k l) = m ((c.tc : Thread nD τ).loc main_arg8) (ix2 k l) := by
  have e : ((View.whole main_arg8).slice (win0_8.rect t)).emb (ix2 k l) = ix2 k l := by blk_ext [index8, pos16]
  blk_simp [iblk]
  entry_read
  rw [e]

end Cert.QkvIdeal.Entry
-- ==== Proof.QkvArray.lean ====
/-
  What the q/k/v kernel leaves in its four result arrays, as functions of the arguments: the three projections of the
  normalised reconstruction at every row of the 4096, and the mean square of the reconstruction.
-/
module

public import proofs.«01_k».proof.Proof.QkvEntry
public import Idealize.ShloMosaic.Lib.Pipeline.ValueKit.Acc

@[expose] public section

noncomputable section

open Idealize.ShloMosaic Idealize.ShloMosaic.TcCoe Idealize.ShloMosaic.Pipeline

namespace Cert.QkvIdeal.Array

open Cert.QkvIdeal Cert.QkvIdeal.Gen Cert.Spec Cert.QkvIdeal.Entry

variable (m : (ℓ : Loc nD τ sig) → Buf (Elt Ideal) ℓ) (c : Dev nD)

/-- The reconstructed rows, from the arguments. -/
def rows (n : Fin 4096) : Fin 1024 → EReal :=
  recon (fun k => m ((c.tc : Thread nD τ).loc main_arg0) (ix2 n k)) (fun k => m ((c.tc : Thread nD τ).loc main_arg1) (ix2 n k))
    (fun k => m ((c.tc : Thread nD τ).loc main_arg3) (ix1 k)) (fun k l => m ((c.tc : Thread nD τ).loc main_arg2) (ix2 k l))

/-- The reconstructed rows, normalised and projected by a weight matrix. -/
def out (w : S1024x1024.Idx → EReal) : S4096x1024.Idx → EReal := fun i =>
  mul (norm (rows m c (i 0)) (fun k => m ((c.tc : Thread nD τ).loc main_arg4) (ix1 k)) (fun k => m ((c.tc : Thread nD τ).loc main_arg5) (ix1 k)))
    (fun k l => w (ix2 k l)) (i 1)

/-- A point's projected block is the rows' projection at the block's rows. -/
theorem proj_at (t : Fin cfg0.N) (w' : Vec Ideal S1024x1024 .f32) (w : S1024x1024.Idx → EReal) (hw : ∀ k l, w' (ix2 k l) = w (ix2 k l))
    (r : Fin 256) (j : Fin 1024) :
    Block.proj (iblk m c 0 t) (iblk m c 1 t) (iblk m c 2 t) (iblk m c 3 t) (iblk m c 4 t) (iblk m c 5 t) w' (ix2 r j) =
      out m c w (ix2 (pos16 t.val (lt16 t) r) j) := by
  rw [Row.proj_apply]
  simp only [masked_at, dict_at, basis_at, bias_at, g_at, b_at, hw]
  rfl

/-- The q array. -/
theorem final_q : (dats m 0 c).arrAt 9 cfg0.N = out m c (m ((c.tc : Thread nD τ).loc main_arg6)) := by
  refine (dats m 0 c).arrAt_eq_of_covers 9 _ (by decide +kernel) fun t hf y => ?_
  blk_simp
  rw [after0_9, Block.q_eq]
  obtain ⟨r, j, rfl⟩ : ∃ (r : Fin 256) (j : Fin 1024), y = ix2 r j := ⟨y 0, y 1, eq_ix2 y⟩
  have e : ((View.whole main_v3_0).slice (win0_9.rect t)).emb (ix2 r j) = ix2 (pos16 t.val (lt16 t) r) j := by blk_ext [index9, pos16]
  rw [e]
  exact proj_at m c t _ _ (wq_at m c t) r j

/-- The k array. -/
theorem final_k : (dats m 0 c).arrAt 10 cfg0.N = out m c (m ((c.tc : Thread nD τ).loc main_arg7)) := by
  refine (dats m 0 c).arrAt_eq_of_covers 10 _ (by decide +kernel) fun t hf y => ?_
  blk_simp
  rw [after0_10, Block.k_eq]
  obtain ⟨r, j, rfl⟩ : ∃ (r : Fin 256) (j : Fin 1024), y = ix2 r j := ⟨y 0, y 1, eq_ix2 y⟩
  have e : ((View.whole main_v3_1).slice (win0_10.rect t)).emb (ix2 r j) = ix2 (pos16 t.val (lt16 t) r) j := by blk_ext [index10, pos16]
  rw [e]
  exact proj_at m c t _ _ (wk_at m c t) r j

/-- The v array. -/
theorem final_v : (dats m 0 c).arrAt 11 cfg0.N = out m c (m ((c.tc : Thread nD τ).loc main_arg8)) := by
  refine (dats m 0 c).arrAt_eq_of_covers 11 _ (by decide +kernel) fun t hf y => ?_
  blk_simp
  rw [after0_11, Block.v_eq]
  obtain ⟨r, j, rfl⟩ : ∃ (r : Fin 256) (j : Fin 1024), y = ix2 r j := ⟨y 0, y 1, eq_ix2 y⟩
  have e : ((View.whole main_v3_2).slice (win0_11.rect t)).emb (ix2 r j) = ix2 (pos16 t.val (lt16 t) r) j := by blk_ext [index11, pos16]
  rw [e]
  exact proj_at m c t _ _ (wv_at m c t) r j

/-- One block's energy: the squares of its 256 reconstructed rows. -/
def part (t : Fin 16) : EReal := ∑ r : Fin 256, ∑ j : Fin 1024, rows m c (pos16 t.val t.isLt r) j * rows m c (pos16 t.val t.isLt r) j

/-- A point adds its block's energy to what it is given. -/
theorem add_part (t : Fin cfg0.N) (acc : Vec Ideal S1x1 .f32) (z w : Fin 1) :
    k0_pay7 (iblk m c 2 t) (iblk m c 3 t) (iblk m c 0 t) (iblk m c 1 t) acc (ix2 z w) = acc (ix2 z w) + part m c ⟨t.val, lt16 t⟩ := by
  unfold k0_pay7
  pointwise [Row.recon_apply]
  simp only [masked_at, dict_at, basis_at, bias_at]
  rfl

/-- The energy carried after `n + 1` points. -/
theorem carried (n : ℕ) (h : n < cfg0.N) (h7 : n < 15) (z w : Fin 1) :
    (outsAt0 m c n h).2.2.2 (ix2 z w) = ∑ t : Fin (n + 1), part m c ⟨t.val, by omega⟩ := by
  induction n with
  | zero =>
    have e := Block.energy_first m c ⟨0, h⟩ rfl
    rw [show (outsAt0 m c 0 h).2.2.2 = _ from e, add_part]
    unfold k0_pay6
    pointwise
    simp
  | succ n ih =>
    have e := Block.energy_inner m c ⟨n + 1, h⟩ (by dsimp only; omega) (by dsimp only; omega)
    rw [show (outsAt0 m c (n + 1) h).2.2.2 = _ from e, add_part, Fin.sum_univ_castSucc]
    refine congrArg (· + _) ?_
    exact ih (by omega) (by omega)

/-- The carried sum over the number of entries. -/
theorem over_count (acc : Vec Ideal S1x1 .f32) (z w : Fin 1) : k0_pay8 acc (ix2 z w) = Ideal.div (acc (ix2 z w)) count := by
  unfold k0_pay8 Cert.Spec.count
  pointwise

/-- The last point adds its block and divides by the number of entries. -/
theorem energy_last (h : 15 < cfg0.N) (i : S1x1.Idx) : (outsAt0 m c 15 h).2.2.2 i = Ideal.div (squares (rows m c)) count := by
  obtain ⟨z, w, rfl⟩ : ∃ (z w : Fin 1), i = ix2 z w := ⟨i 0, i 1, eq_ix2 i⟩
  have e := Block.energy_last m c ⟨15, h⟩ rfl
  rw [show (outsAt0 m c 15 h).2.2.2 = _ from e, over_count, add_part]
  have e' := carried m c 14 (by omega) (by omega) z w
  rw [show (outsAt0 m c (15 - 1) _).2.2.2 (ix2 z w) = _ from e']
  unfold squares
  rw [sum_blocks (A := 16) (B := 256) rfl, Fin.sum_univ_castSucc (n := 15)]
  rfl

/-- The energy array is the mean square. -/
theorem final_energy : (dats m 0 c).arrAt 12 cfg0.N = fun _ => Ideal.div (squares (rows m c)) count := by
  refine (dats m 0 c).arrAt_eq_of_after_last 12 ⟨15, by decide⟩ (by decide +kernel) _ fun j => ?_
  rw [after0_12]
  exact energy_last m c _ _

end Cert.QkvIdeal.Array
-- ==== Proof.QkvRef.lean ====
/-
  The q/k/v reference read at a row: the three projections of the layer norm of the reconstructed row, and the mean
  square of the reconstruction over all entries.
-/
module

public import proofs.«01_k».proof.Proof.Spec
public import proofs.«01_k».proof.Proof.Gen.QkvRefIdeal.Read

@[expose] public section

noncomputable section

open Idealize.ShloMosaic

namespace Cert.QkvRefIdeal.Value

open Cert.QkvRefIdeal Cert.Spec Cert.QkvRefIdeal.Read

variable (x0 : (⟨S4096x4096, .f32⟩ : BufTy).Contents (Elt Ideal)) (x1 x2 : (⟨S4096x1024, .f32⟩ : BufTy).Contents (Elt Ideal))
  (x3 x4 x5 : (⟨S1024, .f32⟩ : BufTy).Contents (Elt Ideal)) (w : (⟨S1024x1024, .f32⟩ : BufTy).Contents (Elt Ideal))

/-- The reconstructed row. -/
theorem recon_at (n : Fin 4096) (j : Fin 1024) : val_main_v4 x0 x1 x2 x3 (ix2 n j) =
    recon (fun k => x0 (ix2 n k)) (fun k => x1 (ix2 n k)) (fun k => x3 (ix1 k)) (fun k l => x2 (ix2 k l)) j := by
  unfold val_main_v4 val_main_v3 val_main_v2 val_main_v1 val_main_v0
  pointwise
  rfl

/-- The row's mean. -/
theorem mean_at (n : Fin 4096) (z : Fin 1) : val_main_v8 x0 x1 x2 x3 (ix2 n z) = mean (fun j => val_main_v4 x0 x1 x2 x3 (ix2 n j)) := by
  unfold val_main_v8 val_main_v7 val_main_v6 val_main_v5 val_main_cst val_main_cst_0
  pointwise
  rfl

/-- The variance's divisor. -/
theorem divisor_eq (i : S_.Idx) : val_main_call0_v8 (F := Ideal) i = width := by
  unfold val_main_call0_v8 val_main_call0_v7 val_main_call0_cst_1 val_main_c width
  pointwise
  rw [sitofp_zero, sub_zero]

/-- The divisor, positive, picks the quotient. -/
theorem divisor_pos (i : S_.Idx) : val_main_call0_v13 (F := Ideal) i = 1#1 := by
  unfold val_main_call0_v13 val_main_call0_cst_3
  pointwise [divisor_eq]
  rw [decide_eq_true width_pos]
  rfl

/-- The row's variance. -/
theorem variance_at (n : Fin 4096) (z : Fin 1) : val_main_v9 x0 x1 x2 x3 (ix2 n z) =
    variance (fun j => val_main_v4 x0 x1 x2 x3 (ix2 n j)) := by
  unfold val_main_v9 val_main_call0_v12 val_main_call0_v11 val_main_call0_v10 val_main_call0_v9 val_main_call0_v6
    val_main_call0_v5 val_main_call0_v4 val_main_call0_v3 val_main_call0_v2 val_main_call0_v1 val_main_call0_v0
    val_main_call0_cst val_main_call0_cst_0 val_main_call0_cst_2
  pointwise [divisor_pos, divisor_eq]
  rfl

/-- The normalised row. -/
theorem norm_at (n : Fin 4096) (j : Fin 1024) : val_main_v22 x0 x1 x2 x3 x4 x5 (ix2 n j) =
    norm (fun j => val_main_v4 x0 x1 x2 x3 (ix2 n j)) (fun k => x4 (ix1 k)) (fun k => x5 (ix1 k)) j := by
  unfold val_main_v22 val_main_v21 val_main_v20 val_main_v19 val_main_v18 val_main_v17 val_main_v16 val_main_v15
    val_main_v14 val_main_v13 val_main_v12 val_main_v11 val_main_v10 val_main_cst_1
  pointwise [mean_at, variance_at]
  rfl

/-- A projection of the normalised row: the same for each of the three weight matrices. -/
theorem proj_at (n : Fin 4096) (j : Fin 1024) : val_main_v26 x0 x1 x2 x3 x4 x5 w (ix2 n j) =
    mul (norm (recon (fun k => x0 (ix2 n k)) (fun k => x1 (ix2 n k)) (fun k => x3 (ix1 k)) (fun k l => x2 (ix2 k l)))
      (fun k => x4 (ix1 k)) (fun k => x5 (ix1 k))) (fun k l => w (ix2 k l)) j := by
  unfold val_main_v26
  pointwise [norm_at, recon_at]
  rfl

/-- The projected array. -/
theorem out_eq : val_main_v26 x0 x1 x2 x3 x4 x5 w = fun i : S4096x1024.Idx =>
    mul (norm (recon (fun k => x0 (ix2 (i 0) k)) (fun k => x1 (ix2 (i 0) k)) (fun k => x3 (ix1 k)) (fun k l => x2 (ix2 k l)))
      (fun k => x4 (ix1 k)) (fun k => x5 (ix1 k))) (fun k l => w (ix2 k l)) (i 1) := by
  funext i
  obtain ⟨n, j, rfl⟩ : ∃ (n : Fin 4096) (j : Fin 1024), i = ix2 n j := ⟨i 0, i 1, eq_ix2 i⟩
  exact proj_at x0 x1 x2 x3 x4 x5 w n j

/-- The energy: the mean square of the reconstruction. -/
theorem energy_at (i : S1x1.Idx) : val_main_v29 x0 x1 x2 x3 i =
    Ideal.div (squares fun n => recon (fun k => x0 (ix2 n k)) (fun k => x1 (ix2 n k)) (fun k => x3 (ix1 k)) (fun k l => x2 (ix2 k l))) count := by
  unfold val_main_v29
  refine (one_eq _ _ i).trans ?_
  rw [val_main_v25_apply, val_main_v24_apply, sum_idx2]
  unfold val_main_cst_2 val_main_v23 squares
  pointwise [recon_at]
  rfl

end Cert.QkvRefIdeal.Value
-- ==== Proof.QkvClaim.lean ====
/-
  The q/k/v claim: the kernel's four arrays are the reference's.
-/
module

public import proofs.«01_k».proof.Proof.QkvArray
public import proofs.«01_k».proof.Proof.QkvRef
public import proofs.«01_k».proof.Defs
public import proofs.«01_k».proof.Proof.Gen.QkvRefIdeal

@[expose] public section

noncomputable section

open Idealize.ShloMosaic Idealize.ShloMosaic.TcCoe Idealize.SL.Sem

namespace Cert.Qkv.Equation

open Cert.QkvRefIdeal.Read

/-- From memories agreeing on the arguments, the kernel and the reference end with the same q, k and v and the same energy. -/
theorem algebraic : Cert.algebraic_QkvIdeal_QkvRefIdeal (hQkvIdeal := Cert.QkvIdeal.Gen.facts) (hQkvRefIdeal := Cert.QkvRefIdeal.Gen.facts) := by
  intro m g m' g' _ hagree
  refine ⟨fun c => QkvIdeal.Array.out m c (m ((c.tc : Thread QkvIdeal.nD QkvIdeal.τ).loc QkvIdeal.main_arg6)),
    fun c => QkvIdeal.Array.out m c (m ((c.tc : Thread QkvIdeal.nD QkvIdeal.τ).loc QkvIdeal.main_arg7)),
    fun c => QkvIdeal.Array.out m c (m ((c.tc : Thread QkvIdeal.nD QkvIdeal.τ).loc QkvIdeal.main_arg8)),
    fun c _ => Ideal.div (Spec.squares (QkvIdeal.Array.rows m c)) Spec.count, ?_, ?_⟩
  · refine (θ_run _ _ _).mono (fun r h c => ?_) (Cert.QkvIdeal.Value.run_blocks m g)
    have hc := h c
    rw [QkvIdeal.Array.final_q, QkvIdeal.Array.final_k, QkvIdeal.Array.final_v, QkvIdeal.Array.final_energy] at hc
    exact hc
  · refine (θ_run _ _ _).mono (fun r h c => ?_) (Cert.QkvRefIdeal.Value.run m' g')
    obtain ⟨h0, h1, h2, h3, kept⟩ := h c
    obtain ⟨a0, a1, a2, a3, a4, a5, a6, a7, a8⟩ := hagree c
    refine ⟨h0.trans ?_, h1.trans ?_, h2.trans ?_, h3.trans ?_, kept⟩
    · rw [val_main_v26_eq, a0, a1, a2, a3, a4, a5, a6]
      exact QkvRefIdeal.Value.out_eq _ _ _ _ _ _ _
    · rw [val_main_v27_eq, a0, a1, a2, a3, a4, a5, a7]
      exact QkvRefIdeal.Value.out_eq _ _ _ _ _ _ _
    · rw [val_main_v28_eq, a0, a1, a2, a3, a4, a5, a8]
      exact QkvRefIdeal.Value.out_eq _ _ _ _ _ _ _
    · rw [val_main_v29_eq, a0, a1, a2, a3]
      funext i
      exact QkvRefIdeal.Value.energy_at _ _ _ _ i

end Cert.Qkv.Equation
-- ==== Proof.AttnBlock.lean ====
/-
  What one grid point of the attention kernel leaves in its two output blocks and in the two scratch arrays it carries.

  A point serves two heads and half of the rows. The scratch holds the two heads' keys (and values) stacked over one
  another, each beside zeros; it is filled at the even points and found unchanged at the odd ones.
-/
module

public import proofs.«01_k».proof.Proof.Gen.AttnIdeal.Value
public import Idealize.ShloMosaic.Lib.Tactic
public import Idealize.ShloMosaic.Lib.Pipeline.ValueKit.Acc
public import Idealize.ShloMosaic.Lib.Pipeline.ReadBack

@[expose] public section

noncomputable section

open Idealize.ShloMosaic Idealize.ShloMosaic.TcCoe Idealize.ShloMosaic.Tactic Idealize.SL.Sem

namespace Cert.AttnIdeal.Block

open Cert.AttnIdeal Cert.AttnIdeal.Gen

variable {F : FTy → Type} [FloatOps F]
variable (m : (ℓ : Loc nD τ sig) → Buf (Elt F) ℓ)

/-- The even point of the pair that `t` belongs to. -/
def base (t : Fin cfg0.N) : Fin cfg0.N := ⟨t.val - t.val % 2, lt_of_le_of_lt (Nat.sub_le _ _) t.isLt⟩

theorem base_even (t : Fin cfg0.N) (h : t.val % 2 = 0) : base t = t := Fin.ext (by unfold base; dsimp only; omega)

theorem base_odd (t : Fin cfg0.N) (h : ¬t.val % 2 = 0) :
    base ⟨t.val - 1, lt_of_le_of_lt (Nat.sub_le _ _) t.isLt⟩ = base t := Fin.ext (by unfold base; dsimp only; omega)

/-- The stacked keys after an even point. -/
theorem keys_even (c : Dev nD) (t : Fin cfg0.N) (h : t.val % 2 = 0) : (outsAt0 m c t.val t.isLt).2.2.1 = k0_pay4 (iblk m c 1 (base t)) := by
  rw [outsAt0_A m c t h, base_even t h]; frame_out

/-- The stacked values after an even point. -/
theorem values_even (c : Dev nD) (t : Fin cfg0.N) (h : t.val % 2 = 0) : (outsAt0 m c t.val t.isLt).2.2.2 = k0_pay5 (iblk m c 2 (base t)) := by
  rw [outsAt0_A m c t h, base_even t h]; frame_out

/-- What an odd point finds: the stacked keys of its pair. -/
theorem keys_before (c : Dev nD) (t : Fin cfg0.N) (h : ¬t.val % 2 = 0) (h') :
    (outsAt0 m c (t.val - 1) h').2.2.1 = k0_pay4 (iblk m c 1 (base t)) :=
  (keys_even m c ⟨t.val - 1, h'⟩ (by dsimp only; omega)).trans (by rw [base_odd t h])

/-- What an odd point finds: the stacked values of its pair. -/
theorem values_before (c : Dev nD) (t : Fin cfg0.N) (h : ¬t.val % 2 = 0) (h') :
    (outsAt0 m c (t.val - 1) h').2.2.2 = k0_pay5 (iblk m c 2 (base t)) :=
  (values_even m c ⟨t.val - 1, h'⟩ (by dsimp only; omega)).trans (by rw [base_odd t h])

/-- The block of attention weights, from the rows' block and the stacked keys: two heads stored one after the other. -/
def weights (q : Vec F S1x1024x128 .f32) (ks : Vec F S4096x128 .f32) : Vec F S1x2x1024x2048 .f32 :=
  View.canon [⟨Rect.unit ![0, 1, 0, 0] ![1, 1, 1024, 2048] inb_S1x2x1024x2048_S1x1x1024x2048_0_1_0_0, k0_pay1 (k0_pay8 q ks)⟩,
    ⟨Rect.unit ![0, 0, 0, 0] ![1, 1, 1024, 2048] inb_S1x2x1024x2048_S1x1x1024x2048_0_0_0_0, k0_pay9 q ks⟩]

/-- The weights a point leaves. -/
theorem weights_eq (c : Dev nD) (t : Fin cfg0.N) : (outsAt0 m c t.val t.isLt).1 =
    weights (iblk m c 0 t) (k0_pay4 (iblk m c 1 (base t))) := by
  by_cases h : t.val % 2 = 0
  · rw [outsAt0_A m c t h, base_even t h]; frame_out
  · rw [outsAt0_B m c t h]; frame_out; simp only [read_unread_whole, keys_before m c t h]

/-- The context block a point leaves. -/
theorem ctx_eq (c : Dev nD) (t : Fin cfg0.N) : (outsAt0 m c t.val t.isLt).2.1 =
    k0_pay2 (k0_pay7 (iblk m c 0 t) (k0_pay4 (iblk m c 1 (base t)))) (k0_pay8 (iblk m c 0 t) (k0_pay4 (iblk m c 1 (base t))))
      (k0_pay5 (iblk m c 2 (base t))) := by
  by_cases h : t.val % 2 = 0
  · rw [outsAt0_A m c t h, base_even t h]; frame_out
  · rw [outsAt0_B m c t h]; frame_out; simp only [read_unread_whole, keys_before m c t h, values_before m c t h]

end Cert.AttnIdeal.Block
-- ==== Proof.AttnRow.lean ====
/-
  One grid point of the attention kernel, read at a row.
-/
module

public import proofs.«01_k».proof.Proof.AttnBlock
public import proofs.«01_k».proof.Proof.Spec
public import Idealize.ShloMosaic.Lib.Pipeline.ValueKit.Tiles

@[expose] public section

noncomputable section

open Idealize.ShloMosaic

namespace Cert.AttnIdeal.Row

open Cert.AttnIdeal Cert.AttnIdeal.Gen Cert.Spec

variable (q : Vec Ideal S1x1024x128 .f32) (k v : Vec Ideal S1x2048x128 .f32) (ks vs : Vec Ideal S4096x128 .f32)

/-- The stacked keys: head `h`'s rows carry head `h`'s columns, and zeros in the other's. -/
theorem keys_apply (h e : Fin 2) (s : Fin 2048) (d : Fin 64) :
    k0_pay4 k (ix2 ⟨2048 * h.val + s.val, by omega⟩ ⟨64 * e.val + d.val, by omega⟩) =
      if h = e then k (ix3 0 s ⟨64 * e.val + d.val, by omega⟩) else 0 := by
  fin_cases h <;> fin_cases e <;> unfold k0_pay4 k0_pay3 <;> dsimp only [Nat.mul_zero, Nat.mul_one] <;> pointwise

/-- A sum over a stack's 128 columns: the columns of its own head. -/
theorem own_columns (h : Fin 2) (f : Fin 128 → EReal) (a : Fin 64 → EReal) :
    (∑ e : Fin 2, ∑ d : Fin 64, f ⟨64 * e.val + d.val, by omega⟩ * if h = e then a d else 0) =
      ∑ d : Fin 64, f ⟨64 * h.val + d.val, by omega⟩ * a d := by
  rw [Finset.sum_eq_single h (fun e _ he => Finset.sum_eq_zero fun d _ => by rw [if_neg (Ne.symm he), mul_zero]) (fun he => absurd (Finset.mem_univ _) he)]
  simp

/-- The scaled scores of head `h` of the point's two. -/
theorem score_apply (h : Fin 2) (r : Fin 1024) (s : Fin 2048) : k0_pay6 q (k0_pay4 k) (ix2 r ⟨2048 * h.val + s.val, by omega⟩) =
    (∑ d : Fin 64, q (ix3 0 r ⟨64 * h.val + d.val, by omega⟩) * k (ix3 0 s ⟨64 * h.val + d.val, by omega⟩)) *
      Ideal.ofBits .f32 0x3E000000#32 := by
  unfold k0_pay6
  pointwise
  rw [sum_blocks (A := 2) (B := 64) rfl]
  simp only [keys_apply]
  refine congrArg (· * _) ?_
  refine Eq.trans ?_ (own_columns h (fun x => q (ix3 0 r x)) (fun d => k (ix3 0 s ⟨64 * h.val + d.val, by omega⟩)))
  refine Finset.sum_congr rfl fun e _ => Finset.sum_congr rfl fun d _ => ?_
  by_cases he : h = e
  · subst he; rfl
  · simp only [if_neg he]

/-- The first head's weights. -/
theorem first_apply (r : Fin 1024) (s : Fin 2048) : k0_pay7 q ks (ix2 r s) =
    softmax (fun t : Fin 2048 => k0_pay6 q ks (ix2 r ⟨2048 * (0 : Fin 2).val + t.val, by dsimp only [Fin.val_zero]; omega⟩)) s := by
  unfold k0_pay7 softmax top
  pointwise

/-- The second head's weights. -/
theorem second_apply (r : Fin 1024) (s : Fin 2048) : k0_pay8 q ks (ix2 r s) =
    softmax (fun t : Fin 2048 => k0_pay6 q ks (ix2 r ⟨2048 * (1 : Fin 2).val + t.val, by dsimp only [Fin.val_one]; omega⟩)) s := by
  unfold k0_pay8 softmax top
  pointwise

/-- An index of one head's piece of the block, by its last two coordinates. -/
theorem piece_index (x : S1x1x1024x2048.Idx) (r : Fin 1024) (s : Fin 2048) (h2 : (x 2).val = r.val) (h3 : (x 3).val = s.val) :
    x = ix4 0 0 r s := by
  funext a
  match a with
  | ⟨0, _⟩ => exact Fin.ext (Nat.lt_one_iff.mp (x 0).isLt)
  | ⟨1, _⟩ => exact Fin.ext (Nat.lt_one_iff.mp (x 1).isLt)
  | ⟨2, _⟩ => exact Fin.ext h2
  | ⟨3, _⟩ => exact Fin.ext h3

/-- The point's weights: the softmax of the head's scores. -/
theorem weights_apply (h : Fin 2) (r : Fin 1024) (s : Fin 2048) : Block.weights q ks (ix4 0 h r s) =
    softmax (fun t : Fin 2048 => k0_pay6 q ks (ix2 r ⟨2048 * h.val + t.val, by omega⟩)) s := by
  unfold Block.weights
  canon_tiles x g
  · have e := piece_index x r s g2.symm g3.symm
    have eh : h = 1 := Fin.ext (by have : h.val = 1 + (x 1).val := g1; show h.val = 1; omega)
    subst eh
    rw [e]
    unfold k0_pay1
    pointwise [second_apply]
  · have e := piece_index x r s g2.symm g3.symm
    have eh : h = 0 := Fin.ext (by have : h.val = (x 1).val := g1; show h.val = 0; omega)
    subst eh
    rw [e]
    unfold k0_pay9
    pointwise [first_apply]

/-- The stacked values are laid out as the stacked keys. -/
theorem values_eq : k0_pay5 v = k0_pay4 v := rfl

/-- The context block: head `h`'s weights over its own values. -/
theorem ctx_apply (h : Fin 2) (r : Fin 1024) (d : Fin 64) :
    k0_pay2 (k0_pay7 q ks) (k0_pay8 q ks) (k0_pay5 v) (ix3 0 r ⟨64 * h.val + d.val, by omega⟩) =
      ∑ t : Fin 2048, softmax (fun t : Fin 2048 => k0_pay6 q ks (ix2 r ⟨2048 * h.val + t.val, by omega⟩)) t *
        v (ix3 0 t ⟨64 * h.val + d.val, by omega⟩) := by
  have e0 : ∀ t : Fin 2048, k0_pay4 v (ix2 ⟨t.val, by omega⟩ ⟨64 * h.val + d.val, by omega⟩) =
      if (0 : Fin 2) = h then v (ix3 0 t ⟨64 * h.val + d.val, by omega⟩) else 0 := fun t =>
    (congrArg (fun n => k0_pay4 v (ix2 n _)) (Fin.ext (Nat.zero_add t.val).symm)).trans (keys_apply v 0 h t d)
  have e1 : ∀ t : Fin 2048, k0_pay4 v (ix2 ⟨2048 + t.val, by omega⟩ ⟨64 * h.val + d.val, by omega⟩) =
      if (1 : Fin 2) = h then v (ix3 0 t ⟨64 * h.val + d.val, by omega⟩) else 0 := fun t => keys_apply v 1 h t d
  rw [values_eq]
  unfold k0_pay2
  pointwise [first_apply, second_apply]
  simp only [e0, e1]
  fin_cases h <;> simp

end Cert.AttnIdeal.Row
-- ==== Proof.AttnEntry.lean ====
/-
  The attention kernel's input blocks, read from the arguments: a point serves one batch, one half of the rows and two of
  the sixteen heads.
-/
module

public import proofs.«01_k».proof.Proof.AttnRow
public import Idealize.ShloMosaic.Lib.Claim
public import Idealize.ShloMosaic.Lib.Pipeline.ValueKit.Geometry

@[expose] public section

noncomputable section

open Idealize.ShloMosaic Idealize.ShloMosaic.TcCoe

namespace Cert.AttnIdeal.Entry

open Cert.AttnIdeal Cert.AttnIdeal.Gen Cert.Spec Cert.AttnIdeal.Block

variable (m : (ℓ : Loc nD τ sig) → Buf (Elt Ideal) ℓ) (c : Dev nD) (t : Fin cfg0.N)

theorem lt32 (t : Fin cfg0.N) : t.val < 32 := t.isLt

/-- The batch a point serves. -/
def batch (t : Fin cfg0.N) : Fin 2 := ⟨t.val / 16, by have := lt32 t; omega⟩

/-- Row `r` of the half of the rows a point serves. -/
def row (t : Fin cfg0.N) (r : Fin 1024) : Fin 2048 := ⟨1024 * (t.val % 2) + r.val, by omega⟩

/-- Head `h` of the two heads a point serves. -/
def head (t : Fin cfg0.N) (h : Fin 2) : Fin 16 := ⟨2 * (t.val / 2 % 8) + h.val, by omega⟩

theorem index0 : ∀ t : Fin cfg0.N, win0_0.index t = ![t.val / 16, t.val % 2, t.val / 2 % 8] :=
  (by decide +kernel : ∀ t : Fin grid0.N, win0_0.index t = ![t.val / 16, t.val % 2, t.val / 2 % 8])

theorem index1 : ∀ t : Fin cfg0.N, win0_1.index t = ![t.val / 16, 0, t.val / 2 % 8] :=
  (by decide +kernel : ∀ t : Fin grid0.N, win0_1.index t = ![t.val / 16, 0, t.val / 2 % 8])

theorem index2 : ∀ t : Fin cfg0.N, win0_2.index t = ![t.val / 16, 0, t.val / 2 % 8] :=
  (by decide +kernel : ∀ t : Fin grid0.N, win0_2.index t = ![t.val / 16, 0, t.val / 2 % 8])

theorem index3 : ∀ t : Fin cfg0.N, win0_3.index t = ![t.val / 16, t.val / 2 % 8, t.val % 2, 0] :=
  (by decide +kernel : ∀ t : Fin grid0.N, win0_3.index t = ![t.val / 16, t.val / 2 % 8, t.val % 2, 0])

theorem index4 : ∀ t : Fin cfg0.N, win0_4.index t = ![t.val / 16, t.val % 2, t.val / 2 % 8] :=
  (by decide +kernel : ∀ t : Fin grid0.N, win0_4.index t = ![t.val / 16, t.val % 2, t.val / 2 % 8])

/-- The queries' block. -/
theorem q_at (r : Fin 1024) (h : Fin 2) (d : Fin 64) : iblk m c 0 t (ix3 0 r ⟨64 * h.val + d.val, by omega⟩) =
    m ((c.tc : Thread nD τ).loc main_arg0) (ix3 (batch t) (row t r) (feature (head t h) d)) := by
  have e : ((View.whole main_arg0).slice (win0_0.rect t)).emb (ix3 0 r ⟨64 * h.val + d.val, by omega⟩) =
      ix3 (batch t) (row t r) (feature (head t h) d) := by blk_ext [index0, batch, row, feature, head]
  blk_simp [iblk]
  entry_read
  rw [e]

/-- The keys' block, at the even point of the pair. -/
theorem k_at (s : Fin 2048) (h : Fin 2) (d : Fin 64) : iblk m c 1 (base t) (ix3 0 s ⟨64 * h.val + d.val, by omega⟩) =
    m ((c.tc : Thread nD τ).loc main_arg1) (ix3 (batch t) s (feature (head t h) d)) := by
  have e : ((View.whole main_arg1).slice (win0_1.rect (base t))).emb (ix3 0 s ⟨64 * h.val + d.val, by omega⟩) =
      ix3 (batch t) s (feature (head t h) d) := by blk_ext [index1, batch, feature, head, base]
  blk_simp [iblk]
  entry_read
  rw [e]

/-- The values' block, at the even point of the pair. -/
theorem v_at (s : Fin 2048) (h : Fin 2) (d : Fin 64) : iblk m c 2 (base t) (ix3 0 s ⟨64 * h.val + d.val, by omega⟩) =
    m ((c.tc : Thread nD τ).loc main_arg2) (ix3 (batch t) s (feature (head t h) d)) := by
  have e : ((View.whole main_arg2).slice (win0_2.rect (base t))).emb (ix3 0 s ⟨64 * h.val + d.val, by omega⟩) =
      ix3 (batch t) s (feature (head t h) d) := by blk_ext [index2, batch, feature, head, base]
  blk_simp [iblk]
  entry_read
  rw [e]

end Cert.AttnIdeal.Entry
-- ==== Proof.AttnArray.lean ====
/-
  What the attention kernel leaves in its two result arrays, as functions of the arguments: the softmax weights of every
  batch, head and row, and the weighted values.
-/
module

public import proofs.«01_k».proof.Proof.AttnEntry
public import Idealize.ShloMosaic.Lib.Pipeline.ValueKit.Acc

@[expose] public section

noncomputable section

open Idealize.ShloMosaic Idealize.ShloMosaic.TcCoe Idealize.ShloMosaic.Pipeline

namespace Cert.AttnIdeal.Array

open Cert.AttnIdeal Cert.AttnIdeal.Gen Cert.Spec Cert.AttnIdeal.Entry Cert.AttnIdeal.Block

variable (m : (ℓ : Loc nD τ sig) → Buf (Elt Ideal) ℓ) (c : Dev nD)

/-- The attention weights, from the arguments. -/
def weightsOf (q k : S2x2048x1024.Idx → EReal) : S2x16x2048x2048.Idx → EReal := fun i => attend q k (i 0) (i 1) (i 2) (i 3)

/-- The context, from the arguments: each feature is one of a head. -/
def contextOf (q k v : S2x2048x1024.Idx → EReal) : S2x2048x1024.Idx → EReal := fun i =>
  context q k v (i 0) ⟨(i 2).val / 64, Nat.div_lt_of_lt_mul (i 2).isLt⟩ (i 1) ⟨(i 2).val % 64, Nat.mod_lt _ (by decide)⟩

/-- A point's scores are those of its batch, head and rows. -/
theorem scores_at (t : Fin cfg0.N) (h : Fin 2) (r : Fin 1024) :
    (fun s : Fin 2048 => k0_pay6 (iblk m c 0 t) (k0_pay4 (iblk m c 1 (base t))) (ix2 r ⟨2048 * h.val + s.val, by omega⟩)) =
      score (m ((c.tc : Thread nD τ).loc main_arg0)) (m ((c.tc : Thread nD τ).loc main_arg1)) (batch t) (head t h) (row t r) := by
  funext s
  rw [Row.score_apply]
  simp only [q_at, k_at]
  rfl

/-- The weights' array. -/
theorem final_weights : (dats m 0 c).arrAt 3 cfg0.N = weightsOf (m ((c.tc : Thread nD τ).loc main_arg0)) (m ((c.tc : Thread nD τ).loc main_arg1)) := by
  refine (dats m 0 c).arrAt_eq_of_covers 3 _ (by decide +kernel) fun t hf y => ?_
  blk_simp
  rw [after0_3, weights_eq]
  obtain ⟨z, h, r, s, rfl⟩ : ∃ (z : Fin 1) (h : Fin 2) (r : Fin 1024) (s : Fin 2048), y = ix4 z h r s := ⟨y 0, y 1, y 2, y 3, eq_ix4 y⟩
  obtain rfl : z = 0 := Subsingleton.elim _ _
  have e : ((View.whole main_v0_0).slice (win0_3.rect t)).emb (ix4 0 h r s) = ix4 (batch t) (head t h) (row t r) s := by
    blk_ext [index3, batch, row, head]
  rw [Row.weights_apply, e, scores_at]
  rfl

/-- The context's array at a head's feature. -/
theorem contextOf_at (q k v : S2x2048x1024.Idx → EReal) (b : Fin 2) (s : Fin 2048) (h : Fin 16) (d : Fin 64) :
    contextOf q k v (ix3 b s (feature h d)) = context q k v b h s d := by
  have eh : (⟨(feature h d).val / 64, Nat.div_lt_of_lt_mul (feature h d).isLt⟩ : Fin 16) = h :=
    Fin.ext (by unfold feature; dsimp only; omega)
  have ed : (⟨(feature h d).val % 64, Nat.mod_lt _ (by decide)⟩ : Fin 64) = d :=
    Fin.ext (by unfold feature; dsimp only; omega)
  show context q k v b ⟨(feature h d).val / 64, _⟩ s ⟨(feature h d).val % 64, _⟩ = _
  rw [eh, ed]

/-- The context's array. -/
theorem final_context : (dats m 0 c).arrAt 4 cfg0.N = contextOf (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4, ctx_eq]
  obtain ⟨z, r, n, rfl⟩ : ∃ (z : Fin 1) (r : Fin 1024) (n : Fin 128), y = ix3 z r n := ⟨y 0, y 1, y 2, eq_ix3 y⟩
  obtain rfl : z = 0 := Subsingleton.elim _ _
  obtain ⟨h, d, rfl⟩ : ∃ (h : Fin 2) (d : Fin 64), n = ⟨64 * h.val + d.val, by omega⟩ :=
    ⟨⟨n.val / 64, by omega⟩, ⟨n.val % 64, by omega⟩, Fin.ext (by dsimp only; omega)⟩
  have e : ((View.whole main_v0_1).slice (win0_4.rect t)).emb (ix3 0 r ⟨64 * h.val + d.val, by omega⟩) =
      ix3 (batch t) (row t r) (feature (head t h) d) := by blk_ext [index4, batch, row, feature, head]
  rw [Row.ctx_apply, e, scores_at]
  simp only [v_at]
  rw [contextOf_at]
  rfl

end Cert.AttnIdeal.Array
-- ==== Proof.AttnRef.lean ====
/-
  The attention reference read at an index: the softmax weights of every batch, head and row, and the weighted values.
-/
module

public import proofs.«01_k».proof.Proof.Spec
public import proofs.«01_k».proof.Proof.Gen.AttnRefIdeal.Read

@[expose] public section

noncomputable section

open Idealize.ShloMosaic

namespace Cert.AttnRefIdeal.Value

open Cert.AttnRefIdeal Cert.Spec Cert.AttnRefIdeal.Read

variable (x0 x1 x2 : (⟨S2x2048x1024, .f32⟩ : BufTy).Contents (Elt Ideal))

/-- A head's feature of a row, as the reshaped and transposed array holds it. -/
theorem split_at (b : Fin 2) (h : Fin 16) (s : Fin 2048) (d : Fin 64) : val_main_v1 x0 (ix4 b h s d) = x0 (ix3 b s (feature h d)) := by
  rw [val_main_v1_apply, val_main_v0_apply]
  refine congrArg x0 (funext fun a => Fin.ext ?_)
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = 64 * h.val + d.val; omega

/-- The scaled scores. -/
theorem score_at (b : Fin 2) (h : Fin 16) (s t : Fin 2048) : val_main_v11 x0 x1 (ix4 b h s t) = score x0 x1 b h s t := by
  unfold val_main_v11 val_main_v10 val_main_v9 val_main_v8 val_main_v7 val_main_v6 val_main_cst
  pointwise [show val_main_v3 (F := Ideal) x1 = val_main_v1 x1 from rfl, split_at]
  exact eighth _

/-- The largest entry of every row of an array of rows. -/
theorem row_max (y : FVec Ideal S2x16x2048x2048 .f32) (h' : S2x16x2048x2048.ReducesTo [3] S2x16x2048) (hu : 0 < S_.numel)
    (b : Fin 2) (h : Fin 16) (s : Fin 2048) :
    Host.reduce FloatOps.maximumf y (val_main_cst_0 (F := Ideal)) h' hu (ix3 b h s) = top fun t => y (ix4 b h s t) := by
  have hr : S2x16x2048x2048.Reduces [3] S2x16x2048 := by decide
  rw [Host.reduce_eq_fold_single FloatOps.maximumf y _ h' hr hu]
  have e : ∀ t, hr.lift (ix3 b h s) t = ix4 b h s t := fun t => eq_ix4 _
  show Finset.fold max _ _ Finset.univ = _
  unfold top
  refine congrArg (fun f => Finset.fold max (Ideal.ofBits .f32 0xFF800000#32) f Finset.univ) (funext fun t => ?_)
  exact congrArg y (e t)

/-- The largest score of a row. -/
theorem top_at (b : Fin 2) (h : Fin 16) (s : Fin 2048) : val_main_v14 x0 x1 (ix3 b h s) = top (score x0 x1 b h s) := by
  rw [val_main_v14_apply, val_main_v13_apply]
  unfold val_main_v12
  rw [row_max]
  simp only [score_at]
  exact max_top _

/-- The exponential of a score less its row's largest. -/
theorem exp_at (b : Fin 2) (h : Fin 16) (s t : Fin 2048) :
    val_main_v18 x0 x1 (ix4 b h s t) = Ideal.exp (score x0 x1 b h s t - top (score x0 x1 b h s)) := by
  rw [val_main_v18_apply, val_main_v17_apply, val_main_v16_apply, val_main_v15_apply, score_at]
  have e : idx_main_v15 (idx_main_v16 (ix4 b h s t)) = ix3 b h s := eq_ix3 _
  rw [e, top_at]
  rfl

/-- The sum of a row's exponentials. -/
theorem total_at (b : Fin 2) (h : Fin 16) (s : Fin 2048) :
    val_main_v19 x0 x1 (ix3 b h s) = ∑ t, Ideal.exp (score x0 x1 b h s t - top (score x0 x1 b h s)) := by
  rw [val_main_v19_apply]
  have e : ∀ t, idx_main_v19 (ix3 b h s) t = ix4 b h s t := fun t => eq_ix4 _
  simp only [e, exp_at]
  have z : ∀ i, (val_main_cst_2 (F := Ideal)) i = 0 := by
    intro i
    unfold val_main_cst_2
    pointwise
  rw [z, zero_add]

/-- The weights. -/
theorem weights_at (b : Fin 2) (h : Fin 16) (s t : Fin 2048) : val_main_v22 x0 x1 (ix4 b h s t) = attend x0 x1 b h s t := by
  rw [val_main_v22_apply, val_main_v21_apply, val_main_v20_apply, exp_at]
  have e : idx_main_v20 (idx_main_v21 (ix4 b h s t)) = ix3 b h s := eq_ix3 _
  rw [e, total_at]
  rfl

/-- The context, head by head. -/
theorem head_at (b : Fin 2) (h : Fin 16) (s : Fin 2048) (d : Fin 64) :
    val_main_v23 x0 x1 x2 (ix4 b h s d) = context x0 x1 x2 b h s d := by
  rw [val_main_v23_apply]
  have l : ∀ t, lidx_main_v23 (ix4 b h s d) t = ix4 b h s t := fun t => eq_ix4 _
  have r : ∀ t, ridx_main_v23 (ix4 b h s d) t = ix4 b h t d := fun t => eq_ix4 _
  simp only [l, r, weights_at, show val_main_v5 (F := Ideal) x2 = val_main_v1 x2 from rfl, split_at]
  rfl

/-- The context, the heads side by side. -/
theorem context_at (b : Fin 2) (s : Fin 2048) (n : Fin 1024) : val_main_v25 x0 x1 x2 (ix3 b s n) =
    context x0 x1 x2 b ⟨n.val / 64, by omega⟩ s ⟨n.val % 64, by omega⟩ := by
  rw [val_main_v25_apply, val_main_v24_apply]
  refine Eq.trans (congrArg _ (funext fun a => Fin.ext ?_)) (head_at x0 x1 x2 b ⟨n.val / 64, by omega⟩ s ⟨n.val % 64, by omega⟩)
  match a with
  | ⟨0, _⟩ => show ((b.val * 2048 + s.val) * 1024 + n.val) / 2097152 = b.val; omega
  | ⟨1, _⟩ => show ((b.val * 2048 + s.val) * 1024 + n.val) / 64 % 16 = n.val / 64; omega
  | ⟨2, _⟩ => show ((b.val * 2048 + s.val) * 1024 + n.val) / 1024 % 2048 = s.val; omega
  | ⟨3, _⟩ => show ((b.val * 2048 + s.val) * 1024 + n.val) % 64 = n.val % 64; omega

end Cert.AttnRefIdeal.Value
-- ==== Proof.AttnClaim.lean ====
/-
  The attention claim: the kernel's two arrays are the reference's.
-/
module

public import proofs.«01_k».proof.Proof.AttnArray
public import proofs.«01_k».proof.Proof.AttnRef
public import proofs.«01_k».proof.Defs
public import proofs.«01_k».proof.Proof.Gen.AttnRefIdeal

@[expose] public section

noncomputable section

open Idealize.ShloMosaic Idealize.ShloMosaic.TcCoe Idealize.SL.Sem

namespace Cert.Attn.Equation

open Cert.AttnRefIdeal.Read

/-- From memories agreeing on q, k and v, the kernel and the reference end with the same weights and the same context. -/
theorem algebraic : Cert.algebraic_AttnIdeal_AttnRefIdeal (hAttnIdeal := Cert.AttnIdeal.Gen.facts) (hAttnRefIdeal := Cert.AttnRefIdeal.Gen.facts) := by
  intro m g m' g' _ hagree
  refine ⟨fun c => AttnIdeal.Array.weightsOf (m ((c.tc : Thread AttnIdeal.nD AttnIdeal.τ).loc AttnIdeal.main_arg0)) (m ((c.tc : Thread AttnIdeal.nD AttnIdeal.τ).loc AttnIdeal.main_arg1)),
    fun c => AttnIdeal.Array.contextOf (m ((c.tc : Thread AttnIdeal.nD AttnIdeal.τ).loc AttnIdeal.main_arg0)) (m ((c.tc : Thread AttnIdeal.nD AttnIdeal.τ).loc AttnIdeal.main_arg1))
      (m ((c.tc : Thread AttnIdeal.nD AttnIdeal.τ).loc AttnIdeal.main_arg2)), ?_, ?_⟩
  · refine (θ_run _ _ _).mono (fun r h c => ?_) (Cert.AttnIdeal.Value.run_blocks m g)
    have hc := h c
    rw [AttnIdeal.Array.final_weights, AttnIdeal.Array.final_context] at hc
    exact hc
  · refine (θ_run _ _ _).mono (fun r h c => ?_) (Cert.AttnRefIdeal.Value.run m' g')
    obtain ⟨h0, h1, kept⟩ := h c
    obtain ⟨a0, a1, a2⟩ := hagree c
    refine ⟨h0.trans ?_, h1.trans ?_, kept⟩
    · rw [val_main_v22_eq, a0, a1]
      funext i
      obtain ⟨b, h, s, t, rfl⟩ : ∃ (b : Fin 2) (h : Fin 16) (s t : Fin 2048), i = ix4 b h s t := ⟨i 0, i 1, i 2, i 3, eq_ix4 i⟩
      exact AttnRefIdeal.Value.weights_at _ _ b h s t
    · rw [val_main_v25_eq, a0, a1, a2]
      funext i
      obtain ⟨b, s, n, rfl⟩ : ∃ (b : Fin 2) (s : Fin 2048) (n : Fin 1024), i = ix3 b s n := ⟨i 0, i 1, i 2, eq_ix3 i⟩
      exact AttnRefIdeal.Value.context_at _ _ _ b s n

end Cert.Attn.Equation
-- ==== Proof.EncSpec.lean ====
/-
  The encoder's mathematics, one row at a time, over the extended reals: the family weights, the basis row, the coefficients,
  and the search for a threshold that keeps the largest of them. Nothing here speaks of a program.
-/
module

public import proofs.«01_k».proof.Proof.Spec

@[expose] public section

noncomputable section

namespace Cert.Spec

open Idealize.ShloMosaic

/-- A row's weights over the eight families. -/
def families (x : Fin 1024 → EReal) (wf : Fin 1024 → Fin 8 → EReal) : Fin 8 → EReal := softmax (mul x wf)

/-- A row's basis: the families' vectors, weighted. -/
def base (x : Fin 1024 → EReal) (wf : Fin 1024 → Fin 8 → EReal) (emb : Fin 8 → Fin 1024 → EReal) : Fin 1024 → EReal :=
  mul (families x wf) emb

/-- A row's coefficients: what the basis leaves of it, encoded. -/
def coeffs (x : Fin 1024 → EReal) (wf : Fin 1024 → Fin 8 → EReal) (emb : Fin 8 → Fin 1024 → EReal)
    (we : Fin 1024 → Fin 4096 → EReal) (be : Fin 4096 → EReal) (j : Fin 4096) : EReal :=
  mul (fun k => x k - base x wf emb k) we j + be j

/-- A number's magnitude. -/
def size (z : EReal) : EReal := max z (-z)

/-- The number of coefficients of a row, 4096, as the programs write it. -/
def many : EReal := Ideal.ofBits .f32 0x45800000#32

/-- The number of coefficients kept, 64, as the kernel writes it. -/
def kept : EReal := Ideal.ofBits .f32 0x42800000#32

/-- The mean coefficient. -/
def avg (c : Fin 4096 → EReal) : EReal := Ideal.div (∑ j, c j) many

/-- The standard deviation, from the mean square and the squared mean. -/
def spread (c : Fin 4096 → EReal) : EReal :=
  Ideal.sqrt (max (Ideal.div (∑ j, c j * c j) many - avg c * avg c) (Ideal.ofBits .f32 0x00000000#32))

/-- How many coefficients are at least `t`. -/
def above (c : Fin 4096 → EReal) (t : EReal) : EReal := ∑ j, if t ≤ c j then 1 else 0

/-- The search's lower start: 1.7 deviations above the mean if enough coefficients lie there, else 9 below it. -/
def lower (c : Fin 4096 → EReal) : EReal :=
  if kept ≤ above c (avg c + spread c * Ideal.ofBits .f32 0x3FD9999A#32) then avg c + spread c * Ideal.ofBits .f32 0x3FD9999A#32
  else avg c - spread c * Ideal.ofBits .f32 0x41100000#32

/-- The search's upper start: 2.6 deviations above the mean if too few coefficients lie there, else 9 above it. -/
def upper (c : Fin 4096 → EReal) : EReal :=
  if above c (avg c + spread c * Ideal.ofBits .f32 0x40266666#32) < kept then avg c + spread c * Ideal.ofBits .f32 0x40266666#32
  else avg c + spread c * Ideal.ofBits .f32 0x41100000#32

/-- The middle of a bracket. -/
def middle (b : EReal × EReal) : EReal := (b.1 + b.2) * Ideal.ofBits .f32 0x3F000000#32

/-- One halving: the upper half if enough coefficients lie above the middle, else the lower. -/
def halve (c : Fin 4096 → EReal) (b : EReal × EReal) : EReal × EReal :=
  if kept ≤ above c (middle b) then (middle b, b.2) else (b.1, middle b)

/-- The bracket after `n` halvings. -/
def search (c : Fin 4096 → EReal) (n : ℕ) : EReal × EReal := (halve c)^[n] (lower c, upper c)

/-- The coefficients that reach the threshold, the others made zero. -/
def thinned (c : Fin 4096 → EReal) (j : Fin 4096) : EReal :=
  if (search c 16).1 ≤ c j then c j else 0

end Cert.Spec
-- ==== Proof.EncRef.lean ====
/-
  The encoder's reference up to the coefficients, read at a row: the family weights, the basis and the coefficients.
-/
module

public import proofs.«01_k».proof.Proof.Gen.EncRefIdeal.Read
public import proofs.«01_k».proof.Proof.EncSpec

@[expose] public section

noncomputable section

open Idealize.ShloMosaic Idealize.ShloMosaic.TcCoe

namespace Cert.EncRefIdeal.Value

open Cert.EncRefIdeal Cert.EncRefIdeal.Gen Cert.EncRefIdeal.Read Cert.Spec

variable (x0 : Vec Ideal S2x2048x1024 .f32) (x1 : Vec Ideal S1024x8 .f32) (x2 : Vec Ideal S8x1024 .f32)
  (x3 : Vec Ideal S1024x4096 .f32) (x4 : Vec Ideal S4096 .f32)

/-- A row's products with the family matrix. -/
theorem logit_at (b : Fin 2) (s : Fin 2048) (j : Fin 8) :
    val_main_v0 x0 x1 (ix3 b s j) = mul (fun k => x0 (ix3 b s k)) (fun k l => x1 (ix2 k l)) j := by
  rw [val_main_v0_apply]
  have l : ∀ t, lidx_main_v0 (ix3 b s j) t = ix3 b s t := fun t => eq_ix3 _
  have r : ∀ t, ridx_main_v0 (ix3 b s j) t = ix2 t j := fun t => eq_ix2 _
  simp only [l, r]
  rfl

/-- The largest entry of every row of an array of rows. -/
theorem row_max (y : FVec Ideal S2x2048x8 .f32) (h' : S2x2048x8.ReducesTo [2] S2x2048) (hu : 0 < S_.numel)
    (b : Fin 2) (s : Fin 2048) :
    Host.reduce FloatOps.maximumf y (val_main_cst (F := Ideal)) h' hu (ix2 b s) = top fun t => y (ix3 b s t) := by
  have hr : S2x2048x8.Reduces [2] S2x2048 := by decide
  rw [Host.reduce_eq_fold_single FloatOps.maximumf y _ h' hr hu]
  have e : ∀ t, hr.lift (ix2 b s) t = ix3 b s t := fun t => eq_ix3 _
  show Finset.fold max _ _ Finset.univ = _
  unfold top
  refine congrArg (fun f => Finset.fold max (Ideal.ofBits .f32 0xFF800000#32) f Finset.univ) (funext fun t => ?_)
  exact congrArg y (e t)

/-- The largest product of a row. -/
theorem top_at (b : Fin 2) (s : Fin 2048) :
    val_main_v3 x0 x1 (ix2 b s) = top (mul (fun k => x0 (ix3 b s k)) (fun k l => x1 (ix2 k l))) := by
  rw [val_main_v3_apply, val_main_v2_apply]
  unfold val_main_v1
  rw [row_max]
  simp only [logit_at]
  exact max_top _

/-- The exponential of a product less its row's largest. -/
theorem exp_at (b : Fin 2) (s : Fin 2048) (j : Fin 8) :
    val_main_v7 x0 x1 (ix3 b s j) = Ideal.exp (mul (fun k => x0 (ix3 b s k)) (fun k l => x1 (ix2 k l)) j -
      top (mul (fun k => x0 (ix3 b s k)) (fun k l => x1 (ix2 k l)))) := by
  rw [val_main_v7_apply, val_main_v6_apply, val_main_v5_apply, val_main_v4_apply, logit_at]
  have e : idx_main_v4 (idx_main_v5 (ix3 b s j)) = ix2 b s := eq_ix2 _
  rw [e, top_at]
  rfl

/-- The family weights. -/
theorem weights_at (b : Fin 2) (s : Fin 2048) (j : Fin 8) :
    val_main_v11 x0 x1 (ix3 b s j) = families (fun k => x0 (ix3 b s k)) (fun k l => x1 (ix2 k l)) j := by
  rw [val_main_v11_apply, val_main_v10_apply, val_main_v9_apply, exp_at]
  have e : idx_main_v9 (idx_main_v10 (ix3 b s j)) = ix2 b s := eq_ix2 _
  rw [e, val_main_v8_apply]
  have e' : ∀ t, idx_main_v8 (ix2 b s) t = ix3 b s t := fun t => eq_ix3 _
  simp only [e', exp_at]
  have z : ∀ i, (val_main_cst_1 (F := Ideal)) i = 0 := by
    intro i
    unfold val_main_cst_1
    pointwise
  rw [z, zero_add]
  rfl

/-- The basis. -/
theorem basis_at (b : Fin 2) (s : Fin 2048) (j : Fin 1024) :
    val_main_v12 x0 x1 x2 (ix3 b s j) = base (fun k => x0 (ix3 b s k)) (fun k l => x1 (ix2 k l)) (fun k l => x2 (ix2 k l)) j := by
  rw [val_main_v12_apply]
  have l : ∀ t, lidx_main_v12 (ix3 b s j) t = ix3 b s t := fun t => eq_ix3 _
  have r : ∀ t, ridx_main_v12 (ix3 b s j) t = ix2 t j := fun t => eq_ix2 _
  simp only [l, r, weights_at]
  rfl

/-- The coefficients of a row of the [2, 2048] rows. -/
def code (b : Fin 2) (s : Fin 2048) : Fin 4096 → EReal :=
  coeffs (fun k => x0 (ix3 b s k)) (fun k l => x1 (ix2 k l)) (fun k l => x2 (ix2 k l)) (fun k l => x3 (ix2 k l)) (fun l => x4 (ix1 l))

/-- The coefficients. -/
theorem code_at (b : Fin 2) (s : Fin 2048) (j : Fin 4096) : val_main_v17 x0 x1 x2 x3 x4 (ix3 b s j) = code x0 x1 x2 x3 x4 b s j := by
  rw [val_main_v17_apply, val_main_v16_apply, val_main_v15_apply, val_main_v14_apply]
  have l : ∀ t, lidx_main_v14 (ix3 b s j) t = ix3 b s t := fun t => eq_ix3 _
  have r : ∀ t, ridx_main_v14 (ix3 b s j) t = ix2 t j := fun t => eq_ix2 _
  have e : idx_main_v15 (idx_main_v16 (ix3 b s j)) = ix1 j := eq_ix1 _
  simp only [l, r, e, val_main_v13_apply, basis_at]
  rfl

/-- The family weights, the batches' rows one after the other. -/
theorem flat_weights (n : Fin 4096) (j : Fin 8) : val_main_v48 x0 x1 (ix2 n j) = families (flat x0 n) (fun k l => x1 (ix2 k l)) j := by
  rw [val_main_v48_apply]
  refine Eq.trans (congrArg _ (funext fun a => Fin.ext ?_)) (weights_at x0 x1 ⟨n.val / 2048, by omega⟩ ⟨n.val % 2048, by omega⟩ j)
  match a with
  | ⟨0, _⟩ => show (n.val * 8 + j.val) / 16384 = n.val / 2048; omega
  | ⟨1, _⟩ => show (n.val * 8 + j.val) / 8 % 2048 = n.val % 2048; omega
  | ⟨2, _⟩ => show (n.val * 8 + j.val) % 8 = j.val; omega

/-- The basis, the batches' rows one after the other. -/
theorem flat_basis (n : Fin 4096) (j : Fin 1024) : val_main_v49 x0 x1 x2 (ix2 n j) =
    base (flat x0 n) (fun k l => x1 (ix2 k l)) (fun k l => x2 (ix2 k l)) j := by
  rw [val_main_v49_apply]
  refine Eq.trans (congrArg _ (funext fun a => Fin.ext ?_)) (basis_at x0 x1 x2 ⟨n.val / 2048, by omega⟩ ⟨n.val % 2048, by omega⟩ j)
  match a with
  | ⟨0, _⟩ => show (n.val * 1024 + j.val) / 2097152 = n.val / 2048; omega
  | ⟨1, _⟩ => show (n.val * 1024 + j.val) / 1024 % 2048 = n.val % 2048; omega
  | ⟨2, _⟩ => show (n.val * 1024 + j.val) % 1024 = j.val; omega

/-- The sparse coefficients, the batches' rows one after the other. -/
theorem flat_sparse (n : Fin 4096) (j : Fin 4096) : val_main_v50 x0 x1 x2 x3 x4 (ix2 n j) =
    val_main_v44 x0 x1 x2 x3 x4 (ix3 ⟨n.val / 2048, by omega⟩ ⟨n.val % 2048, by omega⟩ j) := by
  rw [val_main_v50_apply]
  refine congrArg _ (funext fun a => Fin.ext ?_)
  match a with
  | ⟨0, _⟩ => show (n.val * 4096 + j.val) / 8388608 = n.val / 2048; omega
  | ⟨1, _⟩ => show (n.val * 4096 + j.val) / 4096 % 2048 = n.val % 2048; omega
  | ⟨2, _⟩ => show (n.val * 4096 + j.val) % 4096 = j.val; omega

end Cert.EncRefIdeal.Value
-- ==== Proof.EncGap.lean ====
/-
  Counting, over the reals: a row's numbers in decreasing order, how many of them reach a level, and the bound of Chebyshev
  on how many lie nine standard deviations from the mean.
-/
module

public import proofs.«01_k».proof.Proof.EncSpec

@[expose] public section

noncomputable section

namespace Cert.Gap

/-- How many numbers of a row are at least `t`. -/
def reach (r : Fin 4096 → ℝ) (t : ℝ) : ℕ := ∑ j, if t ≤ r j then 1 else 0

/-- Counting does not depend on the order of the row. -/
theorem reach_comp (r : Fin 4096 → ℝ) (e : Fin 4096 ≃ Fin 4096) (t : ℝ) : reach (fun i => r (e i)) t = reach r t :=
  Equiv.sum_comp e fun j => if t ≤ r j then 1 else 0

/-- How many positions precede `a`. -/
theorem sum_before (a : Fin 4096) : (∑ i : Fin 4096, if i < a then 1 else 0) = a.val := by
  rw [Finset.sum_boole, Finset.filter_gt_eq_Iio]
  simp

/-- If at least `a + 1` numbers of a decreasing row reach a level, the number at `a` does. -/
theorem le_of_reach (s : Fin 4096 → ℝ) (hs : ∀ i j, i ≤ j → s j ≤ s i) (a : Fin 4096) (t : ℝ) (h : a.val < reach s t) : t ≤ s a := by
  by_contra hlt
  have hle : reach s t ≤ ∑ i : Fin 4096, if i < a then 1 else 0 := by
    refine Finset.sum_le_sum fun i _ => ?_
    by_cases hi : i < a
    · rw [if_pos hi]; split <;> omega
    · rw [if_neg (fun ht => hlt (ht.trans (hs a i (not_lt.mp hi))))]; exact Nat.zero_le _
  rw [sum_before] at hle
  omega

/-- If the number at `a` of a decreasing row reaches a level, at least `a + 1` numbers do. -/
theorem reach_of_le (s : Fin 4096 → ℝ) (hs : ∀ i j, i ≤ j → s j ≤ s i) (a : Fin 4096) (t : ℝ) (h : t ≤ s a) : a.val < reach s t := by
  have hle : (∑ i : Fin 4096, if i ≤ a then 1 else 0) ≤ reach s t := by
    refine Finset.sum_le_sum fun i _ => ?_
    by_cases hi : i ≤ a
    · rw [if_pos hi, if_pos (h.trans (hs i a hi))]
    · rw [if_neg hi]; exact Nat.zero_le _
  have e : (∑ i : Fin 4096, if i ≤ a then 1 else 0) = a.val + 1 := by
    rw [Finset.sum_boole, Finset.filter_ge_eq_Iic]
    simp
  omega

/-- A level that 64 numbers reach, within the gap after the 64th of a level that fewer reach, is reached by the first 64 only. -/
theorem first_of_gap (s : Fin 4096 → ℝ) (hs : ∀ i j, i ≤ j → s j ≤ s i) (lo hi : ℝ) (hlo : 64 ≤ reach s lo) (hhi : reach s hi < 64)
    (hgap : hi - lo < s 63 - s 64) (i : Fin 4096) : lo ≤ s i ↔ i < 64 := by
  have h63 : lo ≤ s 63 := le_of_reach s hs 63 lo (by show 63 < _; omega)
  have hh : s 63 < hi := by
    by_contra h
    have := reach_of_le s hs 63 hi (not_lt.mp h)
    have : 63 < reach s hi := this
    omega
  have h64 : s 64 < lo := by linarith
  constructor
  · intro h
    by_contra hi'
    exact absurd (h.trans (hs 64 i (not_lt.mp hi'))) (not_le.mpr h64)
  · intro h
    refine h63.trans (hs i 63 ?_)
    have : i.val < 64 := h
    show i.val ≤ 63
    omega

variable (r : Fin 4096 → ℝ)

/-- The mean. -/
def center : ℝ := (∑ j, r j) / 4096

/-- The standard deviation. -/
def deviation : ℝ := Real.sqrt ((∑ j, (r j - center r) * (r j - center r)) / 4096)

/-- The mean squared distance is the mean square less the squared mean. -/
theorem deviation_eq : (∑ j, (r j - center r) * (r j - center r)) / 4096 = (∑ j, r j * r j) / 4096 - center r * center r := by
  have e : ∀ j, (r j - center r) * (r j - center r) = r j * r j - 2 * center r * r j + center r * center r := fun j => by ring
  have hc : ∑ j, r j = 4096 * center r := by unfold center; ring
  simp only [e, Finset.sum_add_distrib, Finset.sum_sub_distrib, ← Finset.mul_sum, hc, Finset.sum_const, Finset.card_univ, Fintype.card_fin]
  rw [nsmul_eq_mul]
  push_cast
  ring

/-- The squared distances add up to 4096 squared deviations. -/
theorem sum_sq : ∑ j, (r j - center r) * (r j - center r) = 4096 * (deviation r * deviation r) := by
  have h : 0 ≤ (∑ j, (r j - center r) * (r j - center r)) / 4096 :=
    div_nonneg (Finset.sum_nonneg fun j _ => mul_self_nonneg _) (by norm_num)
  unfold deviation
  rw [Real.mul_self_sqrt h]
  ring

/-- Numbers that do not all agree deviate. -/
theorem deviation_pos (i j : Fin 4096) (h : r i ≠ r j) : 0 < deviation r := by
  refine lt_of_le_of_ne (Real.sqrt_nonneg _) fun h0 => h ?_
  have hs := sum_sq r
  rw [← h0, mul_zero, mul_zero] at hs
  have hz := (Finset.sum_eq_zero_iff_of_nonneg fun j _ => mul_self_nonneg (r j - center r)).mp hs
  have hi := mul_self_eq_zero.mp (hz i (Finset.mem_univ i))
  have hj := mul_self_eq_zero.mp (hz j (Finset.mem_univ j))
  linarith

/-- At most 50 numbers lie nine deviations or more from the mean. -/
theorem far_few (p : Fin 4096 → Prop) [DecidablePred p] (hσ : 0 < deviation r)
    (hp : ∀ j, p j → 81 * (deviation r * deviation r) ≤ (r j - center r) * (r j - center r)) : (∑ j, if p j then 1 else 0) < 64 := by
  have hle : ((∑ j, if p j then 1 else 0 : ℕ) : ℝ) * (81 * (deviation r * deviation r)) ≤ 4096 * (deviation r * deviation r) := by
    rw [← sum_sq, Nat.cast_sum, Finset.sum_mul]
    refine Finset.sum_le_sum fun j _ => ?_
    by_cases h : p j
    · rw [if_pos h]; simpa using hp j h
    · rw [if_neg h]; simpa using mul_self_nonneg (r j - center r)
  have hpos : 0 < deviation r * deviation r := mul_pos hσ hσ
  have h' : ((∑ j, if p j then 1 else 0 : ℕ) : ℝ) * 81 ≤ 4096 := by
    by_contra hc
    nlinarith
  have h'' : (∑ j, if p j then 1 else 0 : ℕ) * 81 ≤ 4096 := by exact_mod_cast h'
  omega

/-- Fewer than 64 numbers lie nine deviations above the mean. -/
theorem reach_high (hσ : 0 < deviation r) : reach r (center r + deviation r * 9) < 64 := by
  refine far_few r (fun j => center r + deviation r * 9 ≤ r j) hσ fun j h => ?_
  have h : center r + deviation r * 9 ≤ r j := h
  nlinarith

/-- At least 64 numbers lie above nine deviations below the mean. -/
theorem reach_low (hσ : 0 < deviation r) : 64 ≤ reach r (center r - deviation r * 9) := by
  have h := far_few r (fun j => ¬ center r - deviation r * 9 ≤ r j) hσ fun j h => by
    have h : r j < center r - deviation r * 9 := not_le.mp h
    nlinarith
  have e : reach r (center r - deviation r * 9) + (∑ j, if ¬ center r - deviation r * 9 ≤ r j then 1 else 0) = 4096 := by
    unfold reach
    rw [← Finset.sum_add_distrib, Finset.sum_congr rfl (g := fun _ => 1) (fun j _ => by by_cases h : center r - deviation r * 9 ≤ r j <;> simp [h])]
    simp
  omega

end Cert.Gap
-- ==== Proof.EncSelect.lean ====
/-
  The search for a threshold finds the 64 largest coefficients of a row whose 64th exceeds its 65th by more than the last
  bracket's width.
-/
module

public import proofs.«01_k».proof.Proof.EncGap

@[expose] public section

noncomputable section

open Idealize.ShloMosaic

namespace Cert.Spec

open Cert.Gap

/-! ## Rows of real numbers -/

theorem many_eq : many = ((4096 : ℝ) : EReal) := by
  unfold many
  simp [Ideal.ofBits, Ideal.ieee, -EReal.coe_mul]
  norm_num

theorem kept_eq : kept = ((64 : ℝ) : EReal) := by
  unfold kept
  simp [Ideal.ofBits, Ideal.ieee, -EReal.coe_mul]
  norm_num

/-- 1.7, rounded. -/
theorem low_eq : Ideal.ofBits .f32 0x3FD9999A#32 = ((14260634 / 8388608 : ℝ) : EReal) := by
  simp [Ideal.ofBits, Ideal.ieee, -EReal.coe_mul]
  norm_num

/-- 2.6, rounded. -/
theorem high_eq : Ideal.ofBits .f32 0x40266666#32 = ((10905190 / 4194304 : ℝ) : EReal) := by
  simp [Ideal.ofBits, Ideal.ieee, -EReal.coe_mul]
  norm_num

/-- 0.9, rounded. -/
theorem narrow_eq : Ideal.ofBits .f32 0x3F666666#32 = ((15099494 / 16777216 : ℝ) : EReal) := by
  simp [Ideal.ofBits, Ideal.ieee, -EReal.coe_mul]
  norm_num

theorem eighteen_eq : Ideal.ofBits .f32 0x41900000#32 = ((18 : ℝ) : EReal) := by
  simp [Ideal.ofBits, Ideal.ieee, -EReal.coe_mul]
  norm_num

theorem nine_eq : Ideal.ofBits .f32 0x41100000#32 = ((9 : ℝ) : EReal) := by
  simp [Ideal.ofBits, Ideal.ieee, -EReal.coe_mul]
  norm_num

theorem half_eq : Ideal.ofBits .f32 0x3F000000#32 = ((1 / 2 : ℝ) : EReal) := by
  simp [Ideal.ofBits, Ideal.ieee, -EReal.coe_mul]
  norm_num

theorem sixteenth_eq : Ideal.ofBits .f32 0x37800000#32 = ((1 / 65536 : ℝ) : EReal) := by
  simp [Ideal.ofBits, Ideal.ieee, -EReal.coe_mul]
  norm_num

theorem zero_eq : Ideal.ofBits .f32 0x00000000#32 = ((0 : ℝ) : EReal) := by
  simp [Ideal.ofBits, Ideal.ieee, -EReal.coe_mul]

/-- A sum of real numbers is real. -/
theorem coe_sum {ι : Type} (s : Finset ι) (r : ι → ℝ) : ((∑ j ∈ s, r j : ℝ) : EReal) = ∑ j ∈ s, (r j : EReal) := by
  classical
  induction s using Finset.induction_on with
  | empty => simp
  | insert a s ha ih => rw [Finset.sum_insert ha, Finset.sum_insert ha, EReal.coe_add, ih]

/-- The root of a real number that is not negative. -/
theorem sqrt_coe (x : ℝ) (h : 0 ≤ x) : Ideal.sqrt (x : EReal) = ((Real.sqrt x : ℝ) : EReal) := by
  show (if x < 0 then (⊥ : EReal) else ((Real.sqrt x : ℝ) : EReal)) = _
  rw [if_neg (not_lt.mpr h)]

/-- A real number divided by a row's length. -/
theorem div_many (x : ℝ) : Ideal.div (x : EReal) many = ((x / 4096 : ℝ) : EReal) := by
  rw [many_eq, Ideal.div_coe (by norm_num), ← EReal.coe_mul, mul_one_div]

/-- The standard deviation from the distances to the mean. -/
def stray (c : Fin 4096 → EReal) : EReal := Ideal.sqrt (Ideal.div (∑ j, (c j - avg c) * (c j - avg c)) many)

variable (r : Fin 4096 → ℝ)

theorem avg_coe : avg (fun j => (r j : EReal)) = (center r : EReal) := by
  unfold avg center
  rw [← coe_sum, div_many]

theorem stray_coe : stray (fun j => (r j : EReal)) = (deviation r : EReal) := by
  unfold stray deviation
  rw [avg_coe]
  simp only [← EReal.coe_sub, ← EReal.coe_mul, ← coe_sum]
  rw [div_many, sqrt_coe _ (div_nonneg (Finset.sum_nonneg fun j _ => mul_self_nonneg _) (by norm_num))]

theorem spread_coe : spread (fun j => (r j : EReal)) = (deviation r : EReal) := by
  have h : 0 ≤ (∑ j, (r j - center r) * (r j - center r)) / 4096 :=
    div_nonneg (Finset.sum_nonneg fun j _ => mul_self_nonneg _) (by norm_num)
  unfold spread
  rw [avg_coe, zero_eq]
  simp only [← EReal.coe_mul, ← coe_sum]
  rw [div_many, ← EReal.coe_sub, ← deviation_eq, max_eq_left (EReal.coe_le_coe_iff.mpr h), sqrt_coe _ h]
  rfl

theorem above_coe (t : ℝ) : above (fun j => (r j : EReal)) (t : EReal) = ((reach r t : ℝ) : EReal) := by
  unfold above reach
  rw [Nat.cast_sum, coe_sum]
  refine Finset.sum_congr rfl fun j _ => ?_
  by_cases h : t ≤ r j
  · rw [if_pos h, if_pos (EReal.coe_le_coe_iff.mpr h)]; simp
  · rw [if_neg h, if_neg (fun h' => h (EReal.coe_le_coe_iff.mp h'))]; simp

theorem kept_le_above (t : ℝ) : kept ≤ above (fun j => (r j : EReal)) (t : EReal) ↔ 64 ≤ reach r t := by
  rw [above_coe, kept_eq, EReal.coe_le_coe_iff]
  exact_mod_cast Iff.rfl

theorem above_lt_kept (t : ℝ) : above (fun j => (r j : EReal)) (t : EReal) < kept ↔ reach r t < 64 := by
  rw [above_coe, kept_eq, EReal.coe_lt_coe_iff]
  exact_mod_cast Iff.rfl

/-- A bracket of real ends, of width at most `w`, that holds the row's 64th largest number. -/
def Brackets (b : EReal × EReal) (w : ℝ) : Prop :=
  ∃ lo hi : ℝ, b = ((lo : EReal), (hi : EReal)) ∧ 64 ≤ reach r lo ∧ reach r hi < 64 ∧ hi - lo ≤ w

/-- Halving a bracket halves its width. -/
theorem brackets_halve (b : EReal × EReal) (w : ℝ) (h : Brackets r b w) : Brackets r (halve (fun j => (r j : EReal)) b) (w / 2) := by
  obtain ⟨lo, hi, rfl, hlo, hhi, hw⟩ := h
  have e : middle ((lo : EReal), (hi : EReal)) = (((lo + hi) * (1 / 2) : ℝ) : EReal) := by
    unfold middle
    rw [half_eq, ← EReal.coe_add, ← EReal.coe_mul]
  unfold halve
  rw [e]
  by_cases hm : 64 ≤ reach r ((lo + hi) * (1 / 2))
  · rw [if_pos ((kept_le_above r _).mpr hm)]
    exact ⟨_, _, rfl, hm, hhi, by linarith⟩
  · rw [if_neg (fun h => hm ((kept_le_above r _).mp h))]
    exact ⟨_, _, rfl, hlo, not_le.mp hm, by linarith⟩

/-- Any number of halvings. -/
theorem brackets_search (w : ℝ) (h : Brackets r (lower fun j => (r j : EReal), upper fun j => (r j : EReal)) w) (n : ℕ) :
    Brackets r (search (fun j => (r j : EReal)) n) (w / 2 ^ n) := by
  induction n with
  | zero => rw [pow_zero, div_one]; exact h
  | succ n ih =>
    unfold search at ih ⊢
    rw [Function.iterate_succ_apply']
    have := brackets_halve r _ _ ih
    rwa [div_div, ← pow_succ] at this

/-- The search starts from a bracket eighteen deviations wide, or nine tenths of one if both its first tries hold. -/
theorem brackets_start (hσ : 0 < deviation r) (w : ℝ)
    (hw : w = deviation r * 18 ∨ w = deviation r * (15099494 / 16777216) ∧ 64 ≤ reach r (center r + deviation r * (14260634 / 8388608)) ∧
      reach r (center r + deviation r * (10905190 / 4194304)) < 64) :
    Brackets r (lower fun j => (r j : EReal), upper fun j => (r j : EReal)) w := by
  have hl : lower (fun j => (r j : EReal)) = ((if 64 ≤ reach r (center r + deviation r * (14260634 / 8388608)) then
      center r + deviation r * (14260634 / 8388608) else center r - deviation r * 9 : ℝ) : EReal) := by
    unfold lower
    rw [avg_coe, spread_coe, low_eq, nine_eq]
    simp only [← EReal.coe_mul, ← EReal.coe_add, ← EReal.coe_sub, kept_le_above]
    split <;> rfl
  have hu : upper (fun j => (r j : EReal)) = ((if reach r (center r + deviation r * (10905190 / 4194304)) < 64 then
      center r + deviation r * (10905190 / 4194304) else center r + deviation r * 9 : ℝ) : EReal) := by
    unfold upper
    rw [avg_coe, spread_coe, high_eq, nine_eq]
    simp only [← EReal.coe_mul, ← EReal.coe_add, above_lt_kept]
    split <;> rfl
  refine ⟨_, _, by rw [hl, hu], ?_, ?_, ?_⟩
  · split
    · assumption
    · exact reach_low r hσ
  · split
    · assumption
    · exact reach_high r hσ
  · rcases hw with rfl | ⟨rfl, h1, h2⟩
    · split <;> split <;> linarith
    · rw [if_pos h1, if_pos h2]
      linarith

/-! ## The condition -/

/-- How wide the search's first bracket can be, seen from the 64th largest coefficient: nine tenths of a deviation if that lies
    between its first tries, else eighteen. -/
def reachWidth (c : Fin 4096 → EReal) (v : EReal) : EReal :=
  (if avg c + Ideal.ofBits .f32 0x3FD9999A#32 * stray c ≤ v ∧ v < avg c + Ideal.ofBits .f32 0x40266666#32 * stray c then
    Ideal.ofBits .f32 0x3F666666#32 else Ideal.ofBits .f32 0x41900000#32) * stray c

/-- The 64th largest coefficient exceeds the 65th by more than the last bracket's width. -/
def Apart (c : Fin 4096 → EReal) (v v' : EReal) : Prop := reachWidth c v * Ideal.ofBits .f32 0x37800000#32 < v - v'

/-- A square is not negative. -/
theorem sq_nonneg (z : EReal) : 0 ≤ z * z := by
  induction z with
  | bot => rw [EReal.bot_mul_bot]; exact le_top
  | top => rw [EReal.top_mul_top]; exact le_top
  | coe z => rw [← EReal.coe_mul]; exact EReal.coe_nonneg.mpr (mul_self_nonneg z)

/-- Of a row in which a coefficient is infinite, the deviation is too. -/
theorem stray_top (c : Fin 4096 → EReal) (j : Fin 4096) (h : c j = ⊤ ∨ c j = ⊥) : stray c = ⊤ := by
  have hsq : (c j - avg c) * (c j - avg c) = ⊤ := by
    generalize avg c = a
    rcases h with h | h <;> rw [h] <;> induction a <;> simp [sub_eq_add_neg]
  have hs : ∑ j, (c j - avg c) * (c j - avg c) = ⊤ := by
    refine top_le_iff.mp ?_
    rw [← hsq]
    exact Finset.single_le_sum (fun i _ => sq_nonneg (c i - avg c)) (Finset.mem_univ j)
  unfold stray
  rw [hs, many_eq, Ideal.div_coe (by norm_num), EReal.top_mul_coe_of_pos (by norm_num)]
  rfl

/-- Such a row's condition fails. -/
theorem finite_of_apart (c : Fin 4096 → EReal) (v v' : EReal) (h : Apart c v v') (j : Fin 4096) : c j ≠ ⊤ ∧ c j ≠ ⊥ := by
  by_contra hj
  have ht := stray_top c j (by tauto)
  refine absurd h (not_lt.mpr ?_)
  unfold reachWidth
  rw [ht, sixteenth_eq, narrow_eq, eighteen_eq]
  have e : (if avg c + Ideal.ofBits .f32 0x3FD9999A#32 * ⊤ ≤ v ∧ v < avg c + Ideal.ofBits .f32 0x40266666#32 * ⊤ then
    ((15099494 / 16777216 : ℝ) : EReal) else ((18 : ℝ) : EReal)) * ⊤ * ((1 / 65536 : ℝ) : EReal) = ⊤ := by
    split <;> rw [EReal.coe_mul_top_of_pos (by norm_num), EReal.top_mul_coe_of_pos (by norm_num)]
  rw [e]
  exact le_top

/-- The coefficients that the search keeps are the first 64 in any decreasing order of the row. -/
theorem search_first (c : Fin 4096 → EReal) (e : Fin 4096 ≃ Fin 4096) (he : ∀ i j, i ≤ j → c (e j) ≤ c (e i))
    (h : Apart c (c (e 63)) (c (e 64))) (i : Fin 4096) : (search c 16).1 ≤ c (e i) ↔ i < 64 := by
  have hf := finite_of_apart c _ _ h
  obtain ⟨r, rfl⟩ : ∃ r : Fin 4096 → ℝ, c = fun j => (r j : EReal) :=
    ⟨fun j => (c j).toReal, funext fun j => (EReal.coe_toReal (hf j).1 (hf j).2).symm⟩
  have hs : ∀ i j, i ≤ j → r (e j) ≤ r (e i) := fun i j hij => EReal.coe_le_coe_iff.mp (he i j hij)
  obtain ⟨w, hw, hgap⟩ : ∃ w : ℝ, (w = deviation r * 18 ∨ w = deviation r * (15099494 / 16777216) ∧
      64 ≤ reach r (center r + deviation r * (14260634 / 8388608)) ∧ reach r (center r + deviation r * (10905190 / 4194304)) < 64) ∧
      w * (1 / 65536) < r (e 63) - r (e 64) := by
    unfold Apart reachWidth at h
    rw [avg_coe, stray_coe, low_eq, high_eq, narrow_eq, eighteen_eq, sixteenth_eq] at h
    simp only [← EReal.coe_mul, ← EReal.coe_add, ← EReal.coe_sub, EReal.coe_le_coe_iff, EReal.coe_lt_coe_iff] at h
    split at h
    · next hu =>
      refine ⟨_, Or.inr ⟨rfl, ?_, ?_⟩, ?_⟩
      · rw [← reach_comp r e]
        exact reach_of_le (fun i => r (e i)) hs 63 _ (by rw [mul_comm]; exact hu.1)
      · by_contra hc
        rw [← reach_comp r e] at hc
        have := le_of_reach (fun i => r (e i)) hs 63 _ (lt_of_lt_of_le (by decide) (not_lt.mp hc))
        rw [mul_comm] at this
        exact absurd hu.2 (not_lt.mpr this)
      · rw [← EReal.coe_mul, ← EReal.coe_mul, EReal.coe_lt_coe_iff] at h
        linarith
    · refine ⟨_, Or.inl rfl, ?_⟩
      rw [← EReal.coe_mul, ← EReal.coe_mul, EReal.coe_lt_coe_iff] at h
      linarith
  have hw0 : 0 ≤ w := by
    have := Real.sqrt_nonneg ((∑ j, (r j - center r) * (r j - center r)) / 4096)
    have hd : 0 ≤ deviation r := this
    rcases hw with rfl | ⟨rfl, _⟩ <;> positivity
  have hσ : 0 < deviation r := deviation_pos r (e 63) (e 64) (by intro h'; rw [h', sub_self] at hgap; linarith)
  obtain ⟨lo, hi, hb, hlo, hhi, hlh⟩ := brackets_search r w (brackets_start r hσ w hw) 16
  rw [hb]
  dsimp only
  rw [EReal.coe_le_coe_iff]
  rw [← reach_comp r e] at hlo hhi
  refine first_of_gap (fun i => r (e i)) hs lo hi hlo hhi ?_ i
  norm_num at hlh
  linarith

end Cert.Spec
-- ==== Proof.EncSort.lean ====
/-
  A row's entries by rank: the places in the order the largest entries come, and the leading entries of every row
  of an array read by rank.
-/
module

public import proofs.«01_k».proof.Proof.EncSpec
public import Idealize.ShloMosaic.Lib.SortFacts

@[expose] public section

noncomputable section

open Idealize.ShloMosaic Idealize.ShloMosaic.TcCoe

namespace Cert.Sort

variable {p q m : ℕ}

/-- Whether the entry at one place is larger than the entry at another. -/
def before (c : Fin m → EReal) (k k' : Fin m) : Bool := FloatOps.cmpfTotal (F := Ideal) (φ := .f32) .gt (c k) (c k') == 1#1

theorem before_iff (c : Fin m → EReal) (k k' : Fin m) : before c k k' = true ↔ c k' < c k := by
  show (BitVec.ofBool (decide (c k' < c k)) == 1#1) = true ↔ _
  by_cases h : c k' < c k <;> simp [h]

theorem before_false (c : Fin m → EReal) (k k' : Fin m) : before c k k' = false ↔ c k ≤ c k' := by
  rw [← not_lt, ← before_iff, Bool.not_eq_true]

/-- The places of a row, the largest entry's first. -/
def ranked (c : Fin m → EReal) : Fin m ≃ Fin m :=
  Equiv.ofBijective (sortedFrom (before c)) ⟨sortedFrom_injective _, sortedFrom_surjective _⟩

/-- Ranks run downwards. -/
theorem ranked_le (c : Fin m → EReal) (i j : Fin m) (h : i ≤ j) : c (ranked c j) ≤ c (ranked c i) := by
  rcases h.eq_or_lt with rfl | h
  · exact le_refl _
  · refine (before_false c _ _).1 (sortedFrom_noInversion (before c) (before c) ?_ (fun _ _ h => h) ?_ i j h)
    · intro a b h
      exact (before_false c _ _).2 ((before_iff c _ _).1 h).le
    · intro a b d h h'
      exact (before_false c _ _).2 (((before_false c _ _).1 h).trans ((before_false c _ _).1 h'))

variable (x : Vec Ideal ⟨3, ![p, q, m]⟩ .f32) (b : Fin p) (s : Fin q)

/-- The row of an array at a batch and a position. -/
def row (j : Fin m) : EReal := x (ix3 b s j)

/-- Moving along a row of the array. -/
theorem along_row (h : 2 < (⟨3, ![p, q, m]⟩ : Shape).rank) (j k : Fin m) :
    (ix3 b s j : (⟨3, ![p, q, m]⟩ : Shape).Idx).along ⟨2, h⟩ k = ix3 b s k := by
  refine (eq_ix3 _).trans ?_
  rfl

/-- The array with every row's entries by rank, and the places they come from. -/
theorem sorted_rows (y : IVec ⟨3, ![p, q, m]⟩ 32) (k : Fin m) :
    (Host.sort2 ⟨3, ![p, q, m]⟩ 2 (fun l r => FloatOps.cmpfTotal (F := Ideal) (φ := .f32) .gt l.1 r.1) x y).1 (ix3 b s k)
        = row x b s (ranked (row x b s) k)
      ∧ (Host.sort2 ⟨3, ![p, q, m]⟩ 2 (fun l r => FloatOps.cmpfTotal (F := Ideal) (φ := .f32) .gt l.1 r.1) x y).2 (ix3 b s k)
        = y (ix3 b s (ranked (row x b s) k)) := by
  have hr : 2 < (⟨3, ![p, q, m]⟩ : Shape).rank := (by decide : 2 < 3)
  have hb : (fun i j : Fin m => FloatOps.cmpfTotal (F := Ideal) (φ := .f32) .gt
      (x ((ix3 b s k : (⟨3, ![p, q, m]⟩ : Shape).Idx).along ⟨2, hr⟩ i))
      (x ((ix3 b s k : (⟨3, ![p, q, m]⟩ : Shape).Idx).along ⟨2, hr⟩ j)) == 1#1) = before (row x b s) := by
    funext i j
    rw [along_row, along_row]
    rfl
  have ho := congrArg (fun f => sortedFrom f k) hb
  unfold Host.sort2
  rw [dif_pos hr]
  constructor
  · refine (congrArg x ((congrArg (Shape.Idx.along _ _) ho).trans (along_row b s hr k _)))
  · refine (congrArg y ((congrArg (Shape.Idx.along _ _) ho).trans (along_row b s hr k _)))

section
variable {n : ℕ} (hn : n ≤ m) (hs : (⟨3, ![p, q, m]⟩ : Shape).Slices (fun _ => 0) ⟨3, ![p, q, n]⟩) (k : Fin n)

/-- A leading block of an array of the same length rows, read at an index. -/
theorem block_at {α : Type} (y : (⟨3, ![p, q, m]⟩ : Shape).Idx → α) :
    extractStridedSlice ⟨3, ![p, q, n]⟩ (fun _ => 0) y hs (ix3 b s k) = y (ix3 b s (Fin.castLE hn k)) := by
  refine congrArg y ((eq_ix3 _).trans ?_)
  have h0 : ∀ m : ℕ, 0 + m = m := Nat.zero_add
  congr 1 <;> exact Fin.ext (h0 _)

/-- Every entry's place along its row. -/
def own : IVec ⟨3, ![p, q, m]⟩ 32 := fun i =>
  if hd : 2 < (⟨3, ![p, q, m]⟩ : Shape).rank then iotaInDim ⟨3, ![p, q, m]⟩ 32 ⟨2, hd⟩ i else 0#32

/-- A row's largest entries, by rank. -/
theorem leading : (Host.topK ⟨3, ![p, q, n]⟩ 2 (FloatOps.cmpfTotal (F := Ideal) (φ := .f32) .gt) x hs).1 (ix3 b s k) =
    row x b s (ranked (row x b s) (Fin.castLE hn k)) := by
  exact (block_at b s hn hs k (Host.sort2 _ 2 (fun l r => FloatOps.cmpfTotal (F := Ideal) (φ := .f32) .gt l.1 r.1) x own).1).trans
    (sorted_rows x b s own _).1

/-- The places of a row's largest entries, by rank. -/
theorem places : (Host.topK ⟨3, ![p, q, n]⟩ 2 (FloatOps.cmpfTotal (F := Ideal) (φ := .f32) .gt) x hs).2 (ix3 b s k) =
    BitVec.ofNat 32 (ranked (row x b s) (Fin.castLE hn k)).val := by
  exact (block_at b s hn hs k (Host.sort2 _ 2 (fun l r => FloatOps.cmpfTotal (F := Ideal) (φ := .f32) .gt l.1 r.1) x own).2).trans
    (sorted_rows x b s own _).2

end

end Cert.Sort
-- ==== Proof.EncScatter.lean ====
/-
  The encoder's reference: the sparse coefficients, a row's 64 largest entries put back at their places.
-/
module

public import proofs.«01_k».proof.Proof.EncRef
public import proofs.«01_k».proof.Proof.EncSelect
public import proofs.«01_k».proof.Proof.EncSort
public import Idealize.ShloMosaic.Lib.Routing.OpsPair
public import Idealize.ShloMosaic.Lib.Routing.OpsSet

@[expose] public section

noncomputable section

open Idealize.ShloMosaic Idealize.ShloMosaic.TcCoe

namespace Cert.EncRefIdeal.Value

open Cert.EncRefIdeal Cert.EncRefIdeal.Gen Cert.EncRefIdeal.Read Cert.Spec

/-- How the entries put back name their places. -/
abbrev lands : ScatterDims S2x2048x4096 S2x2048x64x3 S2x2048x64 := scatter_S2x2048x4096_S2x2048x64x3_S2x2048x64_n_012_012_3

variable (idx : IVec S2x2048x64x3 32) (b : Fin 2) (s : Fin 2048) (k : Fin 64)

/-- The word that names an entry's place on one axis. -/
theorem word_at (a : Fin 3) : lands.start (ix3 b s k) idx a = (idx (ix4 b s k a)).toInt := by
  unfold ScatterDims.start
  fin_cases a
  all_goals
    rw [dif_pos (by decide)]
    refine congrArg (fun i => (idx i).toInt) ((eq_ix4 _).trans ?_)
    rfl

/-- An entry is put back alone. -/
theorem window_at (a : Fin 3) : lands.window (ix3 b s k) a = 0 := by
  unfold ScatterDims.window
  fin_cases a
  all_goals exact dif_neg (by decide)

/-- An entry's place is the one its three words name. -/
theorem lands_at (b' : Fin 2) (s' : Fin 2048) (j : Fin 4096) : lands.resultIdx? (ix3 b s k) idx = some (ix3 b' s' j) ↔
    (idx (ix4 b s k 0)).toInt = b'.val ∧ (idx (ix4 b s k 1)).toInt = s'.val ∧ (idx (ix4 b s k 2)).toInt = j.val := by
  rw [Routing.resultIdx?_eq_some]
  have e : ∀ a : Fin 3, lands.start (ix3 b s k) idx a + (lands.window (ix3 b s k) a : Int) = (idx (ix4 b s k a)).toInt := by
    intro a
    rw [word_at, window_at]
    simp
  constructor
  · intro h
    exact ⟨(e 0).symm.trans (h 0), (e 1).symm.trans (h 1), (e 2).symm.trans (h 2)⟩
  · rintro ⟨h0, h1, h2⟩ a
    refine (e a).trans ?_
    match a with
    | ⟨0, _⟩ => exact h0
    | ⟨1, _⟩ => exact h1
    | ⟨2, _⟩ => exact h2

/-- A small word, read as a signed number. -/
theorem toInt_small (n : ℕ) (h : n < 2 ^ 31) : (BitVec.ofNat 32 n).toInt = n := by
  rw [BitVec.toInt_ofNat', Int.bmod_def]
  omega

/-- A number that is not negative is not counted from the end. -/
theorem unwrapped (n : ℕ) (a : BitVec 32) (h : n < 2 ^ 31) : Scalar.select (IntOp.cmpi .slt (BitVec.ofNat 32 n) 0#32) a (BitVec.ofNat 32 n) =
    BitVec.ofNat 32 n :=
  Routing.wrap_of_lt _ _ (by rw [BitVec.toNat_ofNat]; exact lt_of_le_of_lt (Nat.mod_le _ _) h)

/-- Three arrays of single words side by side, read at one of the three. -/
theorem three_at (y0 y1 y2 : IVec S2x2048x64x1 32)
    (h : Shape.Concatenates ([⟨S2x2048x64x1, y0⟩, ⟨S2x2048x64x1, y1⟩, ⟨S2x2048x64x1, y2⟩].map
      (Sigma.fst : ((s : Shape) × (s.Idx → BitVec 32)) → Shape)) S2x2048x64x3 3) :
    (concatenate S2x2048x64x3 3 [⟨S2x2048x64x1, y0⟩, ⟨S2x2048x64x1, y1⟩, ⟨S2x2048x64x1, y2⟩] h (ix4 b s k 0) = y0 (ix4 b s k 0)
      ∧ concatenate S2x2048x64x3 3 [⟨S2x2048x64x1, y0⟩, ⟨S2x2048x64x1, y1⟩, ⟨S2x2048x64x1, y2⟩] h (ix4 b s k 1) = y1 (ix4 b s k 0))
      ∧ concatenate S2x2048x64x3 3 [⟨S2x2048x64x1, y0⟩, ⟨S2x2048x64x1, y1⟩, ⟨S2x2048x64x1, y2⟩] h (ix4 b s k 2) = y2 (ix4 b s k 0) := by
  have hx : ∀ (a : Fin 3) (c : Fin 4), c ≠ 3 →
      ((ix4 b s k (0 : Fin 1) : S2x2048x64x1.Idx) c).val = ((ix4 b s k a : S2x2048x64x3.Idx) c).val := by
    intro a c hc
    fin_cases c
    · rfl
    · rfl
    · rfl
    · exact absurd rfl hc
  refine ⟨⟨?_, ?_⟩, ?_⟩
  · exact concatenate_apply_piece 3 _ h _ 0 (by decide : 0 < 3) _ y0 rfl rfl 0 rfl (ix4 b s k 0) (hx 0) rfl
  · exact concatenate_apply_piece 3 _ h _ 1 (by decide : 1 < 3) _ y1 rfl rfl 1 rfl (ix4 b s k 0) (hx 1) rfl
  · exact concatenate_apply_piece 3 _ h _ 2 (by decide : 2 < 3) _ y2 rfl rfl 2 rfl (ix4 b s k 0) (hx 2) rfl

variable (x0 : Vec Ideal S2x2048x1024 .f32) (x1 : Vec Ideal S1024x8 .f32) (x2 : Vec Ideal S8x1024 .f32)
  (x3 : Vec Ideal S1024x4096 .f32) (x4 : Vec Ideal S4096 .f32)

/-- The entry of a rank in a row of the coefficients. -/
def rank (b : Fin 2) (s : Fin 2048) : Fin 4096 ≃ Fin 4096 := Sort.ranked (code x0 x1 x2 x3 x4 b s)

theorem row_code : Sort.row (val_main_v17 x0 x1 x2 x3 x4) b s = code x0 x1 x2 x3 x4 b s :=
  funext fun j => code_at x0 x1 x2 x3 x4 b s j

/-- A row's leading entries. -/
theorem leading_at : val_main_values x0 x1 x2 x3 x4 (ix3 b s k) =
    code x0 x1 x2 x3 x4 b s (rank x0 x1 x2 x3 x4 b s (Fin.castLE (by omega) k)) := by
  unfold val_main_values rank
  rw [Sort.leading (val_main_v17 x0 x1 x2 x3 x4) b s (by omega), row_code]

/-- The places of a row's leading entries. -/
theorem place_at : val_main_indices x0 x1 x2 x3 x4 (ix3 b s k) =
    BitVec.ofNat 32 (rank x0 x1 x2 x3 x4 b s (Fin.castLE (by omega) k)).val := by
  unfold val_main_indices rank
  rw [Sort.places (val_main_v17 x0 x1 x2 x3 x4) b s (by omega), row_code]

/-- The words that name an entry's batch, its position and its place. -/
theorem batch_word : val_main_v40 (F := Ideal) (ix4 b s k 0) = BitVec.ofNat 32 b.val := by
  rw [val_main_v40_apply, val_main_v38_apply, val_main_v27_apply, val_main_v24_apply, val_main_v26_apply, val_main_v19_apply,
    val_main_v23_apply, val_main_v25_apply, val_main_v18_apply, val_main_c_apply, val_main_c_3_apply]
  exact unwrapped b.val _ (by omega)

theorem position_word : val_main_v41 (F := Ideal) (ix4 b s k 0) = BitVec.ofNat 32 s.val := by
  rw [val_main_v41_apply, val_main_v39_apply, val_main_v32_apply, val_main_v29_apply, val_main_v31_apply, val_main_v21_apply,
    val_main_v28_apply, val_main_v30_apply, val_main_v20_apply, val_main_c_4_apply, val_main_c_5_apply]
  exact unwrapped s.val _ (by omega)

theorem place_word : val_main_v42 x0 x1 x2 x3 x4 (ix4 b s k 0) =
    BitVec.ofNat 32 (rank x0 x1 x2 x3 x4 b s (Fin.castLE (by omega) k)).val := by
  have e : idx_main_v42 (ix4 b s k 0) = ix3 b s k := eq_ix3 _
  rw [val_main_v42_apply, e, val_main_v37_apply, val_main_v34_apply, val_main_v36_apply, val_main_v33_apply, val_main_v35_apply,
    place_at, val_main_c_6_apply, val_main_c_7_apply]
  exact unwrapped _ _ (by omega)

/-- Where an entry is put back. -/
theorem put_at (b' : Fin 2) (s' : Fin 2048) (j : Fin 4096) :
    lands.resultIdx? (ix3 b s k) (val_main_v43 x0 x1 x2 x3 x4) = some (ix3 b' s' j) ↔
      b = b' ∧ s = s' ∧ rank x0 x1 x2 x3 x4 b s (Fin.castLE (by omega) k) = j := by
  obtain ⟨⟨e0, e1⟩, e2⟩ : (val_main_v43 x0 x1 x2 x3 x4 (ix4 b s k 0) = _ ∧ val_main_v43 x0 x1 x2 x3 x4 (ix4 b s k 1) = _)
      ∧ val_main_v43 x0 x1 x2 x3 x4 (ix4 b s k 2) = _ :=
    three_at b s k _ _ _ concatenates_S2x2048x64x1_S2x2048x64x1_S2x2048x64x1_S2x2048x64x3_d3
  rw [lands_at, e0, e1, e2, batch_word, position_word, place_word, toInt_small _ (by omega), toInt_small _ (by omega),
    toInt_small _ (by omega)]
  simp only [Nat.cast_inj, Fin.ext_iff]

/-- A row of the sparse coefficients: the leading entries at their places, zero elsewhere. -/
theorem sparse_at (j : Fin 4096) : val_main_v44 x0 x1 x2 x3 x4 (ix3 b s j) =
    if ((rank x0 x1 x2 x3 x4 b s).symm j).val < 64 then code x0 x1 x2 x3 x4 b s j else 0 := by
  unfold val_main_v44
  by_cases hj : ((rank x0 x1 x2 x3 x4 b s).symm j).val < 64
  · rw [if_pos hj]
    have hp : rank x0 x1 x2 x3 x4 b s (Fin.castLE (by omega) (⟨_, hj⟩ : Fin 64)) = j :=
      (rank x0 x1 x2 x3 x4 b s).apply_symm_apply j
    refine Routing.scatter_set_hit lands _ _ _ _ _ (fun u hu => ?_) (ix3 b s ⟨_, hj⟩) ((put_at b s _ x0 x1 x2 x3 x4 b s j).2 ⟨rfl, rfl, hp⟩)
    obtain ⟨b', s', k, rfl⟩ : ∃ (b' : Fin 2) (s' : Fin 2048) (k : Fin 64), u = ix3 b' s' k := ⟨u 0, u 1, u 2, eq_ix3 u⟩
    obtain ⟨rfl, rfl, hk⟩ := (put_at _ _ _ x0 x1 x2 x3 x4 b s j).1 hu
    rw [leading_at, hk]
  · rw [if_neg hj]
    refine (Routing.scatter_set_miss lands _ _ _ _ fun u hu => hj ?_).trans ?_
    · obtain ⟨b', s', k, rfl⟩ : ∃ (b' : Fin 2) (s' : Fin 2048) (k : Fin 64), u = ix3 b' s' k := ⟨u 0, u 1, u 2, eq_ix3 u⟩
      obtain ⟨rfl, rfl, hk⟩ := (put_at _ _ _ x0 x1 x2 x3 x4 b s j).1 hu
      rw [← hk, Equiv.symm_apply_apply]
      exact k.isLt
    · rw [val_main_v22_apply, val_main_cst_2_apply]
      exact Ideal.ofBits_zero_f32

/-- Where a row's entries of ranks 63 and 64 lie apart, its sparse coefficients are the entries the search keeps. -/
theorem sparse_apart (h : Apart (code x0 x1 x2 x3 x4 b s) (code x0 x1 x2 x3 x4 b s (rank x0 x1 x2 x3 x4 b s 63))
      (code x0 x1 x2 x3 x4 b s (rank x0 x1 x2 x3 x4 b s 64))) (j : Fin 4096) :
    val_main_v44 x0 x1 x2 x3 x4 (ix3 b s j) = thinned (code x0 x1 x2 x3 x4 b s) j := by
  have hs := search_first (code x0 x1 x2 x3 x4 b s) (rank x0 x1 x2 x3 x4 b s) (Sort.ranked_le _) h ((rank x0 x1 x2 x3 x4 b s).symm j)
  rw [Equiv.apply_symm_apply] at hs
  rw [sparse_at]
  unfold thinned
  exact if_congr (hs.symm.trans Iff.rfl |>.symm.symm) rfl rfl

end Cert.EncRefIdeal.Value
-- ==== Proof.EncMask.lean ====
/-
  The mask of the encoder's claim, read at a row: where it holds, the row's coefficients of ranks 63 and 64 lie
  further apart than the last bracket of the search is wide.
-/
module

public import proofs.«01_k».proof.On_separated
public import proofs.«01_k».proof.Proof.EncScatter
public import Idealize.ShloMosaic.Lib.ReduceAll

@[expose] public section

noncomputable section

open Idealize.ShloMosaic Idealize.ShloMosaic.TcCoe

namespace Cert.On_separated

/-- The mask's side conditions. -/
instance facts : Facts where
  reducesTo_S2x2048x8_S2x2048_d2 := by decide
  h_S_ := by decide
  bcast_S_S2x2048 := by decide
  bcast_S2x2048_S2x2048x1_0_1 := by decide
  bcast_S2x2048x1_S2x2048x8_0_1_2 := by decide
  bcast_S4096_S1x1x4096_2 := by decide
  bcast_S1x1x4096_S2x2048x4096_0_1_2 := by decide
  sliceFits_S2x2048x4096_S2x2048x65 := by decide
  reducesTo_S2x2048x4096_S2x2048_d2 := by decide
  bcast_S2x2048x1_S2x2048x4096_0_1_2 := by decide
  slices_S2x2048x65_S2x2048x1_0_0_63 := by decide
  shapeCasts_S2x2048x1_S2x2048 := by decide
  slices_S2x2048x65_S2x2048x1_0_0_64 := by decide
  bcast_S_S4096x8 := by decide
  bcast_S_S4096x1024 := by decide
  shapeCasts_S2x2048_S4096x1 := by decide
  bcast_S4096x1_S4096x4096_0_1 := by decide
  reducesTo_S2x2048_S_d0_1 := by decide
  shapeCasts_S_S1x1 := by decide
  dot_S2x2048x1024_S1024x8_S2x2048x8_2_0_01_1_n_n_wf := by decide
  dot_S2x2048x8_S8x1024_S2x2048x1024_2_0_01_1_n_n_wf := by decide
  dot_S2x2048x1024_S1024x4096_S2x2048x4096_2_0_01_1_n_n_wf := by decide

open Facts Cert.Spec

variable (x : FVec Ideal S2x2048x4096 .f32) (v : FVec Ideal S2x2048x65 .f32) (b : Fin 2) (s : Fin 2048)

/-- A number at every row. -/
def fill (w : BitVec 32) : FVec Ideal S2x2048 .f32 := broadcastInDim S2x2048 ![] bcast_S_S2x2048 (constant (F := Ideal) S_ .f32 w)

theorem fill_at (w : BitVec 32) : fill w (ix2 b s) = Ideal.ofBits .f32 w := rfl

/-- The rows' sums. -/
def sums : FVec Ideal S2x2048 .f32 :=
  Host.reduceAdd x (constant (F := Ideal) S_ .f32 0x00000000#32) reducesTo_S2x2048x4096_S2x2048_d2 h_S_

theorem sums_at : sums x (ix2 b s) = ∑ j, x (ix3 b s j) := by
  unfold sums
  simp only [Host.reduceAdd, Ideal.hostReduceAdd_def]
  have hr : S2x2048x4096.Reduces [2] S2x2048 := by decide
  rw [Ideal.hostReduceAdd_single reducesTo_S2x2048x4096_S2x2048_d2 hr]
  have z : (constant (F := Ideal) S_ .f32 0x00000000#32 : FVec Ideal S_ .f32) (Shape.Idx.first h_S_) = (0 : EReal) := Ideal.ofBits_zero_f32
  rw [z, zero_add]
  refine Finset.sum_congr rfl fun k _ => congrArg x ?_
  exact eq_ix3 _

/-- The rows' means. -/
def means : FVec Ideal S2x2048 .f32 := Host.divf (sums x) (fill 0x45800000#32)

theorem means_at : means x (ix2 b s) = avg fun j => x (ix3 b s j) := by
  show Ideal.div (sums x (ix2 b s)) (fill 0x45800000#32 (ix2 b s)) = _
  rw [sums_at, fill_at]
  rfl

/-- The rows' distances from their means. -/
def distances : FVec Ideal S2x2048x4096 .f32 := subf x (broadcastInDim S2x2048x4096 ![0, 1, 2] bcast_S2x2048x1_S2x2048x4096_0_1_2
  (broadcastInDim S2x2048x1 ![0, 1] bcast_S2x2048_S2x2048x1_0_1 (means x)))

theorem distances_at (j : Fin 4096) : distances x (ix3 b s j) = x (ix3 b s j) - avg fun j => x (ix3 b s j) := by
  rw [← means_at]
  unfold distances
  generalize means x = y
  refine congrArg (x (ix3 b s j) - ·) ?_
  refine (broadcastInDim_apply _ bcast_S2x2048x1_S2x2048x4096_0_1_2 _ (ix3 b s j) (ix3 b s (0 : Fin 1)) fun a => ?_).trans
    (broadcastInDim_apply _ bcast_S2x2048_S2x2048x1_0_1 y (ix3 b s (0 : Fin 1)) (ix2 b s) fun a => ?_)
  · fin_cases a <;> rfl
  · fin_cases a <;> rfl

/-- The rows' deviations. -/
def deviations : FVec Ideal S2x2048 .f32 :=
  Host.sqrt (Host.divf (sums (mulf (distances x) (distances x))) (fill 0x45800000#32))

theorem deviations_at : deviations x (ix2 b s) = stray fun j => x (ix3 b s j) := by
  show Ideal.sqrt (Ideal.div (sums (mulf (distances x) (distances x)) (ix2 b s)) (fill 0x45800000#32 (ix2 b s))) = _
  rw [sums_at, fill_at]
  unfold stray many
  refine congrArg (fun z => Ideal.sqrt (Ideal.div z _)) (Finset.sum_congr rfl fun j _ => ?_)
  show distances x (ix3 b s j) * distances x (ix3 b s j) = _
  rw [distances_at]

/-- The rows' entries of ranks 63 and 64. -/
def last : FVec Ideal S2x2048 .f32 := shapeCast S2x2048 (extractStridedSlice S2x2048x1 ![0, 0, 63] v slices_S2x2048x65_S2x2048x1_0_0_63)
  shapeCasts_S2x2048x1_S2x2048
def next : FVec Ideal S2x2048 .f32 := shapeCast S2x2048 (extractStridedSlice S2x2048x1 ![0, 0, 64] v slices_S2x2048x65_S2x2048x1_0_0_64)
  shapeCasts_S2x2048x1_S2x2048

/-- An array of one entry per row, its unit axis dropped. -/
theorem dropped (y : FVec Ideal S2x2048x1 .f32) : shapeCast S2x2048 y shapeCasts_S2x2048x1_S2x2048 (ix2 b s) = y (ix3 b s 0) := by
  refine shapeCast_apply y _ (ix2 b s) (ix3 b s 0) ?_
  rw [Shape.rowMajor_val_three, Shape.rowMajor_val_two]
  show (b.val * 2048 + s.val) * 1 + 0 = b.val * 2048 + s.val
  omega

theorem last_at : last v (ix2 b s) = v (ix3 b s 63) := by
  unfold last
  rw [dropped]
  refine congrArg v ((eq_ix3 _).trans ?_)
  congr 1 <;> exact Fin.ext (Nat.zero_add _)

theorem next_at : next v (ix2 b s) = v (ix3 b s 64) := by
  unfold next
  rw [dropped]
  refine congrArg v ((eq_ix3 _).trans ?_)
  congr 1 <;> exact Fin.ext (Nat.zero_add _)

/-- The rows' last brackets. -/
def widths : FVec Ideal S2x2048 .f32 := mulf (fn_where (F := Ideal)
  (andi (cmpf .oge (last v) (addf (means x) (mulf (fill 0x3FD9999A#32) (deviations x))))
    (cmpf .olt (last v) (addf (means x) (mulf (fill 0x40266666#32) (deviations x)))))
  (constant (F := Ideal) S_ .f32 0x3F666666#32) (constant (F := Ideal) S_ .f32 0x41900000#32)) (deviations x)

theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem choose_bit (p : Prop) [Decidable p] (y z : EReal) : Scalar.select (BitVec.ofBool (decide p)) y z = if p then y else z := by
  by_cases hp : p <;> simp [hp, Scalar.select]

theorem widths_at : widths x v (ix2 b s) = reachWidth (fun j => x (ix3 b s j)) (v (ix3 b s 63)) := by
  have e : widths x v (ix2 b s) = Scalar.select (IntOp.andi
      (BitVec.ofBool (decide (means x (ix2 b s) + fill 0x3FD9999A#32 (ix2 b s) * deviations x (ix2 b s) ≤ last v (ix2 b s))))
      (BitVec.ofBool (decide (last v (ix2 b s) < means x (ix2 b s) + fill 0x40266666#32 (ix2 b s) * deviations x (ix2 b s)))))
      (Ideal.ofBits .f32 0x3F666666#32) (Ideal.ofBits .f32 0x41900000#32) * deviations x (ix2 b s) := rfl
  rw [e, and_bits, choose_bit, means_at, deviations_at, last_at, fill_at, fill_at]
  rfl

/-- Whether a row's entries lie apart. -/
def apart : IVec S2x2048 1 := cmpf .ogt (subf (last v) (next v)) (mulf (widths x v) (fill 0x37800000#32))

theorem of_apart (h : apart x v (ix2 b s) = 1#1) : Apart (fun j => x (ix3 b s j)) (v (ix3 b s 63)) (v (ix3 b s 64)) := by
  have e : apart x v (ix2 b s) = BitVec.ofBool (decide
      (widths x v (ix2 b s) * fill 0x37800000#32 (ix2 b s) < last v (ix2 b s) - next v (ix2 b s))) := rfl
  rw [e, widths_at, fill_at, last_at, next_at] at h
  by_contra hc
  unfold Apart at hc
  simp [hc] at h

/-- The second of a pair that is known. -/
theorem second {α β : Type} {p : α × β} {y : α} {z : β} (h : p = (y, z)) : p.2 = z := by
  subst h
  rfl

/-- What the mask says of the sparse coefficients and of their magnitude, from the coefficients and their leading entries. -/
theorem parts : (fn_part1 (F := Ideal) x v (constant (F := Ideal) S_ .f32 0x00000000#32)).2.2 =
    (broadcastInDim S4096x4096 ![0, 1] bcast_S4096x1_S4096x4096_0_1 (shapeCast S4096x1 (apart x v) shapeCasts_S2x2048_S4096x1),
      shapeCast S1x1 (Host.reduce IntOp.andi (apart x v) (constantI S_ 1 1#1) reducesTo_S2x2048_S_d0_1 h_S_) shapeCasts_S_S1x1) := rfl

/-- A row the mask takes lies apart. -/
theorem row_apart (n j : Fin 4096) (h : (fn_part1 (F := Ideal) x v (constant (F := Ideal) S_ .f32 0x00000000#32)).2.2.1 (ix2 n j) = 1#1) :
    apart x v (ix2 ⟨n.val / 2048, by omega⟩ ⟨n.val % 2048, by omega⟩) = 1#1 := by
  rw [parts] at h
  refine Eq.trans ?_ h
  symm
  show broadcastInDim S4096x4096 ![0, 1] bcast_S4096x1_S4096x4096_0_1 (shapeCast S4096x1 (apart x v) shapeCasts_S2x2048_S4096x1)
    (ix2 n j) = _
  refine (broadcastInDim_apply _ bcast_S4096x1_S4096x4096_0_1 _ (ix2 n j) (ix2 n (0 : Fin 1)) fun a => ?_).trans
    (shapeCast_apply _ _ (ix2 n (0 : Fin 1)) _ ?_)
  · fin_cases a <;> rfl
  · rw [Shape.rowMajor_val_two, Shape.rowMajor_val_two]
    show n.val / 2048 * 2048 + n.val % 2048 = n.val * 1 + 0
    omega

/-- The conjunction of all bits. -/
theorem of_all (y : IVec S2x2048 1) (k : S2x2048.Idx) (i : S1x1.Idx)
    (h : shapeCast S1x1 (Host.reduce IntOp.andi y (constantI S_ 1 1#1) reducesTo_S2x2048_S_d0_1 h_S_) shapeCasts_S_S1x1 i = 1#1) :
    y k = 1#1 := by
  haveI : Subsingleton S_.Idx := ⟨fun a b => funext fun k => k.elim0⟩
  rw [one_eq] at h
  exact Host.reduce_andi_all y (constantI S_ 1 1#1) reducesTo_S2x2048_S_d0_1 h_S_ ix0 h k

/-- Where the mask takes the magnitude, all rows lie apart. -/
theorem all_apart (i : S1x1.Idx) (h : (fn_part1 (F := Ideal) x v (constant (F := Ideal) S_ .f32 0x00000000#32)).2.2.2 i = 1#1) :
    apart x v (ix2 b s) = 1#1 := by
  have e := second (parts x v)
  rw [e] at h
  exact of_all (apart x v) (ix2 b s) i h

end Cert.On_separated
-- ==== Proof.EncBlock.lean ====
/-
  What one grid point of the encoder kernel leaves in its four output blocks.

  Every point stores its family weights, its basis rows and its sparse coefficients whole, the same functions of the point's
  input blocks in all three cases of the body; the one-element sum of magnitudes is restarted at the first point, carried at
  the others and divided at the last.
-/
module

public import proofs.«01_k».proof.Proof.Gen.EncIdeal.Value
public import Idealize.ShloMosaic.Lib.Tactic
public import Idealize.ShloMosaic.Lib.Pipeline.ValueKit.Acc

@[expose] public section

noncomputable section

open Idealize.ShloMosaic Idealize.ShloMosaic.TcCoe Idealize.ShloMosaic.Tactic Idealize.SL.Sem

namespace Cert.EncIdeal.Block

open Cert.EncIdeal Cert.EncIdeal.Gen

variable {F : FTy → Type} [FloatOps F]
variable (m : (ℓ : Loc nD τ sig) → Buf (Elt F) ℓ)

/-- The family weights a point leaves. -/
theorem families_eq (c : Dev nD) (t : Fin cfg0.N) : (outsAt0 m c t.val t.isLt).1 = k0_pay5 (iblk m c 0 t) (iblk m c 1 t) := by
  by_cases h0 : t.val % 8 = 0
  · rw [outsAt0_A m c t h0 (by omega)]; frame_out
  · by_cases h1 : t.val % 8 = 7
    · rw [outsAt0_C m c t h0 h1]; frame_out
    · rw [outsAt0_B m c t h0 h1]; frame_out

/-- The basis rows a point leaves. -/
theorem basis_eq (c : Dev nD) (t : Fin cfg0.N) : (outsAt0 m c t.val t.isLt).2.1 =
    k0_pay6 (iblk m c 0 t) (iblk m c 1 t) (iblk m c 2 t) := by
  by_cases h0 : t.val % 8 = 0
  · rw [outsAt0_A m c t h0 (by omega)]; frame_out
  · by_cases h1 : t.val % 8 = 7
    · rw [outsAt0_C m c t h0 h1]; frame_out
    · rw [outsAt0_B m c t h0 h1]; frame_out

/-- The bracket the sixteen halvings end with, of the rows' 64th largest coefficients. -/
def bracket (v : FVec F S512x4096 .f32) (a s q : FVec F S512x1 .f32) : FVec F S512x1 .f32 × FVec F S512x1 .f32 :=
  Scf.fold (n := k0_t1_loop.trips) (fun _ acc => (k0_pay16 v acc.1 acc.2, k0_pay17 v acc.1 acc.2)) (k0_pay12 v a s q, k0_pay13 v a s q)

/-- The sparse coefficients: those at least the bracket's lower end. -/
def sparse (x : Vec F S512x1024 .f32) (wf : Vec F S1024x8 .f32) (emb : Vec F S8x1024 .f32) (we : Vec F S1024x4096 .f32)
    (be : Vec F S1x4096 .f32) : FVec F S512x4096 .f32 :=
  k0_pay18 (k0_pay7 x wf emb we be)
    (bracket (k0_pay7 x wf emb we be) (k0_pay8 x wf emb we be) (k0_pay9 x wf emb we be) (k0_pay10 x wf emb we be)).1

/-- The sparse coefficients a point leaves. -/
theorem sparse_eq (c : Dev nD) (t : Fin cfg0.N) : (outsAt0 m c t.val t.isLt).2.2.1 =
    sparse (iblk m c 0 t) (iblk m c 1 t) (iblk m c 2 t) (iblk m c 3 t) (iblk m c 4 t) := by
  by_cases h0 : t.val % 8 = 0
  · rw [outsAt0_A m c t h0 (by omega)]; frame_out; rfl
  · by_cases h1 : t.val % 8 = 7
    · rw [outsAt0_C m c t h0 h1]; frame_out; rfl
    · rw [outsAt0_B m c t h0 h1]; frame_out; rfl

/-- The first point's sum: its block's, added to zero. -/
theorem total_first (c : Dev nD) (t : Fin cfg0.N) (h0 : t.val % 8 = 0) : (outsAt0 m c t.val t.isLt).2.2.2 =
    k0_pay2 (sparse (iblk m c 0 t) (iblk m c 1 t) (iblk m c 2 t) (iblk m c 3 t) (iblk m c 4 t)) k0_pay1 := by
  rw [outsAt0_A m c t h0 (by omega)]; frame_out; rfl

/-- An inner point's sum: its block's, added to what the point before left. -/
theorem total_inner (c : Dev nD) (t : Fin cfg0.N) (h0 : ¬t.val % 8 = 0) (h1 : ¬t.val % 8 = 7) :
    (outsAt0 m c t.val t.isLt).2.2.2 =
      k0_pay2 (sparse (iblk m c 0 t) (iblk m c 1 t) (iblk m c 2 t) (iblk m c 3 t) (iblk m c 4 t))
        (outsAt0 m c (t.val - 1) (lt_of_le_of_lt (Nat.sub_le _ _) t.isLt)).2.2.2 := by
  rw [outsAt0_B m c t h0 h1]; frame_out; rfl

/-- The last point's sum: the same, divided by the number of entries. -/
theorem total_last (c : Dev nD) (t : Fin cfg0.N) (h1 : t.val % 8 = 7) :
    (outsAt0 m c t.val t.isLt).2.2.2 =
      k0_pay3 (k0_pay2 (sparse (iblk m c 0 t) (iblk m c 1 t) (iblk m c 2 t) (iblk m c 3 t) (iblk m c 4 t))
        (outsAt0 m c (t.val - 1) (lt_of_le_of_lt (Nat.sub_le _ _) t.isLt)).2.2.2) := by
  rw [outsAt0_C m c t (by omega) h1]; frame_out; rfl

end Cert.EncIdeal.Block
-- ==== Proof.EncRow.lean ====
/-
  One grid point of the encoder kernel, read at a row.
-/
module

public import proofs.«01_k».proof.Proof.EncBlock
public import proofs.«01_k».proof.Proof.EncSpec

@[expose] public section

noncomputable section

open Idealize.ShloMosaic

namespace Cert.EncIdeal.Row

open Cert.EncIdeal Cert.EncIdeal.Gen Cert.Spec

variable (x : Vec Ideal S512x1024 .f32) (wf : Vec Ideal S1024x8 .f32) (emb : Vec Ideal S8x1024 .f32) (we : Vec Ideal S1024x4096 .f32)
  (be : Vec Ideal S1x4096 .f32)

/-- The family weights of a row. -/
theorem families_apply (r : Fin 512) (j : Fin 8) : k0_pay5 x wf (ix2 r j) =
    families (fun k => x (ix2 r k)) (fun k l => wf (ix2 k l)) j := by
  unfold k0_pay5 k0_pay4 families softmax top
  pointwise [mul]

/-- The basis of a row. -/
theorem base_apply (r : Fin 512) (j : Fin 1024) : k0_pay6 x wf emb (ix2 r j) =
    base (fun k => x (ix2 r k)) (fun k l => wf (ix2 k l)) (fun k l => emb (ix2 k l)) j := by
  unfold k0_pay6 base mul
  pointwise [families_apply]

/-- The coefficients of a row. -/
theorem coeffs_apply (r : Fin 512) (j : Fin 4096) : k0_pay7 x wf emb we be (ix2 r j) =
    coeffs (fun k => x (ix2 r k)) (fun k l => wf (ix2 k l)) (fun k l => emb (ix2 k l)) (fun k l => we (ix2 k l)) (fun l => be (ix2 0 l)) j := by
  unfold k0_pay7 k0_pay4 coeffs mul
  pointwise [base_apply]

variable (v : FVec Ideal S512x4096 .f32) (a s q : FVec Ideal S512x1 .f32) (r : Fin 512)

/-- A truth value as a number. -/
theorem truth_one (P : Prop) [Decidable P] :
    FloatOps.sitofp (F := Ideal) .f32 (BitVec.setWidth 32 (BitVec.ofBool (decide P))) = if P then (1 : EReal) else 0 := by
  by_cases h : P
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

/-- A truth value read back as a bit. -/
theorem bit_one (P : Prop) [Decidable P] : (BitVec.ofBool (decide P) = 1#1) = P := by
  by_cases h : P <;> simp [h]

/-- Which way a halving goes. -/
theorem side_apply (lo hi : FVec Ideal S512x1 .f32) : k0_pay15 v lo hi (ix2 r 0) =
    BitVec.ofBool (decide (kept ≤ above (fun j => v (ix2 r j)) (middle (lo (ix2 r 0), hi (ix2 r 0))))) := by
  unfold k0_pay15 k0_pay14 middle above kept
  pointwise [truth_one]

/-- One halving of a row's bracket. -/
theorem halve_apply (lo hi : FVec Ideal S512x1 .f32) : (k0_pay16 v lo hi (ix2 r 0), k0_pay17 v lo hi (ix2 r 0)) =
    halve (fun j => v (ix2 r j)) (lo (ix2 r 0), hi (ix2 r 0)) := by
  have e : k0_pay14 lo hi (ix2 r 0) = middle (lo (ix2 r 0), hi (ix2 r 0)) := by
    unfold k0_pay14 middle
    pointwise
  have h16 : k0_pay16 v lo hi (ix2 r 0) = if k0_pay15 v lo hi (ix2 r 0) = 1#1 then k0_pay14 lo hi (ix2 r 0) else lo (ix2 r 0) := rfl
  have h17 : k0_pay17 v lo hi (ix2 r 0) = if k0_pay15 v lo hi (ix2 r 0) = 1#1 then hi (ix2 r 0) else k0_pay14 lo hi (ix2 r 0) := rfl
  rw [h16, h17, e, side_apply]
  simp only [bit_one, halve]
  split <;> rfl

/-- The starting bracket's lower end. -/
theorem lower_apply (ha : a (ix2 r 0) = avg (fun j => v (ix2 r j))) (hs : k0_pay11 s q (ix2 r 0) = spread (fun j => v (ix2 r j))) :
    k0_pay12 v a s q (ix2 r 0) = lower (fun j => v (ix2 r j)) := by
  unfold k0_pay12 lower above kept
  pointwise [truth_one]
  simp only [ha, hs, bit_one]

/-- The starting bracket's upper end. -/
theorem upper_apply (ha : a (ix2 r 0) = avg (fun j => v (ix2 r j))) (hs : k0_pay11 s q (ix2 r 0) = spread (fun j => v (ix2 r j))) :
    k0_pay13 v a s q (ix2 r 0) = upper (fun j => v (ix2 r j)) := by
  unfold k0_pay13 upper above kept
  pointwise [truth_one]
  simp only [ha, hs, bit_one]

/-- Any number of halvings of a row's bracket. -/
theorem halvings_apply {n : ℕ} (ks : List (Fin n)) (b : FVec Ideal S512x1 .f32 × FVec Ideal S512x1 .f32) :
    (fun p : FVec Ideal S512x1 .f32 × FVec Ideal S512x1 .f32 => (p.1 (ix2 r 0), p.2 (ix2 r 0)))
      (ks.foldl (fun acc _ => (k0_pay16 v acc.1 acc.2, k0_pay17 v acc.1 acc.2)) b) =
    (halve (fun j => v (ix2 r j)))^[ks.length] (b.1 (ix2 r 0), b.2 (ix2 r 0)) := by
  induction ks generalizing b with
  | nil => rfl
  | cons k ks ih =>
    rw [List.foldl_cons, List.length_cons, Function.iterate_succ_apply, ih]
    exact congrArg _ (halve_apply v r b.1 b.2)

/-- The final bracket's lower end. -/
theorem bracket_apply (ha : a (ix2 r 0) = avg (fun j => v (ix2 r j))) (hs : k0_pay11 s q (ix2 r 0) = spread (fun j => v (ix2 r j))) :
    (Block.bracket v a s q).1 (ix2 r 0) = (search (fun j => v (ix2 r j)) 16).1 := by
  unfold Block.bracket
  rw [Scf.fold_eq]
  have e := halvings_apply v r (List.finRange k0_t1_loop.trips) (k0_pay12 v a s q, k0_pay13 v a s q)
  rw [List.length_finRange, show k0_t1_loop.trips = 16 from by decide] at e
  refine (congrArg Prod.fst e).trans ?_
  unfold search
  rw [← lower_apply v a s q r ha hs, ← upper_apply v a s q r ha hs]

/-- The sparse coefficients of a row. -/
theorem sparse_apply (j : Fin 4096) : Block.sparse x wf emb we be (ix2 r j) =
    thinned (coeffs (fun k => x (ix2 r k)) (fun k l => wf (ix2 k l)) (fun k l => emb (ix2 k l)) (fun k l => we (ix2 k l)) (fun l => be (ix2 0 l))) j := by
  have hv := coeffs_apply x wf emb we be r
  unfold Block.sparse
  generalize hc : k0_pay7 x wf emb we be = c at hv
  have ha : k0_pay8 x wf emb we be (ix2 r 0) = avg (fun j => c (ix2 r j)) := by
    unfold k0_pay8 avg many
    rw [hc]
    pointwise
  have hs : k0_pay11 (k0_pay9 x wf emb we be) (k0_pay10 x wf emb we be) (ix2 r 0) = spread (fun j => c (ix2 r j)) := by
    unfold k0_pay11 k0_pay9 k0_pay10 spread many
    rw [hc]
    pointwise [ha]
  have hb := bracket_apply c _ _ _ r ha hs
  unfold k0_pay18
  pointwise [hb, bit_one]
  simp only [hv]
  rfl

end Cert.EncIdeal.Row
-- ==== Proof.EncEntry.lean ====
/-
  The encoder kernel's input blocks, read from the arguments: the rows by blocks of 512 of the 4096, the weights and the
  offset whole at every point.
-/
module

public import proofs.«01_k».proof.Proof.EncRow
public import Idealize.ShloMosaic.Lib.Claim
public import Idealize.ShloMosaic.Lib.Pipeline.ValueKit.Geometry

@[expose] public section

noncomputable section

open Idealize.ShloMosaic Idealize.ShloMosaic.TcCoe

namespace Cert.EncIdeal.Entry

open Cert.EncIdeal Cert.EncIdeal.Gen Cert.Spec

variable (m : (ℓ : Loc nD τ sig) → Buf (Elt Ideal) ℓ) (c : Dev nD) (t : Fin cfg0.N)

theorem lt8 (t : Fin cfg0.N) : t.val < 8 := t.isLt

theorem index0 : ∀ t : Fin cfg0.N, win0_0.index t = ![t.val, 0] :=
  (by decide +kernel : ∀ t : Fin grid0.N, win0_0.index t = ![t.val, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![t.val, 0] :=
  (by decide +kernel : ∀ t : Fin grid0.N, win0_5.index t = ![t.val, 0])

theorem index6 : ∀ t : Fin cfg0.N, win0_6.index t = ![t.val, 0] :=
  (by decide +kernel : ∀ t : Fin grid0.N, win0_6.index t = ![t.val, 0])

theorem index7 : ∀ t : Fin cfg0.N, win0_7.index t = ![t.val, 0] :=
  (by decide +kernel : ∀ t : Fin grid0.N, win0_7.index t = ![t.val, 0])

/-- The block of rows. -/
theorem x_at (r : Fin 512) (k : Fin 1024) : iblk m c 0 t (ix2 r k) = flat (m ((c.tc : Thread nD τ).loc main_arg0)) (pos t.val (lt8 t) r) k := by
  have e : ((View.whole main_v0).slice (win0_0.rect t)).emb (ix2 r k) = ix2 (pos t.val (lt8 t) r) k := by blk_ext [index0, pos]
  blk_simp [iblk]
  entry_read
  rw [e]
  exact flat_eq _ _ _ _

/-- The family weights' matrix. -/
theorem wf_at (k : Fin 1024) (l : Fin 8) : iblk m c 1 t (ix2 k l) = m ((c.tc : Thread nD τ).loc main_arg1) (ix2 k l) := by
  have e : ((View.whole main_arg1).slice (win0_1.rect t)).emb (ix2 k l) = ix2 k l := by blk_ext [index1, pos]
  blk_simp [iblk]
  entry_read
  rw [e]

/-- The families' vectors. -/
theorem emb_at (k : Fin 8) (l : Fin 1024) : iblk m c 2 t (ix2 k l) = m ((c.tc : Thread nD τ).loc main_arg2) (ix2 k l) := by
  have e : ((View.whole main_arg2).slice (win0_2.rect t)).emb (ix2 k l) = ix2 k l := by blk_ext [index2, pos]
  blk_simp [iblk]
  entry_read
  rw [e]

/-- The encoder's matrix. -/
theorem we_at (k : Fin 1024) (l : Fin 4096) : iblk m c 3 t (ix2 k l) = m ((c.tc : Thread nD τ).loc main_arg3) (ix2 k l) := by
  have e : ((View.whole main_arg3).slice (win0_3.rect t)).emb (ix2 k l) = ix2 k l := by blk_ext [index3, pos]
  blk_simp [iblk]
  entry_read
  rw [e]

/-- The encoder's offset. -/
theorem be_at (l : Fin 4096) : iblk m c 4 t (ix2 0 l) = m ((c.tc : Thread nD τ).loc main_arg4) (ix1 l) := by
  have e : ((View.whole main_v1).slice (win0_4.rect t)).emb (ix2 0 l) = ix2 0 l := by blk_ext [index4, pos]
  blk_simp [iblk]
  entry_read
  rw [e]
  exact row_eq _ _ _

end Cert.EncIdeal.Entry
-- ==== Proof.EncArray.lean ====
/-
  What the encoder kernel leaves in its four result arrays, as functions of the arguments: every row's family weights, basis
  and thinned coefficients, and the mean magnitude of the latter.
-/
module

public import proofs.«01_k».proof.Proof.EncEntry
public import Idealize.ShloMosaic.Lib.Pipeline.ValueKit.Acc

@[expose] public section

noncomputable section

open Idealize.ShloMosaic Idealize.ShloMosaic.TcCoe Idealize.ShloMosaic.Pipeline

namespace Cert.EncIdeal.Array

open Cert.EncIdeal Cert.EncIdeal.Gen Cert.Spec Cert.EncIdeal.Entry

variable (m : (ℓ : Loc nD τ sig) → Buf (Elt Ideal) ℓ) (c : Dev nD)

/-- A row's family weights, from the arguments. -/
def weights (n : Fin 4096) : Fin 8 → EReal :=
  families (flat (m ((c.tc : Thread nD τ).loc main_arg0)) n) (fun k l => m ((c.tc : Thread nD τ).loc main_arg1) (ix2 k l))

/-- A row's basis, from the arguments. -/
def basis (n : Fin 4096) : Fin 1024 → EReal :=
  base (flat (m ((c.tc : Thread nD τ).loc main_arg0)) n) (fun k l => m ((c.tc : Thread nD τ).loc main_arg1) (ix2 k l))
    (fun k l => m ((c.tc : Thread nD τ).loc main_arg2) (ix2 k l))

/-- A row's coefficients, from the arguments. -/
def code (n : Fin 4096) : Fin 4096 → EReal :=
  coeffs (flat (m ((c.tc : Thread nD τ).loc main_arg0)) n) (fun k l => m ((c.tc : Thread nD τ).loc main_arg1) (ix2 k l))
    (fun k l => m ((c.tc : Thread nD τ).loc main_arg2) (ix2 k l)) (fun k l => m ((c.tc : Thread nD τ).loc main_arg3) (ix2 k l))
    (fun l => m ((c.tc : Thread nD τ).loc main_arg4) (ix1 l))

/-- The array of family weights. -/
theorem final_weights : (dats m 0 c).arrAt 5 cfg0.N = fun i => weights m c (i 0) (i 1) := by
  refine (dats m 0 c).arrAt_eq_of_covers 5 _ (by decide +kernel) fun t hf y => ?_
  blk_simp
  rw [after0_5, Block.families_eq]
  obtain ⟨r, j, rfl⟩ : ∃ (r : Fin 512) (j : Fin 8), y = ix2 r j := ⟨y 0, y 1, eq_ix2 y⟩
  have e : ((View.whole main_v2_0).slice (win0_5.rect t)).emb (ix2 r j) = ix2 (pos t.val (lt8 t) r) j := by blk_ext [index5, pos]
  rw [e, Row.families_apply]
  simp only [x_at, wf_at]
  rfl

/-- The array of basis rows. -/
theorem final_basis : (dats m 0 c).arrAt 6 cfg0.N = fun i => basis m c (i 0) (i 1) := by
  refine (dats m 0 c).arrAt_eq_of_covers 6 _ (by decide +kernel) fun t hf y => ?_
  blk_simp
  rw [after0_6, Block.basis_eq]
  obtain ⟨r, j, rfl⟩ : ∃ (r : Fin 512) (j : Fin 1024), y = ix2 r j := ⟨y 0, y 1, eq_ix2 y⟩
  have e : ((View.whole main_v2_1).slice (win0_6.rect t)).emb (ix2 r j) = ix2 (pos t.val (lt8 t) r) j := by blk_ext [index6, pos]
  rw [e, Row.base_apply]
  simp only [x_at, wf_at, emb_at]
  rfl

/-- A point's sparse coefficients are the rows' thinned coefficients at the block's rows. -/
theorem sparse_at (t : Fin cfg0.N) (r : Fin 512) (j : Fin 4096) :
    Block.sparse (iblk m c 0 t) (iblk m c 1 t) (iblk m c 2 t) (iblk m c 3 t) (iblk m c 4 t) (ix2 r j) = thinned (code m c (pos t.val (lt8 t) r)) j := by
  rw [Row.sparse_apply]
  simp only [x_at, wf_at, emb_at, we_at, be_at]
  rfl

/-- The array of sparse coefficients. -/
theorem final_sparse : (dats m 0 c).arrAt 7 cfg0.N = fun i => thinned (code m c (i 0)) (i 1) := by
  refine (dats m 0 c).arrAt_eq_of_covers 7 _ (by decide +kernel) fun t hf y => ?_
  blk_simp
  rw [after0_7, Block.sparse_eq]
  obtain ⟨r, j, rfl⟩ : ∃ (r : Fin 512) (j : Fin 4096), y = ix2 r j := ⟨y 0, y 1, eq_ix2 y⟩
  have e : ((View.whole main_v2_2).slice (win0_7.rect t)).emb (ix2 r j) = ix2 (pos t.val (lt8 t) r) j := by blk_ext [index7, pos]
  rw [e]
  exact sparse_at m c t r j

/-- One block's sum of magnitudes. -/
def part (t : Fin 8) : EReal := ∑ r : Fin 512, ∑ j : Fin 4096, size (thinned (code m c (pos t.val t.isLt r)) j)

/-- A point adds its block's sum to what it is given. -/
theorem add_part (t : Fin cfg0.N) (acc : Vec Ideal S1x1 .f32) (z w : Fin 1) :
    k0_pay2 (Block.sparse (iblk m c 0 t) (iblk m c 1 t) (iblk m c 2 t) (iblk m c 3 t) (iblk m c 4 t)) acc (ix2 z w) =
      acc (ix2 z w) + part m c ⟨t.val, lt8 t⟩ := by
  have hs := sparse_at m c t
  generalize Block.sparse (iblk m c 0 t) (iblk m c 1 t) (iblk m c 2 t) (iblk m c 3 t) (iblk m c 4 t) = s at hs
  unfold k0_pay2
  pointwise
  simp only [hs]
  rfl

/-- The sum carried after `n + 1` points. -/
theorem carried (n : ℕ) (h : n < cfg0.N) (h7 : n < 7) (z w : Fin 1) :
    (outsAt0 m c n h).2.2.2 (ix2 z w) = ∑ t : Fin (n + 1), part m c ⟨t.val, by omega⟩ := by
  induction n with
  | zero =>
    have e := Block.total_first m c ⟨0, h⟩ rfl
    rw [show (outsAt0 m c 0 h).2.2.2 = _ from e, add_part]
    unfold k0_pay1
    pointwise
    simp
  | succ n ih =>
    have e := Block.total_inner m c ⟨n + 1, h⟩ (by dsimp only; omega) (by dsimp only; omega)
    rw [show (outsAt0 m c (n + 1) h).2.2.2 = _ from e, add_part, Fin.sum_univ_castSucc]
    refine congrArg (· + _) ?_
    exact ih (by omega) (by omega)

/-- The number of entries of the sparse array, 2^24, as the programs write it. -/
def entries : EReal := Ideal.ofBits .f32 0x4B800000#32

/-- The carried sum over the number of entries. -/
theorem over_entries (acc : Vec Ideal S1x1 .f32) (z w : Fin 1) : k0_pay3 acc (ix2 z w) = Ideal.div (acc (ix2 z w)) entries := by
  unfold k0_pay3 entries
  pointwise

/-- The mean magnitude of rows of coefficients. -/
def magnitude (f : Fin 4096 → Fin 4096 → EReal) : EReal := Ideal.div (∑ n, ∑ j, size (f n j)) entries

/-- The last point adds its block and divides by the number of entries. -/
theorem total_last (h : 7 < cfg0.N) (i : S1x1.Idx) : (outsAt0 m c 7 h).2.2.2 i = magnitude fun n => thinned (code m c n) := by
  obtain ⟨z, w, rfl⟩ : ∃ (z w : Fin 1), i = ix2 z w := ⟨i 0, i 1, eq_ix2 i⟩
  have e := Block.total_last m c ⟨7, h⟩ rfl
  rw [show (outsAt0 m c 7 h).2.2.2 = _ from e, over_entries, add_part]
  have e' := carried m c 6 (by omega) (by omega) z w
  rw [show (outsAt0 m c (7 - 1) _).2.2.2 (ix2 z w) = _ from e']
  unfold magnitude
  rw [sum_blocks (A := 8) (B := 512) rfl, Fin.sum_univ_castSucc (n := 7)]
  rfl

/-- The one-element result is the mean magnitude. -/
theorem final_total : (dats m 0 c).arrAt 8 cfg0.N = fun _ => magnitude fun n => thinned (code m c n) := by
  refine (dats m 0 c).arrAt_eq_of_after_last 8 ⟨7, by decide⟩ (by decide +kernel) _ fun j => ?_
  rw [after0_8]
  exact total_last m c _ _

end Cert.EncIdeal.Array
-- ==== Proof.EncEqual.lean ====
/-
  The encoder's equation: where the mask holds, the reference's sparse coefficients and their magnitude are the
  ones the search leaves.
-/
module

public import proofs.«01_k».proof.Proof.EncMask
public import proofs.«01_k».proof.Proof.EncArray

@[expose] public section

noncomputable section

open Idealize.ShloMosaic Idealize.ShloMosaic.TcCoe

namespace Cert.EncRefIdeal.Value

open Cert.EncRefIdeal Cert.EncRefIdeal.Gen Cert.EncRefIdeal.Read Cert.Spec

variable (x0 : Vec Ideal S2x2048x1024 .f32) (x1 : Vec Ideal S1024x8 .f32) (x2 : Vec Ideal S8x1024 .f32)
  (x3 : Vec Ideal S1024x4096 .f32) (x4 : Vec Ideal S4096 .f32)

/-- The mask starts from the reference's own coefficients. -/
theorem mask_eq : Cert.On_separated.fn (F := Ideal) x0 x1 x2 x3 x4 = Cert.On_separated.fn_part1 (F := Ideal) (val_main_v17 x0 x1 x2 x3 x4)
    (Host.topK Cert.On_separated.S2x2048x65 2 (FloatOps.cmpfTotal .gt) (val_main_v17 x0 x1 x2 x3 x4)
      Cert.On_separated.Facts.sliceFits_S2x2048x4096_S2x2048x65).1
    (constant (F := Ideal) Cert.On_separated.S_ .f32 0x00000000#32) := rfl

/-- A row's entries of ranks 63 and 64 lie apart. -/
def RowApart (b : Fin 2) (s : Fin 2048) : Prop :=
  Apart (code x0 x1 x2 x3 x4 b s) (code x0 x1 x2 x3 x4 b s (rank x0 x1 x2 x3 x4 b s 63)) (code x0 x1 x2 x3 x4 b s (rank x0 x1 x2 x3 x4 b s 64))

/-- What the mask's bit for a row says. -/
theorem row_of_bit (b : Fin 2) (s : Fin 2048) (h : Cert.On_separated.apart (val_main_v17 x0 x1 x2 x3 x4)
      (Host.topK Cert.On_separated.S2x2048x65 2 (FloatOps.cmpfTotal .gt) (val_main_v17 x0 x1 x2 x3 x4)
        Cert.On_separated.Facts.sliceFits_S2x2048x4096_S2x2048x65).1 (ix2 b s) = 1#1) : RowApart x0 x1 x2 x3 x4 b s := by
  have e := Cert.On_separated.of_apart _ _ b s h
  rw [Sort.leading (val_main_v17 x0 x1 x2 x3 x4) b s (by omega), Sort.leading (val_main_v17 x0 x1 x2 x3 x4) b s (by omega), row_code,
    funext fun j => code_at x0 x1 x2 x3 x4 b s j] at e
  exact e

/-- A sparse coefficient the mask takes is the one the search leaves. -/
theorem sparse_of_mask (n j : Fin 4096) (h : (Cert.On_separated.fn (F := Ideal) x0 x1 x2 x3 x4).2.2.1 (ix2 n j) = 1#1) :
    val_main_v50 x0 x1 x2 x3 x4 (ix2 n j) =
      thinned (code x0 x1 x2 x3 x4 ⟨n.val / 2048, by omega⟩ ⟨n.val % 2048, by omega⟩) j := by
  rw [mask_eq] at h
  rw [flat_sparse]
  exact sparse_apart _ _ x0 x1 x2 x3 x4 (row_of_bit x0 x1 x2 x3 x4 _ _ (Cert.On_separated.row_apart _ _ n j h)) j

/-- The magnitude, where all rows lie apart, is the magnitude of what the search leaves. -/
theorem total_of_rows (i : S1x1.Idx) (h : ∀ b s, RowApart x0 x1 x2 x3 x4 b s) :
    val_main_v51 x0 x1 x2 x3 x4 i = Cert.EncIdeal.Array.magnitude fun n =>
      thinned (code x0 x1 x2 x3 x4 ⟨n.val / 2048, by omega⟩ ⟨n.val % 2048, by omega⟩) := by
  unfold val_main_v51
  rw [one_eq, val_main_v47_apply, val_main_v46_apply]
  have z : (val_main_cst_8 (F := Ideal)) (Shape.Idx.first h_S_) = (0 : EReal) := Ideal.ofBits_zero_f32
  rw [z, zero_add, sum_idx3]
  unfold Cert.EncIdeal.Array.magnitude
  refine congrArg₂ Ideal.div ?_ (rfl : val_main_cst_9 (F := Ideal) ix0 = Cert.EncIdeal.Array.entries)
  refine Eq.trans ?_ (sum_blocks (A := 2) (B := 2048) (N := 4096) (by norm_num) _).symm
  refine Finset.sum_congr rfl fun b _ => Finset.sum_congr rfl fun s _ => Finset.sum_congr rfl fun j _ => ?_
  have e : (⟨(2048 * b.val + s.val) / 2048, by omega⟩ : Fin 2) = b := Fin.ext (by show (2048 * b.val + s.val) / 2048 = b.val; omega)
  have e' : (⟨(2048 * b.val + s.val) % 2048, by omega⟩ : Fin 2048) = s := Fin.ext (by show (2048 * b.val + s.val) % 2048 = s.val; omega)
  rw [val_main_v45_apply, sparse_apart b s x0 x1 x2 x3 x4 (h b s) j]
  simp only [e, e']
  rfl

/-- The same, where the mask takes it. -/
theorem total_of_mask (i : S1x1.Idx) (h : (Cert.On_separated.fn (F := Ideal) x0 x1 x2 x3 x4).2.2.2 i = 1#1) :
    val_main_v51 x0 x1 x2 x3 x4 i = Cert.EncIdeal.Array.magnitude fun n =>
      thinned (code x0 x1 x2 x3 x4 ⟨n.val / 2048, by omega⟩ ⟨n.val % 2048, by omega⟩) := by
  rw [mask_eq] at h
  exact total_of_rows x0 x1 x2 x3 x4 i fun b s => row_of_bit x0 x1 x2 x3 x4 b s (Cert.On_separated.all_apart _ _ b s i h)

end Cert.EncRefIdeal.Value
-- ==== Proof.EncClaim.lean ====
/-
  The encoder's claim: the kernel's four arrays are the reference's, the sparse coefficients and their magnitude
  where the mask holds.
-/
module

public import proofs.«01_k».proof.Proof.EncEqual
public import proofs.«01_k».proof.Defs

@[expose] public section

noncomputable section

open Idealize.ShloMosaic Idealize.ShloMosaic.TcCoe Idealize.SL.Sem

namespace Cert.Enc.Equation

open Cert.EncRefIdeal.Read Cert.EncIdeal.Array

/-- From memories agreeing on the arguments, the kernel and the reference end with the same family weights and the same
    basis, and with the same sparse coefficients and the same magnitude where the mask holds. -/
theorem algebraic : Cert.algebraic_EncIdeal_EncRefIdeal_on_separated (hEncIdeal := Cert.EncIdeal.Gen.facts)
    (hEncRefIdeal := Cert.EncRefIdeal.Gen.facts) (hOn_separated := Cert.On_separated.facts) := by
  intro m g m' g' _ hagree
  refine ⟨fun c i => weights m c (i 0) (i 1), fun c i => basis m c (i 0) (i 1),
    fun c i => Spec.thinned (code m c (i 0)) (i 1), fun c _ => magnitude fun n => Spec.thinned (code m c n), ?_, ?_⟩
  · refine (θ_run _ _ _).mono (fun r h c => ?_) (Cert.EncIdeal.Value.run_blocks m g)
    have hc := h c
    rw [final_weights, final_basis, final_sparse, final_total] at hc
    obtain ⟨h0, h1, h2, h3, kept⟩ := hc
    exact ⟨fun i _ => congrFun h0 i, fun i _ => congrFun h1 i, fun i _ => congrFun h2 i, fun i _ => congrFun h3 i, kept⟩
  · refine (θ_run _ _ _).mono (fun r h c => ?_) (Cert.EncRefIdeal.Value.run m' g')
    obtain ⟨h0, h1, h2, h3, kept⟩ := h c
    obtain ⟨a0, a1, a2, a3, a4⟩ := hagree c
    refine ⟨fun i _ => (congrFun h0 i).trans ?_, fun i _ => (congrFun h1 i).trans ?_, fun i hi => (congrFun h2 i).trans ?_,
      fun i hi => (congrFun h3 i).trans ?_, kept⟩
    · obtain ⟨n, j, rfl⟩ : ∃ (n : Fin 4096) (j : Fin 8), i = ix2 n j := ⟨i 0, i 1, eq_ix2 i⟩
      rw [val_main_v48_eq, a0, a1]
      exact EncRefIdeal.Value.flat_weights _ _ n j
    · obtain ⟨n, j, rfl⟩ : ∃ (n : Fin 4096) (j : Fin 1024), i = ix2 n j := ⟨i 0, i 1, eq_ix2 i⟩
      rw [val_main_v49_eq, a0, a1, a2]
      exact EncRefIdeal.Value.flat_basis _ _ _ n j
    · obtain ⟨n, j, rfl⟩ : ∃ (n : Fin 4096) (j : Fin 4096), i = ix2 n j := ⟨i 0, i 1, eq_ix2 i⟩
      rw [val_main_v50_eq, a0, a1, a2, a3, a4]
      exact EncRefIdeal.Value.sparse_of_mask _ _ _ _ _ n j hi
    · rw [val_main_v51_eq, a0, a1, a2, a3, a4]
      exact EncRefIdeal.Value.total_of_mask _ _ _ _ _ i hi

end Cert.Enc.Equation
-- ==== Proof.WholeCall0.lean ====
/- The call of the encoder inside the whole program: what its body leaves at each point, and its obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-- The block of a window at a point, read off the array that the call is entered with. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point, for any proof data that leave it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window holds its block at every point, for any proof data that leave it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window holds its block at every point, for any proof data that leave it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window holds its block at every point, for any proof data that leave it in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window holds its block at every point, for any proof data that leave it in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- A condition of the body. -/
abbrev cond0_0 (i : grid0.Coords) : Prop := (Scalar.cmpi .ne (Scalar.extui (Scalar.cmpi .eq (BitVec.ofNat 32 (i 0).val) 0#32)) 0#32) = 1#1
/-- The points at which the condition holds. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- A condition of the body. -/
abbrev cond0_1 (i : grid0.Coords) : Prop := (Scalar.cmpi .ne (Scalar.extui (Scalar.cmpi .eq (BitVec.ofNat 32 (i 0).val) 7#32)) 0#32) = 1#1
/-- The points at which the condition holds. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, e0]
    word_cmp
   : ∀ t : Fin grid0.N, cond0_1 (grid0.coords t) ↔ t.val % 8 = 7)

/-- A buffer through which contents are stated. -/
abbrev VO0_5 : View sig .tc .vmem S512x8 .f32 := (Memref.whole cc0_stg5_0 : Memref sig .tc .vmem S512x8 .f32).view
/-- A buffer through which contents are stated. -/
abbrev VO0_6 : View sig .tc .vmem S512x1024 .f32 := (Memref.whole cc0_stg6_0 : Memref sig .tc .vmem S512x1024 .f32).view
/-- A buffer through which contents are stated. -/
abbrev VO0_7 : View sig .tc .vmem S512x4096 .f32 := (Memref.whole cc0_stg7_0 : Memref sig .tc .vmem S512x4096 .f32).view
/-- A buffer through which contents are stated. -/
abbrev VO0_8 : View sig .tc .vmem S1x1 .f32 := (Memref.whole cc0_stg8_0 : Memref sig .tc .vmem S1x1 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x8 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)

section Runs

variable (c : Dev nD) (i : grid0.Coords) (arg1 : Memref sig .tc .vmem S512x1024 .f32) (harg1 : arg1.IsWhole) (arg2 : Memref sig .tc .vmem S1024x8 .f32) (harg2 : arg2.IsWhole) (arg3 : Memref sig .tc .vmem S8x1024 .f32) (harg3 : arg3.IsWhole) (arg4 : Memref sig .tc .vmem S1024x4096 .f32) (harg4 : arg4.IsWhole) (arg5 : Memref sig .tc .vmem S1x4096 .f32) (harg5 : arg5.IsWhole) (arg6 : Memref sig .tc .vmem S512x8 .f32) (harg6 : arg6.IsWhole) (arg7 : Memref sig .tc .vmem S512x1024 .f32) (harg7 : arg7.IsWhole) (arg8 : Memref sig .tc .vmem S512x4096 .f32) (harg8 : arg8.IsWhole) (arg9 : Memref sig .tc .vmem S1x1 .f32) (harg9 : arg9.IsWhole)

set_option maxHeartbeats 1000000 in
/-- The pieces that the body stores in this case, and its run to them. -/
noncomputable def kernelRun0_A (hc0 : cond0_0 i) (hc1 : ¬cond0_1 i)
    (x0 : Vec F S512x1024 .f32) (x1 : Vec F S1024x8 .f32) (x2 : Vec F S8x1024 .f32) (x3 : Vec F S1024x4096 .f32) (x4 : Vec F S1x4096 .f32) :
    Σ' (L5 : List (View.Piece (Elt F) S512x8 .f32)), Σ' (L6 : List (View.Piece (Elt F) S512x1024 .f32)), Σ' (L7 : List (View.Piece (Elt F) S512x4096 .f32)), { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__stageA_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__stageA_body_eq_skeleton]; unfold cc0__stageA_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact H8

/-- The pieces cover the block. -/
theorem cover0_A_5 (hc0 : cond0_0 i) (hc1 : ¬cond0_1 i)
    (x0 : Vec F S512x1024 .f32) (x1 : Vec F S1024x8 .f32) (x2 : Vec F S8x1024 .f32) (x3 : Vec F S1024x4096 .f32) (x4 : Vec F S1x4096 .f32) (y : S512x8.Idx) :
    ∃ pc ∈ (kernelRun0_A c i arg1 harg1 arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).1 S512x8.size (by sl_kernel_rfl) y

/-- What this case leaves in the buffer. -/
def out0_A_5 (hc0 : cond0_0 i) (hc1 : ¬cond0_1 i)
    (x0 : Vec F S512x1024 .f32) (x1 : Vec F S1024x8 .f32) (x2 : Vec F S8x1024 .f32) (x3 : Vec F S1024x4096 .f32) (x4 : Vec F S1x4096 .f32) : Vec F S512x8 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x0 x1 x2 x3 x4).1)

/-- The pieces cover the block. -/
theorem cover0_A_6 (hc0 : cond0_0 i) (hc1 : ¬cond0_1 i)
    (x0 : Vec F S512x1024 .f32) (x1 : Vec F S1024x8 .f32) (x2 : Vec F S8x1024 .f32) (x3 : Vec F S1024x4096 .f32) (x4 : Vec F S1x4096 .f32) (y : S512x1024.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.1 S512x1024.size (by sl_kernel_rfl) y

/-- What this case leaves in the buffer. -/
def out0_A_6 (hc0 : cond0_0 i) (hc1 : ¬cond0_1 i)
    (x0 : Vec F S512x1024 .f32) (x1 : Vec F S1024x8 .f32) (x2 : Vec F S8x1024 .f32) (x3 : Vec F S1024x4096 .f32) (x4 : Vec F S1x4096 .f32) : Vec F S512x1024 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3 x4).2.1)

/-- The pieces cover the block. -/
theorem cover0_A_7 (hc0 : cond0_0 i) (hc1 : ¬cond0_1 i)
    (x0 : Vec F S512x1024 .f32) (x1 : Vec F S1024x8 .f32) (x2 : Vec F S8x1024 .f32) (x3 : Vec F S1024x4096 .f32) (x4 : Vec F S1x4096 .f32) (y : S512x4096.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.2.1 S512x4096.size (by sl_kernel_rfl) y

/-- What this case leaves in the buffer. -/
def out0_A_7 (hc0 : cond0_0 i) (hc1 : ¬cond0_1 i)
    (x0 : Vec F S512x1024 .f32) (x1 : Vec F S1024x8 .f32) (x2 : Vec F S8x1024 .f32) (x3 : Vec F S1024x4096 .f32) (x4 : Vec F S1x4096 .f32) : Vec F S512x4096 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 hc1 x0 x1 x2 x3 x4).2.2.1)

/-- The pieces cover the block. -/
theorem cover0_A_8 (hc0 : cond0_0 i) (hc1 : ¬cond0_1 i)
    (x0 : Vec F S512x1024 .f32) (x1 : Vec F S1024x8 .f32) (x2 : Vec F S8x1024 .f32) (x3 : Vec F S1024x4096 .f32) (x4 : Vec F S1x4096 .f32) (y : S1x1.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.2.2.1 S1x1.size (by sl_kernel_rfl) y

/-- What this case leaves in the buffer. -/
def out0_A_8 (hc0 : cond0_0 i) (hc1 : ¬cond0_1 i)
    (x0 : Vec F S512x1024 .f32) (x1 : Vec F S1024x8 .f32) (x2 : Vec F S8x1024 .f32) (x3 : Vec F S1024x4096 .f32) (x4 : Vec F S1x4096 .f32) : Vec F S1x1 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 hc1 x0 x1 x2 x3 x4).2.2.2.1)

set_option maxHeartbeats 1000000 in
/-- The pieces that the body stores in this case, and its run to them. -/
noncomputable def kernelRun0_B (hc0 : ¬cond0_0 i) (hc1 : ¬cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) :
    Σ' (L5 : List (View.Piece (Elt F) S512x8 .f32)), Σ' (L6 : List (View.Piece (Elt F) S512x1024 .f32)), Σ' (L7 : List (View.Piece (Elt F) S512x4096 .f32)), { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__stageA_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__stageA_body_eq_skeleton]; unfold cc0__stageA_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact H8

/-- The pieces cover the block. -/
theorem cover0_B_5 (hc0 : ¬cond0_0 i) (hc1 : ¬cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) (y : S512x8.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xo8).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xo8).1 S512x8.size (by sl_kernel_rfl) y

/-- What this case leaves in the buffer. -/
def out0_B_5 (hc0 : ¬cond0_0 i) (hc1 : ¬cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) : Vec F S512x8 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x0 x1 x2 x3 x4 xo8).1)

/-- The pieces cover the block. -/
theorem cover0_B_6 (hc0 : ¬cond0_0 i) (hc1 : ¬cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) (y : S512x1024.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xo8).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xo8).2.1 S512x1024.size (by sl_kernel_rfl) y

/-- What this case leaves in the buffer. -/
def out0_B_6 (hc0 : ¬cond0_0 i) (hc1 : ¬cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) : Vec F S512x1024 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x0 x1 x2 x3 x4 xo8).2.1)

/-- The pieces cover the block. -/
theorem cover0_B_7 (hc0 : ¬cond0_0 i) (hc1 : ¬cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) (y : S512x4096.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xo8).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xo8).2.2.1 S512x4096.size (by sl_kernel_rfl) y

/-- What this case leaves in the buffer. -/
def out0_B_7 (hc0 : ¬cond0_0 i) (hc1 : ¬cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) : Vec F S512x4096 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 hc1 x0 x1 x2 x3 x4 xo8).2.2.1)

/-- The pieces cover the block. -/
theorem cover0_B_8 (hc0 : ¬cond0_0 i) (hc1 : ¬cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) (y : S1x1.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xo8).2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xo8).2.2.2.1 S1x1.size (by sl_kernel_rfl) y

/-- What this case leaves in the buffer. -/
def out0_B_8 (hc0 : ¬cond0_0 i) (hc1 : ¬cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) : Vec F S1x1 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 hc0 hc1 x0 x1 x2 x3 x4 xo8).2.2.2.1)

set_option maxHeartbeats 1000000 in
/-- The pieces that the body stores in this case, and its run to them. -/
noncomputable def kernelRun0_C (hc0 : ¬cond0_0 i) (hc1 : cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) :
    Σ' (L5 : List (View.Piece (Elt F) S512x8 .f32)), Σ' (L6 : List (View.Piece (Elt F) S512x1024 .f32)), Σ' (L7 : List (View.Piece (Elt F) S512x4096 .f32)), { L8 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__stageA_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__stageA_body_eq_skeleton]; unfold cc0__stageA_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact H8

/-- The pieces cover the block. -/
theorem cover0_C_5 (hc0 : ¬cond0_0 i) (hc1 : cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) (y : S512x8.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xo8).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xo8).1 S512x8.size (by sl_kernel_rfl) y

/-- What this case leaves in the buffer. -/
def out0_C_5 (hc0 : ¬cond0_0 i) (hc1 : cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) : Vec F S512x8 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 x4 xo8).1)

/-- The pieces cover the block. -/
theorem cover0_C_6 (hc0 : ¬cond0_0 i) (hc1 : cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) (y : S512x1024.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xo8).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xo8).2.1 S512x1024.size (by sl_kernel_rfl) y

/-- What this case leaves in the buffer. -/
def out0_C_6 (hc0 : ¬cond0_0 i) (hc1 : cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) : Vec F S512x1024 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 xo8).2.1)

/-- The pieces cover the block. -/
theorem cover0_C_7 (hc0 : ¬cond0_0 i) (hc1 : cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) (y : S512x4096.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xo8).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xo8).2.2.1 S512x4096.size (by sl_kernel_rfl) y

/-- What this case leaves in the buffer. -/
def out0_C_7 (hc0 : ¬cond0_0 i) (hc1 : cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) : Vec F S512x4096 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 hc0 hc1 x0 x1 x2 x3 x4 xo8).2.2.1)

/-- The pieces cover the block. -/
theorem cover0_C_8 (hc0 : ¬cond0_0 i) (hc1 : cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) (y : S1x1.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xo8).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xo8).2.2.2.1 S1x1.size (by sl_kernel_rfl) y

/-- What this case leaves in the buffer. -/
def out0_C_8 (hc0 : ¬cond0_0 i) (hc1 : cond0_1 i)
    (x0 : Vec F S512x1024 .f32) (x1 : Vec F S1024x8 .f32) (x2 : Vec F S8x1024 .f32) (x3 : Vec F S1024x4096 .f32) (x4 : Vec F S1x4096 .f32) (xo8 : Vec F S1x1 .f32) : Vec F S1x1 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 hc0 hc1 x0 x1 x2 x3 x4 xo8).2.2.2.1)

end Runs

/-- What the outputs hold after each point. -/
def outsAt0 (c : Dev nD) : (n : ℕ) → n < cfg0.N → Vec F S512x8 .f32 × Vec F S512x1024 .f32 × Vec F S512x4096 .f32 × Vec F S1x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      if h1 : (n + 1) % 8 = 7 then
        False.elim (by have hN : n + 1 < 8 := lt_of_lt_of_eq hn (show cfg0.N = 8 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2)

/-- What the outputs hold after a point of this case. -/
theorem outsAt0_A (c : Dev nD) (t : Fin cfg0.N) (h0 : t.val % 8 = 0) (h1 : ¬t.val % 8 = 7) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- What the outputs hold after a point of this case. -/
theorem outsAt0_B (c : Dev nD) (t : Fin cfg0.N) (h0 : ¬t.val % 8 = 0) (h1 : ¬t.val % 8 = 7) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- What the outputs hold after a point of this case. -/
theorem outsAt0_C (c : Dev nD) (t : Fin cfg0.N) (h0 : ¬t.val % 8 = 0) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The proof data of the call. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
    | ⟨8, _⟩ => (outsAt0 V c t.val t.isLt).2.2.2
  Φ _ := Pipeline.ΦA spec0 c
  q _ := fullShare
  owed _ := 0

/-- The arrays of the proof data are those at entry. -/
theorem A_eq0 (c : Dev nD) (w : Fin cfg0.W) : (dat0 V c).A w = V c (Pipeline.arrRef spec0 w) := by
  dsimp only [dat0]

/-- What the body leaves in each window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]
theorem after0_8 (c : Dev nD) (t : Fin cfg0.N) : (dat0 V c).after 8 t = (outsAt0 V c t.val t.isLt).2.2.2 := by dsimp only [dat0]

/-- An input window holds its block at every point. -/
theorem before0_0 (c : Dev nD) (t : Fin cfg0.N) (d) : (dat0 V c).before 0 t d = iblk0 V c 0 t :=
  before0_0_of V (dat0 V c) (A_eq0 V c 0) (after0_0 V c) t d
/-- An input window holds its block at every point. -/
theorem before0_1 (c : Dev nD) (t : Fin cfg0.N) (d) : (dat0 V c).before 1 t d = iblk0 V c 1 t :=
  before0_1_of V (dat0 V c) (A_eq0 V c 1) (after0_1 V c) t d
/-- An input window holds its block at every point. -/
theorem before0_2 (c : Dev nD) (t : Fin cfg0.N) (d) : (dat0 V c).before 2 t d = iblk0 V c 2 t :=
  before0_2_of V (dat0 V c) (A_eq0 V c 2) (after0_2 V c) t d
/-- An input window holds its block at every point. -/
theorem before0_3 (c : Dev nD) (t : Fin cfg0.N) (d) : (dat0 V c).before 3 t d = iblk0 V c 3 t :=
  before0_3_of V (dat0 V c) (A_eq0 V c 3) (after0_3 V c) t d
/-- An input window holds its block at every point. -/
theorem before0_4 (c : Dev nD) (t : Fin cfg0.N) (d) : (dat0 V c).before 4 t d = iblk0 V c 4 t :=
  before0_4_of V (dat0 V c) (A_eq0 V c 4) (after0_4 V c) t d
/-- The accumulated scalar holds, before this point, what the point before left. -/
theorem before0_8_B (c : Dev nD) (t : Fin cfg0.N) (h0 : ¬t.val % 8 = 0) (h1 : ¬t.val % 8 = 7) (d) :
    (dat0 V c).before 8 t d = (outsAt0 V c (t.val - 1) (Nat.lt_of_le_of_lt (Nat.sub_le _ _) t.isLt)).2.2.2 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dat0]
/-- The accumulated scalar holds, before this point, what the point before left. -/
theorem before0_8_C (c : Dev nD) (t : Fin cfg0.N) (h0 : ¬t.val % 8 = 0) (h1 : t.val % 8 = 7) (d) :
    (dat0 V c).before 8 t d = (outsAt0 V c (t.val - 1) (Nat.lt_of_le_of_lt (Nat.sub_le _ _) t.isLt)).2.2.2 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dat0]

/-- What the body is called with. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- What the body returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 2400000 in
/-- The body runs from the one to the other at every point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  have hN : t.val < 8 := lt_of_lt_of_eq t.isLt (show cfg0.N = 8 from N_0)
  by_cases h0 : t.val % 8 = 0
  · by_cases h1 : t.val % 8 = 7
    · exfalso; omega
    · rw [outsAt0_A V c t h0 h1]
      unfold out0_A_5 out0_A_6 out0_A_7 out0_A_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      iintro ⟨H0, H1, H2, H3, H4, ⟨%e5, H5⟩, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _)
  · by_cases h1 : t.val % 8 = 7
    · rw [outsAt0_C V c t h0 h1]
      simp only [before0_8_C V c t h0 h1]
      unfold out0_C_5 out0_C_6 out0_C_7 out0_C_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      iintro ⟨H0, H1, H2, H3, H4, ⟨%e5, H5⟩, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _)
    · rw [outsAt0_B V c t h0 h1]
      simp only [before0_8_B V c t h0 h1]
      unfold out0_B_5 out0_B_6 out0_B_7 out0_B_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexact H8
      iintro ⟨H0, H1, H2, H3, H4, ⟨%e5, H5⟩, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _)

/-- The body at a point, as the table of bodies has it. -/
theorem defs₀_row0 (t : Fin cfg0.N) :
    defs₀ (F := F) .tc cfg0.body (cfg0.bodyArgs t (cfg0.slots t)) = bodyAt0 t := by
  unfold defs₀; rw [Defs.onTc_tc]

/-- The obligation of the body. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Whole

end
-- ==== Proof.WholeCall1.lean ====
/- The call of the projections inside the whole program: what its body leaves at each point, and its obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-- The block of a window at a point, read off the array that the call is entered with. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every point, for any proof data that leave it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point, for any proof data that leave it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point, for any proof data that leave it in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point, for any proof data that leave it in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point, for any proof data that leave it in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point, for any proof data that leave it in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point, for any proof data that leave it in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point, for any proof data that leave it in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point, for any proof data that leave it in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- A condition of the body. -/
abbrev cond1_0 (i : grid1.Coords) : Prop := (Scalar.cmpi .ne (Scalar.extui (Scalar.cmpi .eq (BitVec.ofNat 32 (i 0).val) 0#32)) 0#32) = 1#1
/-- The points at which the condition holds. -/
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

/-- A condition of the body. -/
abbrev cond1_1 (i : grid1.Coords) : Prop := (Scalar.cmpi .ne (Scalar.extui (Scalar.cmpi .eq (BitVec.ofNat 32 (i 0).val) 15#32)) 0#32) = 1#1
/-- The points at which the condition holds. -/
theorem hcond1_1 : ∀ t : Fin cfg1.N, cond1_1 (grid1.coords t) ↔ t.val % 16 = 15 :=
  (fun t => by
    have ht : t.val < 16 := Nat.lt_of_lt_of_eq t.isLt N_1
    have e0 : (grid1.coords t 0).val = t.val / 1 % 16 := Pipeline.Grid.coords_val t 0 (by decide) rfl
    simp only [cond1_1, e0]
    word_cmp
   : ∀ t : Fin grid1.N, cond1_1 (grid1.coords t) ↔ t.val % 16 = 15)

/-- A buffer through which contents are stated. -/
abbrev VO1_9 : View sig .tc .vmem S256x1024 .f32 := (Memref.whole cc1_stg9_0 : Memref sig .tc .vmem S256x1024 .f32).view
/-- A buffer through which contents are stated. -/
abbrev VO1_10 : View sig .tc .vmem S256x1024 .f32 := (Memref.whole cc1_stg10_0 : Memref sig .tc .vmem S256x1024 .f32).view
/-- A buffer through which contents are stated. -/
abbrev VO1_11 : View sig .tc .vmem S256x1024 .f32 := (Memref.whole cc1_stg11_0 : Memref sig .tc .vmem S256x1024 .f32).view
/-- A buffer through which contents are stated. -/
abbrev VO1_12 : View sig .tc .vmem S1x1 .f32 := (Memref.whole cc1_stg12_0 : Memref sig .tc .vmem S1x1 .f32).view
abbrev ms1_0 (t : Fin cfg1.N) : Memref sig .tc .vmem S256x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x1024 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S256x1024 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x1 .f32 := win1_12.stage (cfg1.slots t 12)
abbrev hs1_12 (t : Fin cfg1.N) : (ms1_12 t).IsWhole := hstage1_12 ((cfg1.slots t 12).cast nbuf1_12)

section Runs

variable (c : Dev nD) (i : grid1.Coords) (arg1 : Memref sig .tc .vmem S256x4096 .f32) (harg1 : arg1.IsWhole) (arg2 : Memref sig .tc .vmem S4096x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S1x1 .f32) (harg13 : arg13.IsWhole)

set_option maxHeartbeats 1000000 in
/-- The pieces that the body stores in this case, and its run to them. -/
noncomputable def kernelRun1_A (hc0 : cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) :
    Σ' (L9 : List (View.Piece (Elt F) S256x1024 .f32)), Σ' (L10 : List (View.Piece (Elt F) S256x1024 .f32)), Σ' (L11 : List (View.Piece (Elt F) S256x1024 .f32)), { L12 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc1__stageB_body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc1__stageB_body_eq_skeleton]; unfold cc1__stageB_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    iexists _; iexact H12

/-- The pieces cover the block. -/
theorem cover1_A_9 (hc0 : cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (y : S256x1024.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1 S256x1024.size (by sl_kernel_rfl) y

/-- What this case leaves in the buffer. -/
def out1_A_9 (hc0 : cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) : Vec F S256x1024 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).1)

/-- The pieces cover the block. -/
theorem cover1_A_10 (hc0 : cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (y : S256x1024.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1 S256x1024.size (by sl_kernel_rfl) y

/-- What this case leaves in the buffer. -/
def out1_A_10 (hc0 : cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) : Vec F S256x1024 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.1)

/-- The pieces cover the block. -/
theorem cover1_A_11 (hc0 : cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (y : S256x1024.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1 S256x1024.size (by sl_kernel_rfl) y

/-- What this case leaves in the buffer. -/
def out1_A_11 (hc0 : cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) : Vec F S256x1024 .f32 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.1)

/-- The pieces cover the block. -/
theorem cover1_A_12 (hc0 : cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1 S1x1.size (by sl_kernel_rfl) y

/-- What this case leaves in the buffer. -/
def out1_A_12 (hc0 : cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) : Vec F S1x1 .f32 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8).2.2.2.1)

set_option maxHeartbeats 1000000 in
/-- The pieces that the body stores in this case, and its run to them. -/
noncomputable def kernelRun1_B (hc0 : ¬cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) :
    Σ' (L9 : List (View.Piece (Elt F) S256x1024 .f32)), Σ' (L10 : List (View.Piece (Elt F) S256x1024 .f32)), Σ' (L11 : List (View.Piece (Elt F) S256x1024 .f32)), { L12 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xo12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc1__stageB_body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc1__stageB_body_eq_skeleton]; unfold cc1__stageB_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    iexists _; iexact H12

/-- The pieces cover the block. -/
theorem cover1_B_9 (hc0 : ¬cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) (y : S256x1024.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).1 S256x1024.size (by sl_kernel_rfl) y

/-- What this case leaves in the buffer. -/
def out1_B_9 (hc0 : ¬cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) : Vec F S256x1024 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).1)

/-- The pieces cover the block. -/
theorem cover1_B_10 (hc0 : ¬cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) (y : S256x1024.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.1 S256x1024.size (by sl_kernel_rfl) y

/-- What this case leaves in the buffer. -/
def out1_B_10 (hc0 : ¬cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) : Vec F S256x1024 .f32 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.1)

/-- The pieces cover the block. -/
theorem cover1_B_11 (hc0 : ¬cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) (y : S256x1024.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.2.1 S256x1024.size (by sl_kernel_rfl) y

/-- What this case leaves in the buffer. -/
def out1_B_11 (hc0 : ¬cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) : Vec F S256x1024 .f32 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.2.1)

/-- The pieces cover the block. -/
theorem cover1_B_12 (hc0 : ¬cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.2.2.1 S1x1.size (by sl_kernel_rfl) y

/-- What this case leaves in the buffer. -/
def out1_B_12 (hc0 : ¬cond1_0 i) (hc1 : ¬cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) : Vec F S1x1 .f32 :=
  VO1_12.read (Elt F) (VO1_12.writes (Elt F) VO1_12.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.2.2.1)

set_option maxHeartbeats 1000000 in
/-- The pieces that the body stores in this case, and its run to them. -/
noncomputable def kernelRun1_C (hc0 : ¬cond1_0 i) (hc1 : cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) :
    Σ' (L9 : List (View.Piece (Elt F) S256x1024 .f32)), Σ' (L10 : List (View.Piece (Elt F) S256x1024 .f32)), Σ' (L11 : List (View.Piece (Elt F) S256x1024 .f32)), { L12 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xo12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc1__stageB_body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc1__stageB_body_eq_skeleton]; unfold cc1__stageB_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    iexists _; iexact H12

/-- The pieces cover the block. -/
theorem cover1_C_9 (hc0 : ¬cond1_0 i) (hc1 : cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) (y : S256x1024.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).1 S256x1024.size (by sl_kernel_rfl) y

/-- What this case leaves in the buffer. -/
def out1_C_9 (hc0 : ¬cond1_0 i) (hc1 : cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) : Vec F S256x1024 .f32 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).1)

/-- The pieces cover the block. -/
theorem cover1_C_10 (hc0 : ¬cond1_0 i) (hc1 : cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) (y : S256x1024.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.1 S256x1024.size (by sl_kernel_rfl) y

/-- What this case leaves in the buffer. -/
def out1_C_10 (hc0 : ¬cond1_0 i) (hc1 : cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) : Vec F S256x1024 .f32 :=
  VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.1)

/-- The pieces cover the block. -/
theorem cover1_C_11 (hc0 : ¬cond1_0 i) (hc1 : cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) (y : S256x1024.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.2.1 S256x1024.size (by sl_kernel_rfl) y

/-- What this case leaves in the buffer. -/
def out1_C_11 (hc0 : ¬cond1_0 i) (hc1 : cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) : Vec F S256x1024 .f32 :=
  VO1_11.read (Elt F) (VO1_11.writes (Elt F) VO1_11.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.2.1)

/-- The pieces cover the block. -/
theorem cover1_C_12 (hc0 : ¬cond1_0 i) (hc1 : cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) (y : S1x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.2.2.1 S1x1.size (by sl_kernel_rfl) y

/-- What this case leaves in the buffer. -/
def out1_C_12 (hc0 : ¬cond1_0 i) (hc1 : cond1_1 i)
    (x0 : Vec F S256x4096 .f32) (x1 : Vec F S4096x1024 .f32) (x2 : Vec F S256x1024 .f32) (x3 : Vec F S1x1024 .f32) (x4 : Vec F S1x1024 .f32) (x5 : Vec F S1x1024 .f32) (x6 : Vec F S1024x1024 .f32) (x7 : Vec F S1024x1024 .f32) (x8 : Vec F S1024x1024 .f32) (xo12 : Vec F S1x1 .f32) : Vec F S1x1 .f32 :=
  VO1_12.read (Elt F) (VO1_12.writes (Elt F) VO1_12.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo12).2.2.2.1)

end Runs

/-- What the outputs hold after each point. -/
def outsAt1 (c : Dev nD) : (n : ℕ) → n < cfg1.N → Vec F S256x1024 .f32 × Vec F S256x1024 .f32 × Vec F S256x1024 .f32 × Vec F S1x1 .f32
  | 0, hn => (out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h0 : (n + 1) % 16 = 0 then
      if h1 : (n + 1) % 16 = 15 then
        False.elim (by have hN : n + 1 < 16 := lt_of_lt_of_eq hn (show cfg1.N = 16 from N_1); omega)
      else
        (out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩))
    else
      if h1 : (n + 1) % 16 = 15 then
        (out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2, out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2, out1_C_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2, out1_C_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2)
      else
        (out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2, out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2, out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2, out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2.2.2)

/-- What the outputs hold after a point of this case. -/
theorem outsAt1_A (c : Dev nD) (t : Fin cfg1.N) (h0 : t.val % 16 = 0) (h1 : ¬t.val % 16 = 15) :
    outsAt1 V c t.val t.isLt = (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => exact rfl
  | succ n => exact (dif_pos h0).trans ((dif_neg h1).trans rfl)

/-- What the outputs hold after a point of this case. -/
theorem outsAt1_B (c : Dev nD) (t : Fin cfg1.N) (h0 : ¬t.val % 16 = 0) (h1 : ¬t.val % 16 = 15) :
    outsAt1 V c t.val t.isLt = (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- What the outputs hold after a point of this case. -/
theorem outsAt1_C (c : Dev nD) (t : Fin cfg1.N) (h0 : ¬t.val % 16 = 0) (h1 : t.val % 16 = 15) :
    outsAt1 V c t.val t.isLt = (out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2, out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2, out1_C_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2, out1_C_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The proof data of the call. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2.1
    | ⟨11, _⟩ => (outsAt1 V c t.val t.isLt).2.2.1
    | ⟨12, _⟩ => (outsAt1 V c t.val t.isLt).2.2.2
  Φ _ := Pipeline.ΦA spec1 c
  q _ := fullShare
  owed _ := 0

/-- The arrays of the proof data are those at entry. -/
theorem A_eq1 (c : Dev nD) (w : Fin cfg1.W) : (dat1 V c).A w = V c (Pipeline.arrRef spec1 w) := by
  dsimp only [dat1]

/-- What the body leaves in each window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]
theorem after1_10 (c : Dev nD) (t : Fin cfg1.N) : (dat1 V c).after 10 t = (outsAt1 V c t.val t.isLt).2.1 := by dsimp only [dat1]
theorem after1_11 (c : Dev nD) (t : Fin cfg1.N) : (dat1 V c).after 11 t = (outsAt1 V c t.val t.isLt).2.2.1 := by dsimp only [dat1]
theorem after1_12 (c : Dev nD) (t : Fin cfg1.N) : (dat1 V c).after 12 t = (outsAt1 V c t.val t.isLt).2.2.2 := by dsimp only [dat1]

/-- An input window holds its block at every point. -/
theorem before1_0 (c : Dev nD) (t : Fin cfg1.N) (d) : (dat1 V c).before 0 t d = iblk1 V c 0 t :=
  before1_0_of V (dat1 V c) (A_eq1 V c 0) (after1_0 V c) t d
/-- An input window holds its block at every point. -/
theorem before1_1 (c : Dev nD) (t : Fin cfg1.N) (d) : (dat1 V c).before 1 t d = iblk1 V c 1 t :=
  before1_1_of V (dat1 V c) (A_eq1 V c 1) (after1_1 V c) t d
/-- An input window holds its block at every point. -/
theorem before1_2 (c : Dev nD) (t : Fin cfg1.N) (d) : (dat1 V c).before 2 t d = iblk1 V c 2 t :=
  before1_2_of V (dat1 V c) (A_eq1 V c 2) (after1_2 V c) t d
/-- An input window holds its block at every point. -/
theorem before1_3 (c : Dev nD) (t : Fin cfg1.N) (d) : (dat1 V c).before 3 t d = iblk1 V c 3 t :=
  before1_3_of V (dat1 V c) (A_eq1 V c 3) (after1_3 V c) t d
/-- An input window holds its block at every point. -/
theorem before1_4 (c : Dev nD) (t : Fin cfg1.N) (d) : (dat1 V c).before 4 t d = iblk1 V c 4 t :=
  before1_4_of V (dat1 V c) (A_eq1 V c 4) (after1_4 V c) t d
/-- An input window holds its block at every point. -/
theorem before1_5 (c : Dev nD) (t : Fin cfg1.N) (d) : (dat1 V c).before 5 t d = iblk1 V c 5 t :=
  before1_5_of V (dat1 V c) (A_eq1 V c 5) (after1_5 V c) t d
/-- An input window holds its block at every point. -/
theorem before1_6 (c : Dev nD) (t : Fin cfg1.N) (d) : (dat1 V c).before 6 t d = iblk1 V c 6 t :=
  before1_6_of V (dat1 V c) (A_eq1 V c 6) (after1_6 V c) t d
/-- An input window holds its block at every point. -/
theorem before1_7 (c : Dev nD) (t : Fin cfg1.N) (d) : (dat1 V c).before 7 t d = iblk1 V c 7 t :=
  before1_7_of V (dat1 V c) (A_eq1 V c 7) (after1_7 V c) t d
/-- An input window holds its block at every point. -/
theorem before1_8 (c : Dev nD) (t : Fin cfg1.N) (d) : (dat1 V c).before 8 t d = iblk1 V c 8 t :=
  before1_8_of V (dat1 V c) (A_eq1 V c 8) (after1_8 V c) t d
/-- The accumulated scalar holds, before this point, what the point before left. -/
theorem before1_12_B (c : Dev nD) (t : Fin cfg1.N) (h0 : ¬t.val % 16 = 0) (h1 : ¬t.val % 16 = 15) (d) :
    (dat1 V c).before 12 t d = (outsAt1 V c (t.val - 1) (Nat.lt_of_le_of_lt (Nat.sub_le _ _) t.isLt)).2.2.2 := by
  have hN : t.val < 16 := lt_of_lt_of_eq t.isLt (show cfg1.N = 16 from N_1)
  rw [Dat.before_out_kept _ 12 rfl t (by omega) (Bool.eq_false_iff.mpr fun h => by have := (flush1_12 _).mp h; dsimp only at this; omega)
    (fun _ => rfl) (fun _ _ => rfl)]
  dsimp only [dat1]
/-- The accumulated scalar holds, before this point, what the point before left. -/
theorem before1_12_C (c : Dev nD) (t : Fin cfg1.N) (h0 : ¬t.val % 16 = 0) (h1 : t.val % 16 = 15) (d) :
    (dat1 V c).before 12 t d = (outsAt1 V c (t.val - 1) (Nat.lt_of_le_of_lt (Nat.sub_le _ _) t.isLt)).2.2.2 := by
  have hN : t.val < 16 := lt_of_lt_of_eq t.isLt (show cfg1.N = 16 from N_1)
  rw [Dat.before_out_kept _ 12 rfl t (by omega) (Bool.eq_false_iff.mpr fun h => by have := (flush1_12 _).mp h; dsimp only at this; omega)
    (fun _ => rfl) (fun _ _ => rfl)]
  dsimp only [dat1]

/-- What the body is called with. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- What the body returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t))

set_option maxHeartbeats 3600000 in
/-- The body runs from the one to the other at every point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  have hN : t.val < 16 := lt_of_lt_of_eq t.isLt (show cfg1.N = 16 from N_1)
  by_cases h0 : t.val % 16 = 0
  · by_cases h1 : t.val % 16 = 15
    · exfalso; omega
    · rw [outsAt1_A V c t h0 h1]
      unfold out1_A_9 out1_A_10 out1_A_11 out1_A_12; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_A c (grid1.coords t) _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      iintro ⟨H0, H1, H2, H3, H4, H5, H6, H7, H8, ⟨%e9, H9⟩, ⟨%e10, H10⟩, ⟨%e11, H11⟩, ⟨%e12, H12⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_A_9 c _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_A_10 c _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover1_A_12 c _ _ _ _ _ _ _ _ _ _ _ _ _ _ _ _ _ _ _ _ _ _ _ _ _ _ _ _ _ _ _ _ _ _ _ _ _ _)
  · by_cases h1 : t.val % 16 = 15
    · rw [outsAt1_C V c t h0 h1]
      simp only [before1_12_C V c t h0 h1]
      unfold out1_C_9 out1_C_10 out1_C_11 out1_C_12; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_C c (grid1.coords t) _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexact H12
      iintro ⟨H0, H1, H2, H3, H4, H5, H6, H7, H8, ⟨%e9, H9⟩, ⟨%e10, H10⟩, ⟨%e11, H11⟩, ⟨%e12, H12⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_C_9 c _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_C_11 c _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover1_C_12 c _ _ _ _ _ _ _ _ _ _ _ _ _ _ _ _ _ _ _ _ _ _ _ _ _ _ _ _ _ _ _ _ _ _ _ _ _ _ _)
    · rw [outsAt1_B V c t h0 h1]
      simp only [before1_12_B V c t h0 h1]
      unfold out1_B_9 out1_B_10 out1_B_11 out1_B_12; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_B c (grid1.coords t) _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexact H12
      iintro ⟨H0, H1, H2, H3, H4, H5, H6, H7, H8, ⟨%e9, H9⟩, ⟨%e10, H10⟩, ⟨%e11, H11⟩, ⟨%e12, H12⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_B_10 c _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover1_B_12 c _ _ _ _ _ _ _ _ _ _ _ _ _ _ _ _ _ _ _ _ _ _ _ _ _ _ _ _ _ _ _ _ _ _ _ _ _ _ _)

/-- The body at a point, as the table of bodies has it. -/
theorem defs₀_row1 (t : Fin cfg1.N) :
    defs₀ (F := F) .tc cfg1.body (cfg1.bodyArgs t (cfg1.slots t)) = bodyAt1 t := by
  unfold defs₀; rw [Defs.onTc_tc]

/-- The obligation of the body. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Whole

end
-- ==== Proof.WholeCall2.lean ====
/- The call of the attention inside the whole program: what its body leaves at each point, its carried scratch, and its obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-- The block of a window at a point, read off the array that the call is entered with. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window holds its block at every point, for any proof data that leave it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window holds its block at every point, for any proof data that leave it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window holds its block at every point, for any proof data that leave it in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- A condition of the body. -/
abbrev cond2_0 (i : grid2.Coords) : Prop := (Scalar.cmpi .ne (Scalar.extui (Scalar.cmpi .eq (BitVec.ofNat 32 (i 2).val) 0#32)) 0#32) = 1#1
/-- The points at which the condition holds. -/
theorem hcond2_0 : ∀ t : Fin cfg2.N, cond2_0 (grid2.coords t) ↔ t.val % 2 = 0 :=
  (fun t => by
    have ht : t.val < 32 := Nat.lt_of_lt_of_eq t.isLt N_2
    have e0 : (grid2.coords t 0).val = t.val / 16 % 2 := Pipeline.Grid.coords_val t 0 (by decide) rfl
    have e1 : (grid2.coords t 1).val = t.val / 2 % 8 := Pipeline.Grid.coords_val t 1 (by decide) rfl
    have e2 : (grid2.coords t 2).val = t.val / 1 % 2 := Pipeline.Grid.coords_val t 2 (by decide) rfl
    simp only [cond2_0, e0, e1, e2]
    word_cmp
   : ∀ t : Fin grid2.N, cond2_0 (grid2.coords t) ↔ t.val % 2 = 0)

/-- A buffer through which contents are stated. -/
abbrev VO2_3 : View sig .tc .vmem S1x2x1024x2048 .f32 := (Memref.whole cc2_stg3_0 : Memref sig .tc .vmem S1x2x1024x2048 .f32).view
/-- A buffer through which contents are stated. -/
abbrev VO2_4 : View sig .tc .vmem S1x1024x128 .f32 := (Memref.whole cc2_stg4_0 : Memref sig .tc .vmem S1x1024x128 .f32).view
abbrev ms2_0 (t : Fin cfg2.N) : Memref sig .tc .vmem S1x1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2x1024x2048 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024x128 .f32 := win2_4.stage (cfg2.slots t 4)
abbrev hs2_4 (t : Fin cfg2.N) : (ms2_4 t).IsWhole := hstage2_4 ((cfg2.slots t 4).cast nbuf2_4)
abbrev scM2_0 : Memref sig .tc .vmem S4096x128 .f32 := Memref.whole cc2_scratch0
abbrev scM2_1 : Memref sig .tc .vmem S4096x128 .f32 := Memref.whole cc2_scratch1
/-- A buffer through which contents are stated. -/
abbrev VS2_0 : View sig .tc .vmem S4096x128 .f32 := scM2_0.view
/-- A buffer through which contents are stated. -/
abbrev VS2_1 : View sig .tc .vmem S4096x128 .f32 := scM2_1.view

/-- What a call is handed beside its windows, with its scratch as memrefs held at some contents. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ Pipeline.scopedRestBut spec2 c [cc2_scratch0, cc2_scratch1]) ∗ (∃ r, prngReg c r)) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  unfold Pipeline.ΦA
  rw [show (Pipeline.scopedRest spec2 c : sProp 𝕄) = _ from (scopedRest2_split c).trans (assoc _ _ _)]
  simp only [scM2_0, scM2_1, owns_whole]; try rfl

section Runs

variable (c : Dev nD) (i : grid2.Coords) (arg3 : Memref sig .tc .vmem S1x1024x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2x1024x2048 .f32) (harg6 : arg6.IsWhole) (arg7 : Memref sig .tc .vmem S1x1024x128 .f32) (harg7 : arg7.IsWhole) (arg8 : Memref sig .tc .vmem S4096x128 .f32) (harg8 : arg8.IsWhole) (arg9 : Memref sig .tc .vmem S4096x128 .f32) (harg9 : arg9.IsWhole)

set_option maxHeartbeats 1000000 in
/-- The pieces that the body stores in this case, and its run to them. -/
noncomputable def kernelRun2_A (hc0 : cond2_0 i)
    (x0 : Vec F S1x1024x128 .f32) (x1 : Vec F S1x2048x128 .f32) (x2 : Vec F S1x2048x128 .f32) :
    Σ' (L3 : List (View.Piece (Elt F) S1x2x1024x2048 .f32)), Σ' (L4 : List (View.Piece (Elt F) S1x1024x128 .f32)), Σ' (LS0 : List (View.Piece (Elt F) S4096x128 .f32)), { LS1 : List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__attn_body i arg3 harg3 arg4 harg4 arg5 harg5 arg6 harg6 arg7 harg7 arg8 harg8 arg9 harg9) K } := by
  refine ⟨?_, ?_, ?_, ?_, fun E K => ?run⟩
  case run =>
    simp only [cc2__attn_body_eq_skeleton]; unfold cc2__attn_body_skel
    simp only [k2_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [HS0]; · iexists _; iexact HS0
    iexists _; iexact HS1

set_option maxHeartbeats 1000000 in
/-- The pieces that the body stores in this case, and its run to them. -/
noncomputable def kernelRun2_B (hc0 : ¬cond2_0 i)
    (x0 : Vec F S1x1024x128 .f32) (x1 : Vec F S1x2048x128 .f32) (x2 : Vec F S1x2048x128 .f32) (xs0 : Vec F S4096x128 .f32) (xs1 : Vec F S4096x128 .f32) :
    Σ' (L3 : List (View.Piece (Elt F) S1x2x1024x2048 .f32)), Σ' (L4 : List (View.Piece (Elt F) S1x1024x128 .f32)), Σ' (LS0 : List (View.Piece (Elt F) S4096x128 .f32)), { LS1 : List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ owns (c : Thread nD τ) arg8 fullShare xs0 ∗ owns (c : Thread nD τ) arg9 fullShare xs1) -∗ K ⟨⟩))
          ⊢ wp frame (wpE (defs₀ (F := F)) Variants.none c none) E (cc2__attn_body i arg3 harg3 arg4 harg4 arg5 harg5 arg6 harg6 arg7 harg7 arg8 harg8 arg9 harg9) K } := by
  refine ⟨?_, ?_, [], [], fun E K => ?run⟩
  case run =>
    simp only [cc2__attn_body_eq_skeleton]; unfold cc2__attn_body_skel
    simp only [k2_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg8.eq_unread hfs0; obtain rfl := harg9.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    isplitl [HS0]
    · iexists _; isplitr; · ipureintro; exact harg8.read_unread _
      iexact HS0
    iexists _; isplitr; · ipureintro; exact harg9.read_unread _
    iexact HS1

/-- The pieces cover the block. -/
theorem cover2_A_3 (hc0 : cond2_0 i)
    (x0 : Vec F S1x1024x128 .f32) (x1 : Vec F S1x2048x128 .f32) (x2 : Vec F S1x2048x128 .f32) (y : S1x2x1024x2048.Idx) :
    ∃ pc ∈ (kernelRun2_A c i arg3 harg3 arg4 harg4 arg5 harg5 arg6 harg6 arg7 harg7 arg8 harg8 arg9 harg9 hc0 x0 x1 x2).1, y ∈ pc.1.set :=
  View.cover_of_tiledL (kernelRun2_A c i arg3 harg3 arg4 harg4 arg5 harg5 arg6 harg6 arg7 harg7 arg8 harg8 arg9 harg9 hc0 x0 x1 x2).1 S1x1x1024x2048.size (by sl_kernel_rfl) y

/-- What this case leaves in the buffer. -/
def out2_A_3 (hc0 : cond2_0 i)
    (x0 : Vec F S1x1024x128 .f32) (x1 : Vec F S1x2048x128 .f32) (x2 : Vec F S1x2048x128 .f32) : Vec F S1x2x1024x2048 .f32 :=
  VO2_3.read (Elt F) (VO2_3.writes (Elt F) VO2_3.junk (kernelRun2_A c i arg3 harg3 arg4 harg4 arg5 harg5 arg6 harg6 arg7 harg7 arg8 harg8 arg9 harg9 hc0 x0 x1 x2).1)

/-- The pieces cover the block. -/
theorem cover2_A_4 (hc0 : cond2_0 i)
    (x0 : Vec F S1x1024x128 .f32) (x1 : Vec F S1x2048x128 .f32) (x2 : Vec F S1x2048x128 .f32) (y : S1x1024x128.Idx) :
    ∃ pc ∈ (kernelRun2_A c i arg3 harg3 arg4 harg4 arg5 harg5 arg6 harg6 arg7 harg7 arg8 harg8 arg9 harg9 hc0 x0 x1 x2).2.1, y ∈ pc.1.set :=
  View.cover_of_tiledL (kernelRun2_A c i arg3 harg3 arg4 harg4 arg5 harg5 arg6 harg6 arg7 harg7 arg8 harg8 arg9 harg9 hc0 x0 x1 x2).2.1 S1x1024x128.size (by sl_kernel_rfl) y

/-- What this case leaves in the buffer. -/
def out2_A_4 (hc0 : cond2_0 i)
    (x0 : Vec F S1x1024x128 .f32) (x1 : Vec F S1x2048x128 .f32) (x2 : Vec F S1x2048x128 .f32) : Vec F S1x1024x128 .f32 :=
  VO2_4.read (Elt F) (VO2_4.writes (Elt F) VO2_4.junk (kernelRun2_A c i arg3 harg3 arg4 harg4 arg5 harg5 arg6 harg6 arg7 harg7 arg8 harg8 arg9 harg9 hc0 x0 x1 x2).2.1)

/-- The pieces cover the scratch. -/
theorem scover2_A_0 (hc0 : cond2_0 i)
    (x0 : Vec F S1x1024x128 .f32) (x1 : Vec F S1x2048x128 .f32) (x2 : Vec F S1x2048x128 .f32) (y : S4096x128.Idx) :
    ∃ pc ∈ (kernelRun2_A c i arg3 harg3 arg4 harg4 arg5 harg5 arg6 harg6 arg7 harg7 arg8 harg8 arg9 harg9 hc0 x0 x1 x2).2.2.1, y ∈ pc.1.set :=
  View.cover_of_tiledL (kernelRun2_A c i arg3 harg3 arg4 harg4 arg5 harg5 arg6 harg6 arg7 harg7 arg8 harg8 arg9 harg9 hc0 x0 x1 x2).2.2.1 S4096x128.size (by sl_kernel_rfl) y

/-- What this case leaves in the buffer. -/
def sout2_A_0 (hc0 : cond2_0 i)
    (x0 : Vec F S1x1024x128 .f32) (x1 : Vec F S1x2048x128 .f32) (x2 : Vec F S1x2048x128 .f32) : Vec F S4096x128 .f32 :=
  VS2_0.read (Elt F) (VS2_0.writes (Elt F) VS2_0.junk (kernelRun2_A c i arg3 harg3 arg4 harg4 arg5 harg5 arg6 harg6 arg7 harg7 arg8 harg8 arg9 harg9 hc0 x0 x1 x2).2.2.1)

/-- The pieces cover the scratch. -/
theorem scover2_A_1 (hc0 : cond2_0 i)
    (x0 : Vec F S1x1024x128 .f32) (x1 : Vec F S1x2048x128 .f32) (x2 : Vec F S1x2048x128 .f32) (y : S4096x128.Idx) :
    ∃ pc ∈ (kernelRun2_A c i arg3 harg3 arg4 harg4 arg5 harg5 arg6 harg6 arg7 harg7 arg8 harg8 arg9 harg9 hc0 x0 x1 x2).2.2.2.1, y ∈ pc.1.set :=
  View.cover_of_tiledL (kernelRun2_A c i arg3 harg3 arg4 harg4 arg5 harg5 arg6 harg6 arg7 harg7 arg8 harg8 arg9 harg9 hc0 x0 x1 x2).2.2.2.1 S4096x128.size (by sl_kernel_rfl) y

/-- What this case leaves in the buffer. -/
def sout2_A_1 (hc0 : cond2_0 i)
    (x0 : Vec F S1x1024x128 .f32) (x1 : Vec F S1x2048x128 .f32) (x2 : Vec F S1x2048x128 .f32) : Vec F S4096x128 .f32 :=
  VS2_1.read (Elt F) (VS2_1.writes (Elt F) VS2_1.junk (kernelRun2_A c i arg3 harg3 arg4 harg4 arg5 harg5 arg6 harg6 arg7 harg7 arg8 harg8 arg9 harg9 hc0 x0 x1 x2).2.2.2.1)

/-- The pieces cover the block. -/
theorem cover2_B_3 (hc0 : ¬cond2_0 i)
    (x0 : Vec F S1x1024x128 .f32) (x1 : Vec F S1x2048x128 .f32) (x2 : Vec F S1x2048x128 .f32) (xs0 : Vec F S4096x128 .f32) (xs1 : Vec F S4096x128 .f32) (y : S1x2x1024x2048.Idx) :
    ∃ pc ∈ (kernelRun2_B c i arg3 harg3 arg4 harg4 arg5 harg5 arg6 harg6 arg7 harg7 arg8 harg8 arg9 harg9 hc0 x0 x1 x2 xs0 xs1).1, y ∈ pc.1.set :=
  View.cover_of_tiledL (kernelRun2_B c i arg3 harg3 arg4 harg4 arg5 harg5 arg6 harg6 arg7 harg7 arg8 harg8 arg9 harg9 hc0 x0 x1 x2 xs0 xs1).1 S1x1x1024x2048.size (by sl_kernel_rfl) y

/-- What this case leaves in the buffer. -/
def out2_B_3 (hc0 : ¬cond2_0 i)
    (x0 : Vec F S1x1024x128 .f32) (x1 : Vec F S1x2048x128 .f32) (x2 : Vec F S1x2048x128 .f32) (xs0 : Vec F S4096x128 .f32) (xs1 : Vec F S4096x128 .f32) : Vec F S1x2x1024x2048 .f32 :=
  VO2_3.read (Elt F) (VO2_3.writes (Elt F) VO2_3.junk (kernelRun2_B c i arg3 harg3 arg4 harg4 arg5 harg5 arg6 harg6 arg7 harg7 arg8 harg8 arg9 harg9 hc0 x0 x1 x2 xs0 xs1).1)

/-- The pieces cover the block. -/
theorem cover2_B_4 (hc0 : ¬cond2_0 i)
    (x0 : Vec F S1x1024x128 .f32) (x1 : Vec F S1x2048x128 .f32) (x2 : Vec F S1x2048x128 .f32) (xs0 : Vec F S4096x128 .f32) (xs1 : Vec F S4096x128 .f32) (y : S1x1024x128.Idx) :
    ∃ pc ∈ (kernelRun2_B c i arg3 harg3 arg4 harg4 arg5 harg5 arg6 harg6 arg7 harg7 arg8 harg8 arg9 harg9 hc0 x0 x1 x2 xs0 xs1).2.1, y ∈ pc.1.set :=
  View.cover_of_tiledL (kernelRun2_B c i arg3 harg3 arg4 harg4 arg5 harg5 arg6 harg6 arg7 harg7 arg8 harg8 arg9 harg9 hc0 x0 x1 x2 xs0 xs1).2.1 S1x1024x128.size (by sl_kernel_rfl) y

/-- What this case leaves in the buffer. -/
def out2_B_4 (hc0 : ¬cond2_0 i)
    (x0 : Vec F S1x1024x128 .f32) (x1 : Vec F S1x2048x128 .f32) (x2 : Vec F S1x2048x128 .f32) (xs0 : Vec F S4096x128 .f32) (xs1 : Vec F S4096x128 .f32) : Vec F S1x1024x128 .f32 :=
  VO2_4.read (Elt F) (VO2_4.writes (Elt F) VO2_4.junk (kernelRun2_B c i arg3 harg3 arg4 harg4 arg5 harg5 arg6 harg6 arg7 harg7 arg8 harg8 arg9 harg9 hc0 x0 x1 x2 xs0 xs1).2.1)

/-- What this case leaves in the buffer. -/
def sout2_B_0 (c : Dev nD) (i : grid2.Coords) (arg3 : Memref sig .tc .vmem S1x1024x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2x1024x2048 .f32) (harg6 : arg6.IsWhole) (arg7 : Memref sig .tc .vmem S1x1024x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i)
    (x0 : Vec F S1x1024x128 .f32) (x1 : Vec F S1x2048x128 .f32) (x2 : Vec F S1x2048x128 .f32) (xs0 : Vec F S4096x128 .f32) (xs1 : Vec F S4096x128 .f32) : Vec F S4096x128 .f32 := xs0

/-- What this case leaves in the buffer. -/
def sout2_B_1 (c : Dev nD) (i : grid2.Coords) (arg3 : Memref sig .tc .vmem S1x1024x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2x1024x2048 .f32) (harg6 : arg6.IsWhole) (arg7 : Memref sig .tc .vmem S1x1024x128 .f32) (harg7 : arg7.IsWhole) (arg8 : Memref sig .tc .vmem S4096x128 .f32) (harg8 : arg8.IsWhole) (arg9 : Memref sig .tc .vmem S4096x128 .f32) (harg9 : arg9.IsWhole) (hc0 : ¬cond2_0 i)
    (x0 : Vec F S1x1024x128 .f32) (x1 : Vec F S1x2048x128 .f32) (x2 : Vec F S1x2048x128 .f32) (xs0 : Vec F S4096x128 .f32) (xs1 : Vec F S4096x128 .f32) : Vec F S4096x128 .f32 := xs1

end Runs

/-- What the outputs hold after each point. -/
def outsAt2 (c : Dev nD) : (n : ℕ) → n < cfg2.N → Vec F S1x2x1024x2048 .f32 × Vec F S1x1024x128 .f32 × Vec F S4096x128 .f32 × Vec F S4096x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (iblk2 V c 0 ⟨0, hn⟩) (iblk2 V c 1 ⟨0, hn⟩) (iblk2 V c 2 ⟨0, hn⟩), out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (iblk2 V c 0 ⟨0, hn⟩) (iblk2 V c 1 ⟨0, hn⟩) (iblk2 V c 2 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (iblk2 V c 0 ⟨0, hn⟩) (iblk2 V c 1 ⟨0, hn⟩) (iblk2 V c 2 ⟨0, hn⟩))
  | n + 1, hn =>
    if h0 : (n + 1) % 2 = 0 then
      (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) ((hcond2_0 ⟨n + 1, hn⟩).mpr h0) (iblk2 V c 0 ⟨n + 1, hn⟩) (iblk2 V c 1 ⟨n + 1, hn⟩) (iblk2 V c 2 ⟨n + 1, hn⟩), out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) ((hcond2_0 ⟨n + 1, hn⟩).mpr h0) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) ((hcond2_0 ⟨n + 1, hn⟩).mpr h0) (iblk2 V c 0 ⟨n + 1, hn⟩) (iblk2 V c 1 ⟨n + 1, hn⟩) (iblk2 V c 2 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) ((hcond2_0 ⟨n + 1, hn⟩).mpr h0) (iblk2 V c 0 ⟨n + 1, hn⟩) (iblk2 V c 1 ⟨n + 1, hn⟩) (iblk2 V c 2 ⟨n + 1, hn⟩))
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2, out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.1 (outsAt2 c n (Nat.lt_of_succ_lt hn)).2.2.2)

/-- What the outputs hold after a point of this case. -/
theorem outsAt2_A (c : Dev nD) (t : Fin cfg2.N) (h0 : t.val % 2 = 0) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t), out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t)) := by
  obtain ⟨n, hn⟩ := t
  cases n with
  | zero => exact rfl
  | succ n => exact (dif_pos h0).trans rfl

/-- What the outputs hold after a point of this case. -/
theorem outsAt2_B (c : Dev nD) (t : Fin cfg2.N) (h0 : ¬t.val % 2 = 0) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2, out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The invariant: before the first point what the call is handed, afterwards its scratch at what the point before left. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2.1) ∗ owns (c : Thread nD τ) scM2_1 fullShare ((outsAt2 V c n hn).2.2.2) ∗ Pipeline.scopedRestBut spec2 c [cc2_scratch0, cc2_scratch1]) ∗ (∃ r, prngReg c r))

/-- The invariant at a point. -/
theorem PhiS2_zero (c : Dev nD) (n : ℕ) (h : n ≤ cfg2.N) (hz : n = 0) : PhiS2 V c n h = Pipeline.ΦA spec2 c := by
  subst hz; rfl

/-- The invariant at a point. -/
theorem PhiS2_succ (c : Dev nD) (n : ℕ) (hn : n < cfg2.N) :
    PhiS2 V c (n + 1) hn = iprop(iprop(owns (c : Thread nD τ) scM2_0 fullShare ((outsAt2 V c n hn).2.2.1) ∗ owns (c : Thread nD τ) scM2_1 fullShare ((outsAt2 V c n hn).2.2.2) ∗ Pipeline.scopedRestBut spec2 c [cc2_scratch0, cc2_scratch1]) ∗ (∃ r, prngReg c r)) := rfl

/-- The invariant at a point. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2.1) ∗ owns (c : Thread nD τ) scM2_1 fullShare ((outsAt2 V c (n - 1) (by omega)).2.2.2) ∗ Pipeline.scopedRestBut spec2 c [cc2_scratch0, cc2_scratch1]) ∗ (∃ r, prngReg c r)) := by
  cases n with
  | zero => exact absurd rfl hz
  | succ n => rfl

/-- At any point the invariant holds the scratch at some contents. -/
theorem PhiS2_weak (c : Dev nD) (n : ℕ) (h : n ≤ cfg2.N) :
    PhiS2 V c n h ⊢ iprop(iprop((∃ d, owns (c : Thread nD τ) scM2_0 fullShare d) ∗ (∃ d, owns (c : Thread nD τ) scM2_1 fullShare d) ∗ Pipeline.scopedRestBut spec2 c [cc2_scratch0, cc2_scratch1]) ∗ (∃ r, prngReg c r)) := by
  cases n with
  | zero => exact PhiA2_eq (F := F) c ▸ .rfl
  | succ n =>
    rw [PhiS2_succ]
    iintro ⟨⟨HS0, HS1, HR⟩, Hg⟩
    isplitl [HS0 HS1 HR]
    · isplitl [HS0]
      · iexists _; iexact HS0
      isplitl [HS1]
      · iexists _; iexact HS1
      iexact HR
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

/-- The arrays of the proof data are those at entry. -/
theorem A_eq2 (c : Dev nD) (w : Fin cfg2.W) : (dat2 V c).A w = V c (Pipeline.arrRef spec2 w) := by
  dsimp only [dat2]

/-- The invariant at a point. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves in each window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]

/-- An input window holds its block at every point. -/
theorem before2_0 (c : Dev nD) (t : Fin cfg2.N) (d) : (dat2 V c).before 0 t d = iblk2 V c 0 t :=
  before2_0_of V (dat2 V c) (A_eq2 V c 0) (after2_0 V c) t d
/-- An input window holds its block at every point. -/
theorem before2_1 (c : Dev nD) (t : Fin cfg2.N) (d) : (dat2 V c).before 1 t d = iblk2 V c 1 t :=
  before2_1_of V (dat2 V c) (A_eq2 V c 1) (after2_1 V c) t d
/-- An input window holds its block at every point. -/
theorem before2_2 (c : Dev nD) (t : Fin cfg2.N) (d) : (dat2 V c).before 2 t d = iblk2 V c 2 t :=
  before2_2_of V (dat2 V c) (A_eq2 V c 2) (after2_2 V c) t d

/-- What the body is called with. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- What the body returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 3200000 in
/-- The body runs from the one to the other at every point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    after2_0, after2_1, after2_2, after2_3, after2_4]
  rw [show (dat2 V c).Φ t.succ = PhiS2 V c (t.val + 1) t.isLt from rfl, PhiS2_succ]
  have hN : t.val < 32 := lt_of_lt_of_eq t.isLt (show cfg2.N = 32 from N_2)
  by_cases h0 : t.val % 2 = 0
  · rw [PhiS2_castSucc V c t]
    rw [outsAt2_A V c t h0]
    unfold out2_A_3 out2_A_4 sout2_A_0 sout2_A_1; (try dsimp only)
    iintro ⟨HΦ, Ho, ⟨%d0, H0⟩, ⟨%d1, H1⟩, ⟨%d2, H2⟩, ⟨%d3, H3⟩, ⟨%d4, H4⟩⟩
    ihave HΦ := (PhiS2_weak V c t.val (Nat.le_of_lt t.isLt)) $$ HΦ
    icases HΦ with ⟨⟨HS0, HS1, HR⟩, Hg⟩
    iapply ((kernelRun2_A c (grid2.coords t) _ _ _ _ _ _ _ _ _ _ _ _ _ _ ((hcond2_0 t).mpr h0) (iblk2 V c 0 t) (iblk2 V c 1 t) (iblk2 V c 2 t)).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover2_A_0 c _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_A_3 c _ _ _ _ _ _ _ _ _ _ _ _ _ _ _ _ _ _ _)
    unfold owns; iexists _; isplitr
    swap; · iexact H4
    ipureintro; exact View.read_writes_of_cover _ _ _ _ _ (cover2_A_4 c _ _ _ _ _ _ _ _ _ _ _ _ _ _ _ _ _ _ _)
  · by_cases hz : t.val = 0
    · exfalso; have hN : t.val < 32 := lt_of_lt_of_eq t.isLt (show cfg2.N = 32 from N_2); omega
    · rw [PhiS2_castSucc V c t, PhiS2_pos V c _ _ hz]
      rw [outsAt2_B V c t h0]
      unfold out2_B_3 out2_B_4 sout2_B_0 sout2_B_1; (try dsimp only)
      iintro ⟨⟨⟨HS0, HS1, HR⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ (fun h => h0 ((hcond2_0 t).mp h)) (iblk2 V c 0 t) (iblk2 V c 1 t) (iblk2 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, HS0, HS1⟩
      isplitl [HS0 HS1 HR Hg]
      · isplitl [HS0 HS1 HR]
        · isplitl [HS0]
          · iexact HS0
          isplitl [HS1]; · iexact HS1
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_B_3 c _ _ _ _ _ _ _ _ _ _ _ _ _ _ _ _ _ _ _ _ _)
      unfold owns; iexists _; isplitr
      swap; · iexact H4
      ipureintro; exact View.read_writes_of_cover _ _ _ _ _ (cover2_B_4 c _ _ _ _ _ _ _ _ _ _ _ _ _ _ _ _ _ _ _ _ _)

/-- The body at a point, as the table of bodies has it. -/
theorem defs₀_row2 (t : Fin cfg2.N) :
    defs₀ (F := F) .tc cfg2.body (cfg2.bodyArgs t (cfg2.slots t)) = bodyAt2 t := by
  unfold defs₀; rw [Defs.onTc_tc]

/-- The obligation of the body. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the call is handed is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives back what the call was handed. -/
theorem hout2 (c : Dev nD) : (dat2 V c).Φ (Fin.last cfg2.N) ⊢ (Pipeline.ΦA spec2 c : sProp 𝕄) := by
  rw [show (dat2 V c).Φ (Fin.last cfg2.N) = PhiS2 V c cfg2.N (Nat.le_refl _) from rfl, PhiA2_eq]
  exact PhiS2_weak V c _ _

end Regions

end Cert.KernelIdeal.Whole

end
-- ==== Proof.WholeCall3.lean ====
/- The call of the feed-forward layer inside the whole program: what its body leaves at each point, and its obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-- The block of a window at a point, read off the array that the call is entered with. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window holds its block at every point, for any proof data that leave it in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- An input window holds its block at every point, for any proof data that leave it in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- An input window holds its block at every point, for any proof data that leave it in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- An input window holds its block at every point, for any proof data that leave it in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- An input window holds its block at every point, for any proof data that leave it in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- An input window holds its block at every point, for any proof data that leave it in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- An input window holds its block at every point, for any proof data that leave it in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- An input window holds its block at every point, for any proof data that leave it in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- A condition of the body. -/
abbrev cond3_0 (i : grid3.Coords) : Prop := (Scalar.cmpi .ne (Scalar.extui (Scalar.cmpi .eq (BitVec.ofNat 32 (i 0).val) 0#32)) 0#32) = 1#1
/-- The points at which the condition holds. -/
theorem hcond3_0 : ∀ t : Fin cfg3.N, cond3_0 (grid3.coords t) ↔ t.val % 8 = 0 :=
  (fun t => by
    have ht : t.val < 8 := Nat.lt_of_lt_of_eq t.isLt N_3
    have e0 : (grid3.coords t 0).val = t.val / 1 % 8 := Pipeline.Grid.coords_val t 0 (by decide) rfl
    simp only [cond3_0, e0]
    word_cmp
   : ∀ t : Fin grid3.N, cond3_0 (grid3.coords t) ↔ t.val % 8 = 0)

/-- A condition of the body. -/
abbrev cond3_1 (i : grid3.Coords) : Prop := (Scalar.cmpi .ne (Scalar.extui (Scalar.cmpi .eq (BitVec.ofNat 32 (i 0).val) 7#32)) 0#32) = 1#1
/-- The points at which the condition holds. -/
theorem hcond3_1 : ∀ t : Fin cfg3.N, cond3_1 (grid3.coords t) ↔ t.val % 8 = 7 :=
  (fun t => by
    have ht : t.val < 8 := Nat.lt_of_lt_of_eq t.isLt N_3
    have e0 : (grid3.coords t 0).val = t.val / 1 % 8 := Pipeline.Grid.coords_val t 0 (by decide) rfl
    simp only [cond3_1, e0]
    word_cmp
   : ∀ t : Fin grid3.N, cond3_1 (grid3.coords t) ↔ t.val % 8 = 7)

/-- A buffer through which contents are stated. -/
abbrev VO3_8 : View sig .tc .vmem S512x1024 .f32 := (Memref.whole cc3_stg8_0 : Memref sig .tc .vmem S512x1024 .f32).view
/-- A buffer through which contents are stated. -/
abbrev VO3_9 : View sig .tc .vmem S1x1 .f32 := (Memref.whole cc3_stg9_0 : Memref sig .tc .vmem S1x1 .f32).view
abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x4096 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1024x4096 .bf16 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S4096x1024 .bf16 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S512x1024 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x1 .f32 := win3_9.stage (cfg3.slots t 9)
abbrev hs3_9 (t : Fin cfg3.N) : (ms3_9 t).IsWhole := hstage3_9 ((cfg3.slots t 9).cast nbuf3_9)

section Runs

variable (c : Dev nD) (i : grid3.Coords) (arg1 : Memref sig .tc .vmem S512x1024 .f32) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S512x1024 .f32) (harg9 : arg9.IsWhole) (arg10 : Memref sig .tc .vmem S1x1 .f32) (harg10 : arg10.IsWhole)

set_option maxHeartbeats 1000000 in
/-- The pieces that the body stores in this case, and its run to them. -/
noncomputable def kernelRun3_A (hc0 : cond3_0 i) (hc1 : ¬cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) :
    Σ' (L8 : List (View.Piece (Elt F) S512x1024 .f32)), { L9 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc3__stageF_body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc3__stageF_body_eq_skeleton]; unfold cc3__stageF_body_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

/-- The pieces cover the block. -/
theorem cover3_A_8 (hc0 : cond3_0 i) (hc1 : ¬cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) (y : S512x1024.Idx) :
    ∃ pc ∈ (kernelRun3_A c i arg1 harg1 arg2 harg2 arg3 harg3 arg4 harg4 arg5 harg5 arg6 harg6 arg7 harg7 arg8 harg8 arg9 harg9 arg10 harg10 hc0 hc1 x0 x1 x2 x3 x4 x5 x6 x7).1, y ∈ pc.1.set :=
  View.cover_of_tiledL (kernelRun3_A c i arg1 harg1 arg2 harg2 arg3 harg3 arg4 harg4 arg5 harg5 arg6 harg6 arg7 harg7 arg8 harg8 arg9 harg9 arg10 harg10 hc0 hc1 x0 x1 x2 x3 x4 x5 x6 x7).1 S512x1024.size (by sl_kernel_rfl) y

/-- What this case leaves in the buffer. -/
def out3_A_8 (hc0 : cond3_0 i) (hc1 : ¬cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) : Vec F S512x1024 .f32 :=
  VO3_8.read (Elt F) (VO3_8.writes (Elt F) VO3_8.junk (kernelRun3_A c i arg1 harg1 arg2 harg2 arg3 harg3 arg4 harg4 arg5 harg5 arg6 harg6 arg7 harg7 arg8 harg8 arg9 harg9 arg10 harg10 hc0 hc1 x0 x1 x2 x3 x4 x5 x6 x7).1)

/-- The pieces cover the block. -/
theorem cover3_A_9 (hc0 : cond3_0 i) (hc1 : ¬cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) (y : S1x1.Idx) :
    ∃ pc ∈ (kernelRun3_A c i arg1 harg1 arg2 harg2 arg3 harg3 arg4 harg4 arg5 harg5 arg6 harg6 arg7 harg7 arg8 harg8 arg9 harg9 arg10 harg10 hc0 hc1 x0 x1 x2 x3 x4 x5 x6 x7).2.1, y ∈ pc.1.set :=
  View.cover_of_tiledL (kernelRun3_A c i arg1 harg1 arg2 harg2 arg3 harg3 arg4 harg4 arg5 harg5 arg6 harg6 arg7 harg7 arg8 harg8 arg9 harg9 arg10 harg10 hc0 hc1 x0 x1 x2 x3 x4 x5 x6 x7).2.1 S1x1.size (by sl_kernel_rfl) y

/-- What this case leaves in the buffer. -/
def out3_A_9 (hc0 : cond3_0 i) (hc1 : ¬cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) : Vec F S1x1 .f32 :=
  VO3_9.read (Elt F) (VO3_9.writes (Elt F) VO3_9.junk (kernelRun3_A c i arg1 harg1 arg2 harg2 arg3 harg3 arg4 harg4 arg5 harg5 arg6 harg6 arg7 harg7 arg8 harg8 arg9 harg9 arg10 harg10 hc0 hc1 x0 x1 x2 x3 x4 x5 x6 x7).2.1)

set_option maxHeartbeats 1000000 in
/-- The pieces that the body stores in this case, and its run to them. -/
noncomputable def kernelRun3_B (hc0 : ¬cond3_0 i) (hc1 : ¬cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) (xo9 : Vec F S1x1 .f32) :
    Σ' (L8 : List (View.Piece (Elt F) S512x1024 .f32)), { L9 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc3__stageF_body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc3__stageF_body_eq_skeleton]; unfold cc3__stageF_body_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

/-- The pieces cover the block. -/
theorem cover3_B_8 (hc0 : ¬cond3_0 i) (hc1 : ¬cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) (xo9 : Vec F S1x1 .f32) (y : S512x1024.Idx) :
    ∃ pc ∈ (kernelRun3_B c i arg1 harg1 arg2 harg2 arg3 harg3 arg4 harg4 arg5 harg5 arg6 harg6 arg7 harg7 arg8 harg8 arg9 harg9 arg10 harg10 hc0 hc1 x0 x1 x2 x3 x4 x5 x6 x7 xo9).1, y ∈ pc.1.set :=
  View.cover_of_tiledL (kernelRun3_B c i arg1 harg1 arg2 harg2 arg3 harg3 arg4 harg4 arg5 harg5 arg6 harg6 arg7 harg7 arg8 harg8 arg9 harg9 arg10 harg10 hc0 hc1 x0 x1 x2 x3 x4 x5 x6 x7 xo9).1 S512x1024.size (by sl_kernel_rfl) y

/-- What this case leaves in the buffer. -/
def out3_B_8 (hc0 : ¬cond3_0 i) (hc1 : ¬cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) (xo9 : Vec F S1x1 .f32) : Vec F S512x1024 .f32 :=
  VO3_8.read (Elt F) (VO3_8.writes (Elt F) VO3_8.junk (kernelRun3_B c i arg1 harg1 arg2 harg2 arg3 harg3 arg4 harg4 arg5 harg5 arg6 harg6 arg7 harg7 arg8 harg8 arg9 harg9 arg10 harg10 hc0 hc1 x0 x1 x2 x3 x4 x5 x6 x7 xo9).1)

/-- The pieces cover the block. -/
theorem cover3_B_9 (hc0 : ¬cond3_0 i) (hc1 : ¬cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) (xo9 : Vec F S1x1 .f32) (y : S1x1.Idx) :
    ∃ pc ∈ (kernelRun3_B c i arg1 harg1 arg2 harg2 arg3 harg3 arg4 harg4 arg5 harg5 arg6 harg6 arg7 harg7 arg8 harg8 arg9 harg9 arg10 harg10 hc0 hc1 x0 x1 x2 x3 x4 x5 x6 x7 xo9).2.1, y ∈ pc.1.set :=
  View.cover_of_tiledL (kernelRun3_B c i arg1 harg1 arg2 harg2 arg3 harg3 arg4 harg4 arg5 harg5 arg6 harg6 arg7 harg7 arg8 harg8 arg9 harg9 arg10 harg10 hc0 hc1 x0 x1 x2 x3 x4 x5 x6 x7 xo9).2.1 S1x1.size (by sl_kernel_rfl) y

/-- What this case leaves in the buffer. -/
def out3_B_9 (hc0 : ¬cond3_0 i) (hc1 : ¬cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) (xo9 : Vec F S1x1 .f32) : Vec F S1x1 .f32 :=
  VO3_9.read (Elt F) (VO3_9.writes (Elt F) VO3_9.junk (kernelRun3_B c i arg1 harg1 arg2 harg2 arg3 harg3 arg4 harg4 arg5 harg5 arg6 harg6 arg7 harg7 arg8 harg8 arg9 harg9 arg10 harg10 hc0 hc1 x0 x1 x2 x3 x4 x5 x6 x7 xo9).2.1)

set_option maxHeartbeats 1000000 in
/-- The pieces that the body stores in this case, and its run to them. -/
noncomputable def kernelRun3_C (hc0 : ¬cond3_0 i) (hc1 : cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) (xo9 : Vec F S1x1 .f32) :
    Σ' (L8 : List (View.Piece (Elt F) S512x1024 .f32)), { L9 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc3__stageF_body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc3__stageF_body_eq_skeleton]; unfold cc3__stageF_body_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

/-- The pieces cover the block. -/
theorem cover3_C_8 (hc0 : ¬cond3_0 i) (hc1 : cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) (xo9 : Vec F S1x1 .f32) (y : S512x1024.Idx) :
    ∃ pc ∈ (kernelRun3_C c i arg1 harg1 arg2 harg2 arg3 harg3 arg4 harg4 arg5 harg5 arg6 harg6 arg7 harg7 arg8 harg8 arg9 harg9 arg10 harg10 hc0 hc1 x0 x1 x2 x3 x4 x5 x6 x7 xo9).1, y ∈ pc.1.set :=
  View.cover_of_tiledL (kernelRun3_C c i arg1 harg1 arg2 harg2 arg3 harg3 arg4 harg4 arg5 harg5 arg6 harg6 arg7 harg7 arg8 harg8 arg9 harg9 arg10 harg10 hc0 hc1 x0 x1 x2 x3 x4 x5 x6 x7 xo9).1 S512x1024.size (by sl_kernel_rfl) y

/-- What this case leaves in the buffer. -/
def out3_C_8 (hc0 : ¬cond3_0 i) (hc1 : cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) (xo9 : Vec F S1x1 .f32) : Vec F S512x1024 .f32 :=
  VO3_8.read (Elt F) (VO3_8.writes (Elt F) VO3_8.junk (kernelRun3_C c i arg1 harg1 arg2 harg2 arg3 harg3 arg4 harg4 arg5 harg5 arg6 harg6 arg7 harg7 arg8 harg8 arg9 harg9 arg10 harg10 hc0 hc1 x0 x1 x2 x3 x4 x5 x6 x7 xo9).1)

/-- The pieces cover the block. -/
theorem cover3_C_9 (hc0 : ¬cond3_0 i) (hc1 : cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) (xo9 : Vec F S1x1 .f32) (y : S1x1.Idx) :
    ∃ pc ∈ (kernelRun3_C c i arg1 harg1 arg2 harg2 arg3 harg3 arg4 harg4 arg5 harg5 arg6 harg6 arg7 harg7 arg8 harg8 arg9 harg9 arg10 harg10 hc0 hc1 x0 x1 x2 x3 x4 x5 x6 x7 xo9).2.1, y ∈ pc.1.set :=
  View.cover_of_tiledL (kernelRun3_C c i arg1 harg1 arg2 harg2 arg3 harg3 arg4 harg4 arg5 harg5 arg6 harg6 arg7 harg7 arg8 harg8 arg9 harg9 arg10 harg10 hc0 hc1 x0 x1 x2 x3 x4 x5 x6 x7 xo9).2.1 S1x1.size (by sl_kernel_rfl) y

/-- What this case leaves in the buffer. -/
def out3_C_9 (hc0 : ¬cond3_0 i) (hc1 : cond3_1 i)
    (x0 : Vec F S512x1024 .f32) (x1 : Vec F S1024x1024 .bf16) (x2 : Vec F S512x1024 .f32) (x3 : Vec F S1x1024 .f32) (x4 : Vec F S1x1024 .f32) (x5 : Vec F S1024x4096 .bf16) (x6 : Vec F S1024x4096 .bf16) (x7 : Vec F S4096x1024 .bf16) (xo9 : Vec F S1x1 .f32) : Vec F S1x1 .f32 :=
  VO3_9.read (Elt F) (VO3_9.writes (Elt F) VO3_9.junk (kernelRun3_C c i arg1 harg1 arg2 harg2 arg3 harg3 arg4 harg4 arg5 harg5 arg6 harg6 arg7 harg7 arg8 harg8 arg9 harg9 arg10 harg10 hc0 hc1 x0 x1 x2 x3 x4 x5 x6 x7 xo9).2.1)

end Runs

/-- What the outputs hold after each point. -/
def outsAt3 (c : Dev nD) : (n : ℕ) → n < cfg3.N → Vec F S512x1024 .f32 × Vec F S1x1 .f32
  | 0, hn => (out3_A_8 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩), out3_A_9 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩))
  | n + 1, hn =>
    if h0 : (n + 1) % 8 = 0 then
      if h1 : (n + 1) % 8 = 7 then
        False.elim (by have hN : n + 1 < 8 := lt_of_lt_of_eq hn (show cfg3.N = 8 from N_3); omega)
      else
        (out3_A_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩), out3_A_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩))
    else
      if h1 : (n + 1) % 8 = 7 then
        (out3_C_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (outsAt3 c n (Nat.lt_of_succ_lt hn)).2, out3_C_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (outsAt3 c n (Nat.lt_of_succ_lt hn)).2)
      else
        (out3_B_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (outsAt3 c n (Nat.lt_of_succ_lt hn)).2, out3_B_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (outsAt3 c n (Nat.lt_of_succ_lt hn)).2)

/-- What the outputs hold after a point of this case. -/
theorem outsAt3_A (c : Dev nD) (t : Fin cfg3.N) (h0 : t.val % 8 = 0) (h1 : ¬t.val % 8 = 7) :
    outsAt3 V c t.val t.isLt = (out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t), out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t)) := by
  obtain ⟨n, hn⟩ := t
  cases n with
  | zero => exact rfl
  | succ n => exact (dif_pos h0).trans ((dif_neg h1).trans rfl)

/-- What the outputs hold after a point of this case. -/
theorem outsAt3_B (c : Dev nD) (t : Fin cfg3.N) (h0 : ¬t.val % 8 = 0) (h1 : ¬t.val % 8 = 7) :
    outsAt3 V c t.val t.isLt = (out3_B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).2, out3_B_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- What the outputs hold after a point of this case. -/
theorem outsAt3_C (c : Dev nD) (t : Fin cfg3.N) (h0 : ¬t.val % 8 = 0) (h1 : t.val % 8 = 7) :
    outsAt3 V c t.val t.isLt = (out3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).2, out3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The proof data of the call. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => (outsAt3 V c t.val t.isLt).1
    | ⟨9, _⟩ => (outsAt3 V c t.val t.isLt).2
  Φ _ := Pipeline.ΦA spec3 c
  q _ := fullShare
  owed _ := 0

/-- The arrays of the proof data are those at entry. -/
theorem A_eq3 (c : Dev nD) (w : Fin cfg3.W) : (dat3 V c).A w = V c (Pipeline.arrRef spec3 w) := by
  dsimp only [dat3]

/-- What the body leaves in each window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = (outsAt3 V c t.val t.isLt).1 := by dsimp only [dat3]
theorem after3_9 (c : Dev nD) (t : Fin cfg3.N) : (dat3 V c).after 9 t = (outsAt3 V c t.val t.isLt).2 := by dsimp only [dat3]

/-- An input window holds its block at every point. -/
theorem before3_0 (c : Dev nD) (t : Fin cfg3.N) (d) : (dat3 V c).before 0 t d = iblk3 V c 0 t :=
  before3_0_of V (dat3 V c) (A_eq3 V c 0) (after3_0 V c) t d
/-- An input window holds its block at every point. -/
theorem before3_1 (c : Dev nD) (t : Fin cfg3.N) (d) : (dat3 V c).before 1 t d = iblk3 V c 1 t :=
  before3_1_of V (dat3 V c) (A_eq3 V c 1) (after3_1 V c) t d
/-- An input window holds its block at every point. -/
theorem before3_2 (c : Dev nD) (t : Fin cfg3.N) (d) : (dat3 V c).before 2 t d = iblk3 V c 2 t :=
  before3_2_of V (dat3 V c) (A_eq3 V c 2) (after3_2 V c) t d
/-- An input window holds its block at every point. -/
theorem before3_3 (c : Dev nD) (t : Fin cfg3.N) (d) : (dat3 V c).before 3 t d = iblk3 V c 3 t :=
  before3_3_of V (dat3 V c) (A_eq3 V c 3) (after3_3 V c) t d
/-- An input window holds its block at every point. -/
theorem before3_4 (c : Dev nD) (t : Fin cfg3.N) (d) : (dat3 V c).before 4 t d = iblk3 V c 4 t :=
  before3_4_of V (dat3 V c) (A_eq3 V c 4) (after3_4 V c) t d
/-- An input window holds its block at every point. -/
theorem before3_5 (c : Dev nD) (t : Fin cfg3.N) (d) : (dat3 V c).before 5 t d = iblk3 V c 5 t :=
  before3_5_of V (dat3 V c) (A_eq3 V c 5) (after3_5 V c) t d
/-- An input window holds its block at every point. -/
theorem before3_6 (c : Dev nD) (t : Fin cfg3.N) (d) : (dat3 V c).before 6 t d = iblk3 V c 6 t :=
  before3_6_of V (dat3 V c) (A_eq3 V c 6) (after3_6 V c) t d
/-- An input window holds its block at every point. -/
theorem before3_7 (c : Dev nD) (t : Fin cfg3.N) (d) : (dat3 V c).before 7 t d = iblk3 V c 7 t :=
  before3_7_of V (dat3 V c) (A_eq3 V c 7) (after3_7 V c) t d
/-- The accumulated scalar holds, before this point, what the point before left. -/
theorem before3_9_B (c : Dev nD) (t : Fin cfg3.N) (h0 : ¬t.val % 8 = 0) (h1 : ¬t.val % 8 = 7) (d) :
    (dat3 V c).before 9 t d = (outsAt3 V c (t.val - 1) (Nat.lt_of_le_of_lt (Nat.sub_le _ _) t.isLt)).2 := by
  have hN : t.val < 8 := lt_of_lt_of_eq t.isLt (show cfg3.N = 8 from N_3)
  rw [Dat.before_out_kept _ 9 rfl t (by omega) (Bool.eq_false_iff.mpr fun h => by have := (flush3_9 _).mp h; dsimp only at this; omega)
    (fun _ => rfl) (fun _ _ => rfl)]
  dsimp only [dat3]
/-- The accumulated scalar holds, before this point, what the point before left. -/
theorem before3_9_C (c : Dev nD) (t : Fin cfg3.N) (h0 : ¬t.val % 8 = 0) (h1 : t.val % 8 = 7) (d) :
    (dat3 V c).before 9 t d = (outsAt3 V c (t.val - 1) (Nat.lt_of_le_of_lt (Nat.sub_le _ _) t.isLt)).2 := by
  have hN : t.val < 8 := lt_of_lt_of_eq t.isLt (show cfg3.N = 8 from N_3)
  rw [Dat.before_out_kept _ 9 rfl t (by omega) (Bool.eq_false_iff.mpr fun h => by have := (flush3_9 _).mp h; dsimp only at this; omega)
    (fun _ => rfl) (fun _ _ => rfl)]
  dsimp only [dat3]

/-- What the body is called with. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

/-- What the body returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t)
    ∗ owns (c : Thread nD τ) (ms3_7 t) fullShare ((dat3 V c).after 7 t)
    ∗ owns (c : Thread nD τ) (ms3_8 t) fullShare ((dat3 V c).after 8 t)
    ∗ owns (c : Thread nD τ) (ms3_9 t) fullShare ((dat3 V c).after 9 t))

set_option maxHeartbeats 2400000 in
/-- The body runs from the one to the other at every point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  have hN : t.val < 8 := lt_of_lt_of_eq t.isLt (show cfg3.N = 8 from N_3)
  by_cases h0 : t.val % 8 = 0
  · by_cases h1 : t.val % 8 = 7
    · exfalso; omega
    · rw [outsAt3_A V c t h0 h1]
      unfold out3_A_8 out3_A_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_A c (grid3.coords t) _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iintro ⟨H0, H1, H2, H3, H4, H5, H6, H7, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover3_A_8 c _ _ _ _ _ _ _ _ _ _ _ _ _ _ _ _ _ _ _ _ _ _ _ _ _ _ _ _ _ _ _)
      unfold owns; iexists _; isplitr
      swap; · iexact H9
      ipureintro; exact View.read_writes_of_cover _ _ _ _ _ (cover3_A_9 c _ _ _ _ _ _ _ _ _ _ _ _ _ _ _ _ _ _ _ _ _ _ _ _ _ _ _ _ _ _ _)
  · by_cases h1 : t.val % 8 = 7
    · rw [outsAt3_C V c t h0 h1]
      simp only [before3_9_C V c t h0 h1]
      unfold out3_C_8 out3_C_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_C c (grid3.coords t) _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      iintro ⟨H0, H1, H2, H3, H4, H5, H6, H7, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover3_C_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover3_C_9 c _ _ _ _ _ _ _ _ _ _ _ _ _ _ _ _ _ _ _ _ _ _ _ _ _ _ _ _ _ _ _ _)
    · rw [outsAt3_B V c t h0 h1]
      simp only [before3_9_B V c t h0 h1]
      unfold out3_B_8 out3_B_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_B c (grid3.coords t) _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      iintro ⟨H0, H1, H2, H3, H4, H5, H6, H7, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover3_B_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover3_B_9 c _ _ _ _ _ _ _ _ _ _ _ _ _ _ _ _ _ _ _ _ _ _ _ _ _ _ _ _ _ _ _ _)

/-- The body at a point, as the table of bodies has it. -/
theorem defs₀_row3 (t : Fin cfg3.N) :
    defs₀ (F := F) .tc cfg3.body (cfg3.bodyArgs t (cfg3.slots t)) = bodyAt3 t := by
  unfold defs₀; rw [Defs.onTc_tc]

/-- The obligation of the body. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Whole

end
-- ==== Proof.WholeHosts.lean ====
/- The host operations between the calls of the whole program: what they write. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments of the program. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- The host operations allocate nothing. -/
theorem hostOps0_fresh : (hostOps0 : List (HloOp τ sig (Elt F))).Forall fun op => op.fresh = ∅ := by
  simp only [List.Forall]; repeat' constructor
/-- The references that they write. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- They write no argument. -/
theorem hostOps0_args : ∀ a ∈ argRefs, a ∉ hostOps0_W := ListAll.forall_mem_of_all_decide (by decide +kernel)

/-- The host operations allocate nothing. -/
theorem hostOps1_fresh : (hostOps1 : List (HloOp τ sig (Elt F))).Forall fun op => op.fresh = ∅ := by
  simp only [List.Forall]; repeat' constructor
/-- The references that they write. -/
abbrev hostOps1_W : List (Ref sig .tc) := [main_v3, main_v4, main_v5]
theorem hostOps1_writes : (hostOps1 : List (HloOp τ sig (Elt F))).Forall fun op => op.writes ⊆ (hostOps1_W.map (Proc.devRef (τ := τ) .tc)).toFinset :=
  StableHlo.forall_writes_sub_of_map rfl
/-- They write no argument. -/
theorem hostOps1_args : ∀ a ∈ argRefs, a ∉ hostOps1_W := ListAll.forall_mem_of_all_decide (by decide +kernel)

/-- The host operations allocate nothing. -/
theorem hostOps2_fresh : (hostOps2 : List (HloOp τ sig (Elt F))).Forall fun op => op.fresh = ∅ := by
  simp only [List.Forall]; repeat' constructor
/-- The references that they write. -/
abbrev hostOps2_W : List (Ref sig .tc) := [main_v7, main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- They write no argument. -/
theorem hostOps2_args : ∀ a ∈ argRefs, a ∉ hostOps2_W := ListAll.forall_mem_of_all_decide (by decide +kernel)

/-- The host operations allocate nothing. -/
theorem hostOps3_fresh : (hostOps3 : List (HloOp τ sig (Elt F))).Forall fun op => op.fresh = ∅ := by
  simp only [List.Forall]; repeat' constructor
/-- The references that they write. -/
abbrev hostOps3_W : List (Ref sig .tc) := [main_v11, main_v12, main_v13, main_v14, main_v15, main_v16, main_v17]
theorem hostOps3_writes : (hostOps3 : List (HloOp τ sig (Elt F))).Forall fun op => op.writes ⊆ (hostOps3_W.map (Proc.devRef (τ := τ) .tc)).toFinset :=
  StableHlo.forall_writes_sub_of_map rfl
/-- They write no argument. -/
theorem hostOps3_args : ∀ a ∈ argRefs, a ∉ hostOps3_W := ListAll.forall_mem_of_all_decide (by decide +kernel)

/-- The host operations allocate nothing. -/
theorem hostOps4_fresh : (hostOps4 : List (HloOp τ sig (Elt F))).Forall fun op => op.fresh = ∅ := by
  simp only [List.Forall]; repeat' constructor
/-- The references that they write. -/
abbrev hostOps4_W : List (Ref sig .tc) := [main_v19, main_v20, main_v21, main_v22, main_v23]
theorem hostOps4_writes : (hostOps4 : List (HloOp τ sig (Elt F))).Forall fun op => op.writes ⊆ (hostOps4_W.map (Proc.devRef (τ := τ) .tc)).toFinset :=
  StableHlo.forall_writes_sub_of_map rfl
/-- They write no argument. -/
theorem hostOps4_args : ∀ a ∈ argRefs, a ∉ hostOps4_W := ListAll.forall_mem_of_all_decide (by decide +kernel)

end Cert.KernelIdeal.Whole

end
-- ==== Proof.WholeFold.lean ====
/- The contents of the buffers at every boundary of the whole program. -/
module

public import proofs.«01_k».proof.Proof.WholeCall0
public import proofs.«01_k».proof.Proof.WholeCall1
public import proofs.«01_k».proof.Proof.WholeCall2
public import proofs.«01_k».proof.Proof.WholeCall3
public import proofs.«01_k».proof.Proof.WholeHosts

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at this boundary. -/
abbrev W0 : Dev nD → Valuation τ sig (Elt F) := fun c b => (s₀ m ρ).mem ((c : Dev nD), b)
/-- The arguments are as launched at this boundary. -/
theorem W0_args (c : Dev nD) : ∀ a ∈ argRefs, W0 m ρ c (Proc.devRef .tc a) = m ((c : Thread nD τ).loc a) := fun _ _ => rfl
/-- The buffers at this boundary. -/
abbrev W1 : Dev nD → Valuation τ sig (Elt F) := fun c => StableHlo.after hostOps0 (W0 m ρ c)
/-- What the step does not write is as before. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched at this boundary. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, by reference. -/
abbrev V1 : (c : Dev nD) → (b : Ref sig .tc) → Buf (Elt F) ((c : Thread nD τ).loc b) := fun c b => W1 m ρ c b
/-- The buffers at this boundary. -/
def W2 (c : Dev nD) : Valuation τ sig (Elt F) :=
  Pipeline.withArrays spec0 c (W1 m ρ c) fun w => (dat0 (V1 m ρ) c).arrAt w cfg0.N
/-- An array of the call holds what the call leaves in it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is no array of the call is as before. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What the step does not write is as before. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- An argument among the arrays of the call is an input. -/
theorem argsIn0 : ∀ a ∈ argRefs, ∀ w : Fin cfg0.W, Pipeline.arrRef spec0 w = a → (cfg0.win w).isOut = false :=
  ListAll.forall_mem_of_all_decide (by decide +kernel)
/-- The arguments are as launched at this boundary. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, by reference. -/
abbrev V2 : (c : Dev nD) → (b : Ref sig .tc) → Buf (Elt F) ((c : Thread nD τ).loc b) := fun c b => W2 m ρ c b
/-- The exit contents of the arrays of the call. -/
theorem hF0 (c : Dev nD) (w : Fin cfg0.W) : (dat0 (V1 m ρ) c).arrAt w cfg0.N = V2 m ρ c (Pipeline.arrRef spec0 w) :=
  (W2_arr m ρ c w).symm
/-- The exit contents of the other buffers. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers at this boundary. -/
abbrev W3 : Dev nD → Valuation τ sig (Elt F) := fun c => StableHlo.after hostOps1 (W2 m ρ c)
/-- What the step does not write is as before. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as launched at this boundary. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same, by reference. -/
abbrev V3 : (c : Dev nD) → (b : Ref sig .tc) → Buf (Elt F) ((c : Thread nD τ).loc b) := fun c b => W3 m ρ c b
/-- The buffers at this boundary. -/
def W4 (c : Dev nD) : Valuation τ sig (Elt F) :=
  Pipeline.withArrays spec1 c (W3 m ρ c) fun w => (dat1 (V3 m ρ) c).arrAt w cfg1.N
/-- An array of the call holds what the call leaves in it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A buffer that is no array of the call is as before. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- What the step does not write is as before. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- An argument among the arrays of the call is an input. -/
theorem argsIn1 : ∀ a ∈ argRefs, ∀ w : Fin cfg1.W, Pipeline.arrRef spec1 w = a → (cfg1.win w).isOut = false :=
  ListAll.forall_mem_of_all_decide (by decide +kernel)
/-- The arguments are as launched at this boundary. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same, by reference. -/
abbrev V4 : (c : Dev nD) → (b : Ref sig .tc) → Buf (Elt F) ((c : Thread nD τ).loc b) := fun c b => W4 m ρ c b
/-- The exit contents of the arrays of the call. -/
theorem hF1 (c : Dev nD) (w : Fin cfg1.W) : (dat1 (V3 m ρ) c).arrAt w cfg1.N = V4 m ρ c (Pipeline.arrRef spec1 w) :=
  (W4_arr m ρ c w).symm
/-- The exit contents of the other buffers. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers at this boundary. -/
abbrev W5 : Dev nD → Valuation τ sig (Elt F) := fun c => StableHlo.after hostOps2 (W4 m ρ c)
/-- What the step does not write is as before. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments are as launched at this boundary. -/
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same, by reference. -/
abbrev V5 : (c : Dev nD) → (b : Ref sig .tc) → Buf (Elt F) ((c : Thread nD τ).loc b) := fun c b => W5 m ρ c b
/-- The buffers at this boundary. -/
def W6 (c : Dev nD) : Valuation τ sig (Elt F) :=
  Pipeline.withArrays spec2 c (W5 m ρ c) fun w => (dat2 (V5 m ρ) c).arrAt w cfg2.N
/-- An array of the call holds what the call leaves in it. -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
/-- A buffer that is no array of the call is as before. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- What the step does not write is as before. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- An argument among the arrays of the call is an input. -/
theorem argsIn2 : ∀ a ∈ argRefs, ∀ w : Fin cfg2.W, Pipeline.arrRef spec2 w = a → (cfg2.win w).isOut = false :=
  ListAll.forall_mem_of_all_decide (by decide +kernel)
/-- The arguments are as launched at this boundary. -/
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same, by reference. -/
abbrev V6 : (c : Dev nD) → (b : Ref sig .tc) → Buf (Elt F) ((c : Thread nD τ).loc b) := fun c b => W6 m ρ c b
/-- The exit contents of the arrays of the call. -/
theorem hF2 (c : Dev nD) (w : Fin cfg2.W) : (dat2 (V5 m ρ) c).arrAt w cfg2.N = V6 m ρ c (Pipeline.arrRef spec2 w) :=
  (W6_arr m ρ c w).symm
/-- The exit contents of the other buffers. -/
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- The buffers at this boundary. -/
abbrev W7 : Dev nD → Valuation τ sig (Elt F) := fun c => StableHlo.after hostOps3 (W6 m ρ c)
/-- What the step does not write is as before. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
/-- The arguments are as launched at this boundary. -/
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same, by reference. -/
abbrev V7 : (c : Dev nD) → (b : Ref sig .tc) → Buf (Elt F) ((c : Thread nD τ).loc b) := fun c b => W7 m ρ c b
/-- The buffers at this boundary. -/
def W8 (c : Dev nD) : Valuation τ sig (Elt F) :=
  Pipeline.withArrays spec3 c (W7 m ρ c) fun w => (dat3 (V7 m ρ) c).arrAt w cfg3.N
/-- An array of the call holds what the call leaves in it. -/
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
/-- A buffer that is no array of the call is as before. -/
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- What the step does not write is as before. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- An argument among the arrays of the call is an input. -/
theorem argsIn3 : ∀ a ∈ argRefs, ∀ w : Fin cfg3.W, Pipeline.arrRef spec3 w = a → (cfg3.win w).isOut = false :=
  ListAll.forall_mem_of_all_decide (by decide +kernel)
/-- The arguments are as launched at this boundary. -/
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same, by reference. -/
abbrev V8 : (c : Dev nD) → (b : Ref sig .tc) → Buf (Elt F) ((c : Thread nD τ).loc b) := fun c b => W8 m ρ c b
/-- The exit contents of the arrays of the call. -/
theorem hF3 (c : Dev nD) (w : Fin cfg3.W) : (dat3 (V7 m ρ) c).arrAt w cfg3.N = V8 m ρ c (Pipeline.arrRef spec3 w) :=
  (W8_arr m ρ c w).symm
/-- The exit contents of the other buffers. -/
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- The buffers at this boundary. -/
abbrev W9 : Dev nD → Valuation τ sig (Elt F) := fun c => StableHlo.after hostOps4 (W8 m ρ c)
/-- What the step does not write is as before. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
/-- The arguments are as launched at this boundary. -/
theorem W9_args (c : Dev nD) : ∀ a ∈ argRefs, W9 m ρ c (Proc.devRef .tc a) = m ((c : Thread nD τ).loc a) :=
  fun a ha => (W9_of m ρ c a (hostOps4_args a ha)).trans (W8_args m ρ c a ha)

theorem W9_main_arg0 (c : Dev nD) : W9 m ρ c (Proc.devRef .tc main_arg0) = m ((c : Thread nD τ).loc main_arg0) :=
  W9_args m ρ c main_arg0 (by decide)
theorem W9_main_arg1 (c : Dev nD) : W9 m ρ c (Proc.devRef .tc main_arg1) = m ((c : Thread nD τ).loc main_arg1) :=
  W9_args m ρ c main_arg1 (by decide)
theorem W9_main_arg2 (c : Dev nD) : W9 m ρ c (Proc.devRef .tc main_arg2) = m ((c : Thread nD τ).loc main_arg2) :=
  W9_args m ρ c main_arg2 (by decide)
theorem W9_main_arg3 (c : Dev nD) : W9 m ρ c (Proc.devRef .tc main_arg3) = m ((c : Thread nD τ).loc main_arg3) :=
  W9_args m ρ c main_arg3 (by decide)
theorem W9_main_arg4 (c : Dev nD) : W9 m ρ c (Proc.devRef .tc main_arg4) = m ((c : Thread nD τ).loc main_arg4) :=
  W9_args m ρ c main_arg4 (by decide)
theorem W9_main_arg5 (c : Dev nD) : W9 m ρ c (Proc.devRef .tc main_arg5) = m ((c : Thread nD τ).loc main_arg5) :=
  W9_args m ρ c main_arg5 (by decide)
theorem W9_main_arg6 (c : Dev nD) : W9 m ρ c (Proc.devRef .tc main_arg6) = m ((c : Thread nD τ).loc main_arg6) :=
  W9_args m ρ c main_arg6 (by decide)
theorem W9_main_arg7 (c : Dev nD) : W9 m ρ c (Proc.devRef .tc main_arg7) = m ((c : Thread nD τ).loc main_arg7) :=
  W9_args m ρ c main_arg7 (by decide)
theorem W9_main_arg8 (c : Dev nD) : W9 m ρ c (Proc.devRef .tc main_arg8) = m ((c : Thread nD τ).loc main_arg8) :=
  W9_args m ρ c main_arg8 (by decide)
theorem W9_main_arg9 (c : Dev nD) : W9 m ρ c (Proc.devRef .tc main_arg9) = m ((c : Thread nD τ).loc main_arg9) :=
  W9_args m ρ c main_arg9 (by decide)
theorem W9_main_arg10 (c : Dev nD) : W9 m ρ c (Proc.devRef .tc main_arg10) = m ((c : Thread nD τ).loc main_arg10) :=
  W9_args m ρ c main_arg10 (by decide)
theorem W9_main_arg11 (c : Dev nD) : W9 m ρ c (Proc.devRef .tc main_arg11) = m ((c : Thread nD τ).loc main_arg11) :=
  W9_args m ρ c main_arg11 (by decide)
theorem W9_main_arg12 (c : Dev nD) : W9 m ρ c (Proc.devRef .tc main_arg12) = m ((c : Thread nD τ).loc main_arg12) :=
  W9_args m ρ c main_arg12 (by decide)
theorem W9_main_arg13 (c : Dev nD) : W9 m ρ c (Proc.devRef .tc main_arg13) = m ((c : Thread nD τ).loc main_arg13) :=
  W9_args m ρ c main_arg13 (by decide)
theorem W9_main_arg14 (c : Dev nD) : W9 m ρ c (Proc.devRef .tc main_arg14) = m ((c : Thread nD τ).loc main_arg14) :=
  W9_args m ρ c main_arg14 (by decide)
theorem W9_main_arg15 (c : Dev nD) : W9 m ρ c (Proc.devRef .tc main_arg15) = m ((c : Thread nD τ).loc main_arg15) :=
  W9_args m ρ c main_arg15 (by decide)
theorem W9_main_arg16 (c : Dev nD) : W9 m ρ c (Proc.devRef .tc main_arg16) = m ((c : Thread nD τ).loc main_arg16) :=
  W9_args m ρ c main_arg16 (by decide)
theorem W9_main_arg17 (c : Dev nD) : W9 m ρ c (Proc.devRef .tc main_arg17) = m ((c : Thread nD τ).loc main_arg17) :=
  W9_args m ρ c main_arg17 (by decide)

end Cert.KernelIdeal.Whole

end
-- ==== Proof.WholeVal0.lean ====
/-
  The whole program's first call: its four arrays, as functions of the arrays that it is given.
-/
module

public import proofs.«01_k».proof.Proof.WholeFold
public import proofs.«01_k».proof.Proof.EncArray
public import Idealize.ShloMosaic.Lib.Claim
public import Idealize.ShloMosaic.Lib.Pipeline.ValueKit.Geometry
public import Idealize.ShloMosaic.Lib.Pipeline.ValueKit.Acc
public import Idealize.ShloMosaic.Lib.Tactic

@[expose] public section

set_option maxRecDepth 16384

noncomputable section

open Idealize.ShloMosaic Idealize.ShloMosaic.TcCoe Idealize.ShloMosaic.Tactic Idealize.ShloMosaic.Pipeline

namespace Cert.KernelIdeal.Whole

open Cert.KernelIdeal Cert.KernelIdeal.Gen Cert.Spec

namespace Val0

variable (V : (c : Dev nD) → (b : Ref sig .tc) → Buf (Elt Ideal) ((c : Thread nD τ).loc b))

theorem lt8 (t : Fin cfg0.N) : t.val < 8 := t.isLt

section Same

variable (x : Vec Ideal S512x1024 .f32) (wf : Vec Ideal S1024x8 .f32) (emb : Vec Ideal S8x1024 .f32) (we : Vec Ideal S1024x4096 .f32)
  (be : Vec Ideal S1x4096 .f32) (s : Vec Ideal S512x4096 .f32) (acc : Vec Ideal S1x1 .f32)

/-- The family weights are those of the call on its own. -/
theorem families_same : k0_pay5 (F := Ideal) x wf = EncIdeal.Gen.k0_pay5 (F := Ideal) x wf := rfl

/-- So are the basis rows. -/
theorem basis_same : k0_pay6 (F := Ideal) x wf emb = EncIdeal.Gen.k0_pay6 (F := Ideal) x wf emb := rfl

/-- The bracket the sixteen halvings end with. -/
def bracket (v : FVec Ideal S512x4096 .f32) (a s q : FVec Ideal S512x1 .f32) : FVec Ideal S512x1 .f32 × FVec Ideal S512x1 .f32 :=
  Scf.fold (n := k0_t1_loop.trips) (fun _ acc => (k0_pay16 v acc.1 acc.2, k0_pay17 v acc.1 acc.2)) (k0_pay12 v a s q, k0_pay13 v a s q)

/-- The sparse coefficients a point computes. -/
def sparse : FVec Ideal S512x4096 .f32 :=
  k0_pay18 (k0_pay7 x wf emb we be)
    (bracket (k0_pay7 x wf emb we be) (k0_pay8 x wf emb we be) (k0_pay9 x wf emb we be) (k0_pay10 x wf emb we be)).1

/-- They are those of the call on its own. -/
theorem sparse_same : sparse x wf emb we be = EncIdeal.Block.sparse (F := Ideal) x wf emb we be := rfl

end Same

/-- The families block a point leaves. -/
theorem families_eq (c : Dev nD) (t : Fin cfg0.N) : (outsAt0 V c t.val t.isLt).1 = k0_pay5 (iblk0 V c 0 t) (iblk0 V c 1 t) := by
  by_cases h0 : t.val % 8 = 0
  · rw [outsAt0_A V c t h0 (by omega)]; frame_out
  · by_cases h1 : t.val % 8 = 7
    · rw [outsAt0_C V c t h0 h1]; frame_out
    · rw [outsAt0_B V c t h0 h1]; frame_out

/-- The basis block a point leaves. -/
theorem basis_eq (c : Dev nD) (t : Fin cfg0.N) : (outsAt0 V c t.val t.isLt).2.1 = k0_pay6 (iblk0 V c 0 t) (iblk0 V c 1 t) (iblk0 V c 2 t) := by
  by_cases h0 : t.val % 8 = 0
  · rw [outsAt0_A V c t h0 (by omega)]; frame_out
  · by_cases h1 : t.val % 8 = 7
    · rw [outsAt0_C V c t h0 h1]; frame_out
    · rw [outsAt0_B V c t h0 h1]; frame_out

/-- The sparse block a point leaves. -/
theorem sparse_eq (c : Dev nD) (t : Fin cfg0.N) : (outsAt0 V c t.val t.isLt).2.2.1 = sparse (iblk0 V c 0 t) (iblk0 V c 1 t) (iblk0 V c 2 t) (iblk0 V c 3 t) (iblk0 V c 4 t) := by
  by_cases h0 : t.val % 8 = 0
  · rw [outsAt0_A V c t h0 (by omega)]; frame_out; rfl
  · by_cases h1 : t.val % 8 = 7
    · rw [outsAt0_C V c t h0 h1]; frame_out; rfl
    · rw [outsAt0_B V c t h0 h1]; frame_out; rfl

/-- The first point's sum: its block's, added to zero. -/
theorem total_first (c : Dev nD) (t : Fin cfg0.N) (h0 : t.val % 8 = 0) : (outsAt0 V c t.val t.isLt).2.2.2 =
    k0_pay2 (sparse (iblk0 V c 0 t) (iblk0 V c 1 t) (iblk0 V c 2 t) (iblk0 V c 3 t) (iblk0 V c 4 t)) (k0_pay1 (F := Ideal)) := by
  rw [outsAt0_A V c t h0 (by omega)]; frame_out; rfl

/-- An inner point's sum: its block's, added to what the point before left. -/
theorem total_inner (c : Dev nD) (t : Fin cfg0.N) (h0 : ¬t.val % 8 = 0) (h1 : ¬t.val % 8 = 7) :
    (outsAt0 V c t.val t.isLt).2.2.2 = k0_pay2 (sparse (iblk0 V c 0 t) (iblk0 V c 1 t) (iblk0 V c 2 t) (iblk0 V c 3 t) (iblk0 V c 4 t))
      (outsAt0 V c (t.val - 1) (lt_of_le_of_lt (Nat.sub_le _ _) t.isLt)).2.2.2 := by
  rw [outsAt0_B V c t h0 h1]; frame_out; rfl

/-- The last point's sum: the same, divided by the number of entries. -/
theorem total_last (c : Dev nD) (t : Fin cfg0.N) (h1 : t.val % 8 = 7) :
    (outsAt0 V c t.val t.isLt).2.2.2 = k0_pay3 (k0_pay2 (sparse (iblk0 V c 0 t) (iblk0 V c 1 t) (iblk0 V c 2 t) (iblk0 V c 3 t) (iblk0 V c 4 t))
      (outsAt0 V c (t.val - 1) (lt_of_le_of_lt (Nat.sub_le _ _) t.isLt)).2.2.2) := by
  rw [outsAt0_C V c t (by omega) h1]; frame_out; rfl

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])
theorem index7 : ∀ t : Fin cfg0.N, win0_7.index t = ![t.val, 0] :=
  (by decide +kernel : ∀ t : Fin grid0.N, win0_7.index t = ![t.val, 0])

/-- The block of rows. -/
theorem x_at (c : Dev nD) (t : Fin cfg0.N) (r : Fin 512) (k : Fin 1024) : iblk0 V c 0 t (ix2 r k) = V c main_v0 (ix2 (pos t.val (lt8 t) r) k) := by
  have e : ((View.whole main_v0).slice (win0_0.rect (t))).emb (ix2 r k) = ix2 (pos t.val (lt8 t) r) k := by blk_ext [index0, pos]
  blk_simp [iblk0]
  rw [e]

/-- The family weights' matrix. -/
theorem wf_at (c : Dev nD) (t : Fin cfg0.N) (k : Fin 1024) (l : Fin 8) : iblk0 V c 1 t (ix2 k l) = V c main_arg1 (ix2 k l) := by
  have e : ((View.whole main_arg1).slice (win0_1.rect (t))).emb (ix2 k l) = ix2 k l := by blk_ext [index1, pos]
  blk_simp [iblk0]
  rw [e]

/-- The families' vectors. -/
theorem emb_at (c : Dev nD) (t : Fin cfg0.N) (k : Fin 8) (l : Fin 1024) : iblk0 V c 2 t (ix2 k l) = V c main_arg2 (ix2 k l) := by
  have e : ((View.whole main_arg2).slice (win0_2.rect (t))).emb (ix2 k l) = ix2 k l := by blk_ext [index2, pos]
  blk_simp [iblk0]
  rw [e]

/-- The encoder's matrix. -/
theorem we_at (c : Dev nD) (t : Fin cfg0.N) (k : Fin 1024) (l : Fin 4096) : iblk0 V c 3 t (ix2 k l) = V c main_arg3 (ix2 k l) := by
  have e : ((View.whole main_arg3).slice (win0_3.rect (t))).emb (ix2 k l) = ix2 k l := by blk_ext [index3, pos]
  blk_simp [iblk0]
  rw [e]

/-- The encoder's offset. -/
theorem be_at (c : Dev nD) (t : Fin cfg0.N) (l : Fin 4096) : iblk0 V c 4 t (ix2 0 l) = V c main_v1 (ix2 0 l) := by
  have e : ((View.whole main_v1).slice (win0_4.rect (t))).emb (ix2 0 l) = ix2 0 l := by blk_ext [index4, pos]
  blk_simp [iblk0]
  rw [e]

/-- A row's family weights, from the arrays that the call is given. -/
def weights (c : Dev nD) (n : Fin 4096) : Fin 8 → EReal :=
  families (fun k => V c main_v0 (ix2 n k)) (fun k l => V c main_arg1 (ix2 k l))

/-- A row's basis. -/
def basis (c : Dev nD) (n : Fin 4096) : Fin 1024 → EReal :=
  base (fun k => V c main_v0 (ix2 n k)) (fun k l => V c main_arg1 (ix2 k l)) (fun k l => V c main_arg2 (ix2 k l))

/-- A row's coefficients. -/
def code (c : Dev nD) (n : Fin 4096) : Fin 4096 → EReal :=
  coeffs (fun k => V c main_v0 (ix2 n k)) (fun k l => V c main_arg1 (ix2 k l)) (fun k l => V c main_arg2 (ix2 k l))
    (fun k l => V c main_arg3 (ix2 k l)) (fun l => V c main_v1 (ix2 0 l))

/-- The array of weights. -/
theorem final_weights (c : Dev nD) : (dat0 V c).arrAt 5 cfg0.N = fun i => weights V c (i 0) (i 1) := by
  refine (dat0 V c).arrAt_eq_of_covers 5 _ (by decide +kernel) fun t hf y => ?_
  blk_simp
  rw [after0_5, families_eq]
  obtain ⟨r, j, rfl⟩ : ∃ (r : Fin 512) (j : Fin 8), y = ix2 r j := ⟨y 0, y 1, eq_ix2 y⟩
  have e : ((View.whole main_v2_0).slice (win0_5.rect t)).emb (ix2 r j) = ix2 (pos t.val (lt8 t) r) j := by blk_ext [index5, pos]
  rw [e, families_same, EncIdeal.Row.families_apply]
  simp only [x_at, wf_at]
  rfl

/-- The array of basis. -/
theorem final_basis (c : Dev nD) : (dat0 V c).arrAt 6 cfg0.N = fun i => basis V c (i 0) (i 1) := by
  refine (dat0 V c).arrAt_eq_of_covers 6 _ (by decide +kernel) fun t hf y => ?_
  blk_simp
  rw [after0_6, basis_eq]
  obtain ⟨r, j, rfl⟩ : ∃ (r : Fin 512) (j : Fin 1024), y = ix2 r j := ⟨y 0, y 1, eq_ix2 y⟩
  have e : ((View.whole main_v2_1).slice (win0_6.rect t)).emb (ix2 r j) = ix2 (pos t.val (lt8 t) r) j := by blk_ext [index6, pos]
  rw [e, basis_same, EncIdeal.Row.base_apply]
  simp only [x_at, wf_at, emb_at]
  rfl

/-- A point's sparse coefficients are the rows' thinned coefficients at the block's rows. -/
theorem sparse_at (c : Dev nD) (t : Fin cfg0.N) (r : Fin 512) (j : Fin 4096) :
    sparse (iblk0 V c 0 t) (iblk0 V c 1 t) (iblk0 V c 2 t) (iblk0 V c 3 t) (iblk0 V c 4 t) (ix2 r j) = thinned (code V c (pos t.val (lt8 t) r)) j := by
  rw [sparse_same, EncIdeal.Row.sparse_apply]
  simp only [x_at, wf_at, emb_at, we_at, be_at]
  rfl

/-- The array of sparse coefficients. -/
theorem final_sparse (c : Dev nD) : (dat0 V c).arrAt 7 cfg0.N = fun i => thinned (code V c (i 0)) (i 1) := by
  refine (dat0 V c).arrAt_eq_of_covers 7 _ (by decide +kernel) fun t hf y => ?_
  blk_simp
  rw [after0_7, sparse_eq]
  obtain ⟨r, j, rfl⟩ : ∃ (r : Fin 512) (j : Fin 4096), y = ix2 r j := ⟨y 0, y 1, eq_ix2 y⟩
  have e : ((View.whole main_v2_2).slice (win0_7.rect t)).emb (ix2 r j) = ix2 (pos t.val (lt8 t) r) j := by blk_ext [index7, pos]
  rw [e]
  exact sparse_at V c t r j

/-- One block's sum of magnitudes. -/
def part (c : Dev nD) (t : Fin 8) : EReal := ∑ r : Fin 512, ∑ j : Fin 4096, size (thinned (code V c (pos t.val t.isLt r)) j)

/-- A point adds its block's sum to what it is given. -/
theorem add_part (c : Dev nD) (t : Fin cfg0.N) (acc : Vec Ideal S1x1 .f32) (z w : Fin 1) :
    k0_pay2 (F := Ideal) (sparse (iblk0 V c 0 t) (iblk0 V c 1 t) (iblk0 V c 2 t) (iblk0 V c 3 t) (iblk0 V c 4 t)) acc (ix2 z w) = acc (ix2 z w) + part V c ⟨t.val, lt8 t⟩ := by
  have hs := sparse_at V c t
  generalize sparse (iblk0 V c 0 t) (iblk0 V c 1 t) (iblk0 V c 2 t) (iblk0 V c 3 t) (iblk0 V c 4 t) = s at hs
  unfold k0_pay2
  pointwise
  simp only [hs]
  rfl

/-- The sum carried after `n + 1` points. -/
theorem carried (c : Dev nD) (n : ℕ) (h : n < cfg0.N) (h7 : n < 7) (z w : Fin 1) :
    (outsAt0 V c n h).2.2.2 (ix2 z w) = ∑ t : Fin (n + 1), part V c ⟨t.val, by omega⟩ := by
  induction n with
  | zero =>
    have e := total_first V c ⟨0, h⟩ rfl
    rw [show (outsAt0 V c 0 h).2.2.2 = _ from e, add_part]
    unfold k0_pay1
    pointwise
    simp
  | succ n ih =>
    have e := total_inner V c ⟨n + 1, h⟩ (by dsimp only; omega) (by dsimp only; omega)
    rw [show (outsAt0 V c (n + 1) h).2.2.2 = _ from e, add_part, Fin.sum_univ_castSucc]
    refine congrArg (· + _) ?_
    exact ih (by omega) (by omega)

/-- The carried sum over the number of entries. -/
theorem over_entries (acc : Vec Ideal S1x1 .f32) (z w : Fin 1) : k0_pay3 acc (ix2 z w) = Ideal.div (acc (ix2 z w)) EncIdeal.Array.entries := by
  unfold k0_pay3 EncIdeal.Array.entries
  pointwise

/-- The last point adds its block and divides by the number of entries. -/
theorem all_parts (c : Dev nD) (h : 7 < cfg0.N) (i : S1x1.Idx) :
    (outsAt0 V c 7 h).2.2.2 i = EncIdeal.Array.magnitude fun n => thinned (code V c n) := by
  obtain ⟨z, w, rfl⟩ : ∃ (z w : Fin 1), i = ix2 z w := ⟨i 0, i 1, eq_ix2 i⟩
  have e := total_last V c ⟨7, h⟩ rfl
  rw [show (outsAt0 V c 7 h).2.2.2 = _ from e, over_entries, add_part]
  have e' := carried V c 6 (by omega) (by omega) z w
  rw [show (outsAt0 V c (7 - 1) _).2.2.2 (ix2 z w) = _ from e']
  unfold EncIdeal.Array.magnitude
  rw [sum_blocks (A := 8) (B := 512) rfl, Fin.sum_univ_castSucc (n := 7)]
  rfl

/-- The one-element result is the mean magnitude. -/
theorem final_total (c : Dev nD) : (dat0 V c).arrAt 8 cfg0.N = fun _ => EncIdeal.Array.magnitude fun n => thinned (code V c n) := by
  refine (dat0 V c).arrAt_eq_of_after_last 8 ⟨7, by decide⟩ (by decide +kernel) _ fun j => ?_
  rw [after0_8]
  exact all_parts V c _ _

end Val0

end Cert.KernelIdeal.Whole

end
-- ==== Proof.WholeVal1.lean ====
/-
  The whole program's second call: its four arrays, as functions of the arrays that it is given.
-/
module

public import proofs.«01_k».proof.Proof.WholeFold
public import proofs.«01_k».proof.Proof.QkvArray
public import Idealize.ShloMosaic.Lib.Claim
public import Idealize.ShloMosaic.Lib.Pipeline.ValueKit.Geometry
public import Idealize.ShloMosaic.Lib.Pipeline.ValueKit.Acc
public import Idealize.ShloMosaic.Lib.Tactic

@[expose] public section

set_option maxRecDepth 16384

noncomputable section

open Idealize.ShloMosaic Idealize.ShloMosaic.TcCoe Idealize.ShloMosaic.Tactic Idealize.ShloMosaic.Pipeline

namespace Cert.KernelIdeal.Whole

open Cert.KernelIdeal Cert.KernelIdeal.Gen Cert.Spec

namespace Val1

variable (V : (c : Dev nD) → (b : Ref sig .tc) → Buf (Elt Ideal) ((c : Thread nD τ).loc b))

theorem lt16 (t : Fin cfg1.N) : t.val < 16 := t.isLt

section Same

variable (masked : Vec Ideal S256x4096 .f32) (dict : Vec Ideal S4096x1024 .f32) (basis : Vec Ideal S256x1024 .f32)
  (bias g b : Vec Ideal S1x1024 .f32) (w : Vec Ideal S1024x1024 .f32) (acc : Vec Ideal S1x1 .f32)

/-- The reconstructed block is that of the call on its own: its reshapes keep the shape. -/
theorem recon_same : k1_pay5 (F := Ideal) basis bias masked dict = QkvIdeal.Gen.k0_pay5 (F := Ideal) basis bias masked dict := by
  unfold k1_pay5
  simp only [shapeCast_id basis, shapeCast_id masked]
  rfl

/-- So is a projected block. -/
theorem proj_same : k1_pay2 (F := Ideal) (k1_pay5 basis bias masked dict) (k1_pay9 g) (k1_pay10 b) (k1_pay11 basis bias masked dict) w =
    QkvIdeal.Block.proj (F := Ideal) masked dict basis bias g b w := by
  unfold k1_pay11
  rw [recon_same]
  rfl

/-- So is a block's energy. -/
theorem energy_same : k1_pay7 (F := Ideal) basis bias masked dict acc = QkvIdeal.Gen.k0_pay7 (F := Ideal) basis bias masked dict acc := by
  unfold k1_pay7
  rw [recon_same]
  rfl

end Same

/-- The q block a point leaves. -/
theorem q_eq (c : Dev nD) (t : Fin cfg1.N) : (outsAt1 V c t.val t.isLt).1 = QkvIdeal.Block.proj (F := Ideal)
    (iblk1 V c 0 t) (iblk1 V c 1 t) (iblk1 V c 2 t) (iblk1 V c 3 t) (iblk1 V c 4 t) (iblk1 V c 5 t) (iblk1 V c 6 t) := by
  by_cases h0 : t.val % 16 = 0
  · rw [outsAt1_A V c t h0 (by omega)]; frame_out; exact proj_same _ _ _ _ _ _ _
  · by_cases h1 : t.val % 16 = 15
    · rw [outsAt1_C V c t h0 h1]; frame_out; exact proj_same _ _ _ _ _ _ _
    · rw [outsAt1_B V c t h0 h1]; frame_out; exact proj_same _ _ _ _ _ _ _

/-- The k block a point leaves. -/
theorem k_eq (c : Dev nD) (t : Fin cfg1.N) : (outsAt1 V c t.val t.isLt).2.1 = QkvIdeal.Block.proj (F := Ideal)
    (iblk1 V c 0 t) (iblk1 V c 1 t) (iblk1 V c 2 t) (iblk1 V c 3 t) (iblk1 V c 4 t) (iblk1 V c 5 t) (iblk1 V c 7 t) := by
  by_cases h0 : t.val % 16 = 0
  · rw [outsAt1_A V c t h0 (by omega)]; frame_out; exact proj_same _ _ _ _ _ _ _
  · by_cases h1 : t.val % 16 = 15
    · rw [outsAt1_C V c t h0 h1]; frame_out; exact proj_same _ _ _ _ _ _ _
    · rw [outsAt1_B V c t h0 h1]; frame_out; exact proj_same _ _ _ _ _ _ _

/-- The v block a point leaves. -/
theorem v_eq (c : Dev nD) (t : Fin cfg1.N) : (outsAt1 V c t.val t.isLt).2.2.1 = QkvIdeal.Block.proj (F := Ideal)
    (iblk1 V c 0 t) (iblk1 V c 1 t) (iblk1 V c 2 t) (iblk1 V c 3 t) (iblk1 V c 4 t) (iblk1 V c 5 t) (iblk1 V c 8 t) := by
  by_cases h0 : t.val % 16 = 0
  · rw [outsAt1_A V c t h0 (by omega)]; frame_out; exact proj_same _ _ _ _ _ _ _
  · by_cases h1 : t.val % 16 = 15
    · rw [outsAt1_C V c t h0 h1]; frame_out; exact proj_same _ _ _ _ _ _ _
    · rw [outsAt1_B V c t h0 h1]; frame_out; exact proj_same _ _ _ _ _ _ _

/-- The first point's energy: its block's, added to zero. -/
theorem energy_first (c : Dev nD) (t : Fin cfg1.N) (h0 : t.val % 16 = 0) : (outsAt1 V c t.val t.isLt).2.2.2 =
    QkvIdeal.Gen.k0_pay7 (F := Ideal) (iblk1 V c 2 t) (iblk1 V c 3 t) (iblk1 V c 0 t) (iblk1 V c 1 t) (QkvIdeal.Gen.k0_pay6 (F := Ideal)) := by
  rw [outsAt1_A V c t h0 (by omega)]; frame_out; exact energy_same _ _ _ _ _

/-- An inner point's energy: its block's, added to what the point before left. -/
theorem energy_inner (c : Dev nD) (t : Fin cfg1.N) (h0 : ¬t.val % 16 = 0) (h1 : ¬t.val % 16 = 15) :
    (outsAt1 V c t.val t.isLt).2.2.2 = QkvIdeal.Gen.k0_pay7 (F := Ideal) (iblk1 V c 2 t) (iblk1 V c 3 t) (iblk1 V c 0 t) (iblk1 V c 1 t)
      (outsAt1 V c (t.val - 1) (lt_of_le_of_lt (Nat.sub_le _ _) t.isLt)).2.2.2 := by
  rw [outsAt1_B V c t h0 h1]; frame_out; exact energy_same _ _ _ _ _

/-- The last point's energy: the same, divided by the number of entries. -/
theorem energy_last (c : Dev nD) (t : Fin cfg1.N) (h1 : t.val % 16 = 15) :
    (outsAt1 V c t.val t.isLt).2.2.2 = QkvIdeal.Gen.k0_pay8 (F := Ideal) (QkvIdeal.Gen.k0_pay7 (F := Ideal) (iblk1 V c 2 t) (iblk1 V c 3 t) (iblk1 V c 0 t) (iblk1 V c 1 t)
      (outsAt1 V c (t.val - 1) (lt_of_le_of_lt (Nat.sub_le _ _) t.isLt)).2.2.2) := by
  rw [outsAt1_C V c t (by omega) h1]; frame_out; exact congrArg (QkvIdeal.Gen.k0_pay8 (F := Ideal)) (energy_same _ _ _ _ _)

theorem index0 : ∀ t : Fin cfg1.N, win1_0.index t = ![t.val, 0] :=
  (by decide +kernel : ∀ t : Fin grid1.N, win1_0.index t = ![t.val, 0])
theorem index1 : ∀ t : Fin cfg1.N, win1_1.index t = ![0, 0] :=
  (by decide +kernel : ∀ t : Fin grid1.N, win1_1.index t = ![0, 0])
theorem index2 : ∀ t : Fin cfg1.N, win1_2.index t = ![t.val, 0] :=
  (by decide +kernel : ∀ t : Fin grid1.N, win1_2.index t = ![t.val, 0])
theorem index3 : ∀ t : Fin cfg1.N, win1_3.index t = ![0, 0] :=
  (by decide +kernel : ∀ t : Fin grid1.N, win1_3.index t = ![0, 0])
theorem index4 : ∀ t : Fin cfg1.N, win1_4.index t = ![0, 0] :=
  (by decide +kernel : ∀ t : Fin grid1.N, win1_4.index t = ![0, 0])
theorem index5 : ∀ t : Fin cfg1.N, win1_5.index t = ![0, 0] :=
  (by decide +kernel : ∀ t : Fin grid1.N, win1_5.index t = ![0, 0])
theorem index6 : ∀ t : Fin cfg1.N, win1_6.index t = ![0, 0] :=
  (by decide +kernel : ∀ t : Fin grid1.N, win1_6.index t = ![0, 0])
theorem index7 : ∀ t : Fin cfg1.N, win1_7.index t = ![0, 0] :=
  (by decide +kernel : ∀ t : Fin grid1.N, win1_7.index t = ![0, 0])
theorem index8 : ∀ t : Fin cfg1.N, win1_8.index t = ![0, 0] :=
  (by decide +kernel : ∀ t : Fin grid1.N, win1_8.index t = ![0, 0])
theorem index9 : ∀ t : Fin cfg1.N, win1_9.index t = ![t.val, 0] :=
  (by decide +kernel : ∀ t : Fin grid1.N, win1_9.index t = ![t.val, 0])
theorem index10 : ∀ t : Fin cfg1.N, win1_10.index t = ![t.val, 0] :=
  (by decide +kernel : ∀ t : Fin grid1.N, win1_10.index t = ![t.val, 0])
theorem index11 : ∀ t : Fin cfg1.N, win1_11.index t = ![t.val, 0] :=
  (by decide +kernel : ∀ t : Fin grid1.N, win1_11.index t = ![t.val, 0])

/-- The block of sparse coefficients. -/
theorem masked_at (c : Dev nD) (t : Fin cfg1.N) (r : Fin 256) (k : Fin 4096) : iblk1 V c 0 t (ix2 r k) = V c main_v2_2 (ix2 (pos16 t.val (lt16 t) r) k) := by
  have e : ((View.whole main_v2_2).slice (win1_0.rect (t))).emb (ix2 r k) = ix2 (pos16 t.val (lt16 t) r) k := by blk_ext [index0, pos16]
  blk_simp [iblk1]
  rw [e]

/-- The dictionary. -/
theorem dict_at (c : Dev nD) (t : Fin cfg1.N) (k : Fin 4096) (l : Fin 1024) : iblk1 V c 1 t (ix2 k l) = V c main_arg5 (ix2 k l) := by
  have e : ((View.whole main_arg5).slice (win1_1.rect (t))).emb (ix2 k l) = ix2 k l := by blk_ext [index1, pos16]
  blk_simp [iblk1]
  rw [e]

/-- The block of offsets. -/
theorem basis_at (c : Dev nD) (t : Fin cfg1.N) (r : Fin 256) (k : Fin 1024) : iblk1 V c 2 t (ix2 r k) = V c main_v2_1 (ix2 (pos16 t.val (lt16 t) r) k) := by
  have e : ((View.whole main_v2_1).slice (win1_2.rect (t))).emb (ix2 r k) = ix2 (pos16 t.val (lt16 t) r) k := by blk_ext [index2, pos16]
  blk_simp [iblk1]
  rw [e]

/-- The bias. -/
theorem bias_at (c : Dev nD) (t : Fin cfg1.N) (k : Fin 1024) : iblk1 V c 3 t (ix2 0 k) = V c main_v3 (ix2 0 k) := by
  have e : ((View.whole main_v3).slice (win1_3.rect (t))).emb (ix2 0 k) = ix2 0 k := by blk_ext [index3, pos16]
  blk_simp [iblk1]
  rw [e]

/-- The norm's scale. -/
theorem g_at (c : Dev nD) (t : Fin cfg1.N) (k : Fin 1024) : iblk1 V c 4 t (ix2 0 k) = V c main_v4 (ix2 0 k) := by
  have e : ((View.whole main_v4).slice (win1_4.rect (t))).emb (ix2 0 k) = ix2 0 k := by blk_ext [index4, pos16]
  blk_simp [iblk1]
  rw [e]

/-- The norm's shift. -/
theorem b_at (c : Dev nD) (t : Fin cfg1.N) (k : Fin 1024) : iblk1 V c 5 t (ix2 0 k) = V c main_v5 (ix2 0 k) := by
  have e : ((View.whole main_v5).slice (win1_5.rect (t))).emb (ix2 0 k) = ix2 0 k := by blk_ext [index5, pos16]
  blk_simp [iblk1]
  rw [e]

/-- The q weights. -/
theorem wq_at (c : Dev nD) (t : Fin cfg1.N) (k : Fin 1024) (l : Fin 1024) : iblk1 V c 6 t (ix2 k l) = V c main_arg9 (ix2 k l) := by
  have e : ((View.whole main_arg9).slice (win1_6.rect (t))).emb (ix2 k l) = ix2 k l := by blk_ext [index6, pos16]
  blk_simp [iblk1]
  rw [e]

/-- The k weights. -/
theorem wk_at (c : Dev nD) (t : Fin cfg1.N) (k : Fin 1024) (l : Fin 1024) : iblk1 V c 7 t (ix2 k l) = V c main_arg10 (ix2 k l) := by
  have e : ((View.whole main_arg10).slice (win1_7.rect (t))).emb (ix2 k l) = ix2 k l := by blk_ext [index7, pos16]
  blk_simp [iblk1]
  rw [e]

/-- The v weights. -/
theorem wv_at (c : Dev nD) (t : Fin cfg1.N) (k : Fin 1024) (l : Fin 1024) : iblk1 V c 8 t (ix2 k l) = V c main_arg11 (ix2 k l) := by
  have e : ((View.whole main_arg11).slice (win1_8.rect (t))).emb (ix2 k l) = ix2 k l := by blk_ext [index8, pos16]
  blk_simp [iblk1]
  rw [e]

/-- The reconstructed rows, from the arrays that the call is given. -/
def rows (c : Dev nD) (n : Fin 4096) : Fin 1024 → EReal :=
  recon (fun k => V c main_v2_2 (ix2 n k)) (fun k => V c main_v2_1 (ix2 n k)) (fun k => V c main_v3 (ix2 0 k)) (fun k l => V c main_arg5 (ix2 k l))

/-- The rows, normalised and projected by a weight matrix. -/
def out (c : Dev nD) (w : S1024x1024.Idx → EReal) : S4096x1024.Idx → EReal := fun i =>
  mul (norm (rows V c (i 0)) (fun k => V c main_v4 (ix2 0 k)) (fun k => V c main_v5 (ix2 0 k))) (fun k l => w (ix2 k l)) (i 1)

/-- A point's projected block is the rows' projection at the block's rows. -/
theorem proj_at (c : Dev nD) (t : Fin cfg1.N) (w' : Vec Ideal S1024x1024 .f32) (w : S1024x1024.Idx → EReal) (hw : ∀ k l, w' (ix2 k l) = w (ix2 k l))
    (r : Fin 256) (j : Fin 1024) :
    QkvIdeal.Block.proj (F := Ideal) (iblk1 V c 0 t) (iblk1 V c 1 t) (iblk1 V c 2 t) (iblk1 V c 3 t) (iblk1 V c 4 t) (iblk1 V c 5 t) w' (ix2 r j) =
      out V c w (ix2 (pos16 t.val (lt16 t) r) j) := by
  rw [QkvIdeal.Row.proj_apply]
  simp only [masked_at, dict_at, basis_at, bias_at, g_at, b_at, hw]
  rfl

/-- The q array. -/
theorem final_q (c : Dev nD) : (dat1 V c).arrAt 9 cfg1.N = out V c (V c main_arg9) := by
  refine (dat1 V c).arrAt_eq_of_covers 9 _ (by decide +kernel) fun t hf y => ?_
  blk_simp
  rw [after1_9, q_eq]
  obtain ⟨r, j, rfl⟩ : ∃ (r : Fin 256) (j : Fin 1024), y = ix2 r j := ⟨y 0, y 1, eq_ix2 y⟩
  have e : ((View.whole main_v6_0).slice (win1_9.rect t)).emb (ix2 r j) = ix2 (pos16 t.val (lt16 t) r) j := by blk_ext [index9, pos16]
  rw [e]
  exact proj_at V c t _ _ (wq_at V c t) r j

/-- The k array. -/
theorem final_k (c : Dev nD) : (dat1 V c).arrAt 10 cfg1.N = out V c (V c main_arg10) := by
  refine (dat1 V c).arrAt_eq_of_covers 10 _ (by decide +kernel) fun t hf y => ?_
  blk_simp
  rw [after1_10, k_eq]
  obtain ⟨r, j, rfl⟩ : ∃ (r : Fin 256) (j : Fin 1024), y = ix2 r j := ⟨y 0, y 1, eq_ix2 y⟩
  have e : ((View.whole main_v6_1).slice (win1_10.rect t)).emb (ix2 r j) = ix2 (pos16 t.val (lt16 t) r) j := by blk_ext [index10, pos16]
  rw [e]
  exact proj_at V c t _ _ (wk_at V c t) r j

/-- The v array. -/
theorem final_v (c : Dev nD) : (dat1 V c).arrAt 11 cfg1.N = out V c (V c main_arg11) := by
  refine (dat1 V c).arrAt_eq_of_covers 11 _ (by decide +kernel) fun t hf y => ?_
  blk_simp
  rw [after1_11, v_eq]
  obtain ⟨r, j, rfl⟩ : ∃ (r : Fin 256) (j : Fin 1024), y = ix2 r j := ⟨y 0, y 1, eq_ix2 y⟩
  have e : ((View.whole main_v6_2).slice (win1_11.rect t)).emb (ix2 r j) = ix2 (pos16 t.val (lt16 t) r) j := by blk_ext [index11, pos16]
  rw [e]
  exact proj_at V c t _ _ (wv_at V c t) r j

/-- One block's energy: the squares of its 256 reconstructed rows. -/
def part (c : Dev nD) (t : Fin 16) : EReal := ∑ r : Fin 256, ∑ j : Fin 1024, rows V c (pos16 t.val t.isLt r) j * rows V c (pos16 t.val t.isLt r) j

/-- A point adds its block's energy to what it is given. -/
theorem add_part (c : Dev nD) (t : Fin cfg1.N) (acc : Vec Ideal S1x1 .f32) (z w : Fin 1) :
    QkvIdeal.Gen.k0_pay7 (F := Ideal) (iblk1 V c 2 t) (iblk1 V c 3 t) (iblk1 V c 0 t) (iblk1 V c 1 t) acc (ix2 z w) = acc (ix2 z w) + part V c ⟨t.val, lt16 t⟩ := by
  unfold QkvIdeal.Gen.k0_pay7
  pointwise [QkvIdeal.Row.recon_apply]
  simp only [masked_at, dict_at, basis_at, bias_at]
  rfl

/-- The energy carried after `n + 1` points. -/
theorem carried (c : Dev nD) (n : ℕ) (h : n < cfg1.N) (h7 : n < 15) (z w : Fin 1) :
    (outsAt1 V c n h).2.2.2 (ix2 z w) = ∑ t : Fin (n + 1), part V c ⟨t.val, by omega⟩ := by
  induction n with
  | zero =>
    have e := energy_first V c ⟨0, h⟩ rfl
    rw [show (outsAt1 V c 0 h).2.2.2 = _ from e, add_part]
    unfold QkvIdeal.Gen.k0_pay6
    pointwise
    simp
  | succ n ih =>
    have e := energy_inner V c ⟨n + 1, h⟩ (by dsimp only; omega) (by dsimp only; omega)
    rw [show (outsAt1 V c (n + 1) h).2.2.2 = _ from e, add_part, Fin.sum_univ_castSucc]
    refine congrArg (· + _) ?_
    exact ih (by omega) (by omega)

/-- The last point adds its block and divides by the number of entries. -/
theorem total_last (c : Dev nD) (h : 15 < cfg1.N) (i : S1x1.Idx) : (outsAt1 V c 15 h).2.2.2 i = Ideal.div (squares (rows V c)) count := by
  obtain ⟨z, w, rfl⟩ : ∃ (z w : Fin 1), i = ix2 z w := ⟨i 0, i 1, eq_ix2 i⟩
  have e := energy_last V c ⟨15, h⟩ rfl
  rw [show (outsAt1 V c 15 h).2.2.2 = _ from e, QkvIdeal.Array.over_count, add_part]
  have e' := carried V c 14 (by omega) (by omega) z w
  rw [show (outsAt1 V c (15 - 1) _).2.2.2 (ix2 z w) = _ from e']
  unfold squares
  rw [sum_blocks (A := 16) (B := 256) rfl, Fin.sum_univ_castSucc (n := 15)]
  rfl

/-- The energy array is the mean square. -/
theorem final_energy (c : Dev nD) : (dat1 V c).arrAt 12 cfg1.N = fun _ => Ideal.div (squares (rows V c)) count := by
  refine (dat1 V c).arrAt_eq_of_after_last 12 ⟨15, by decide⟩ (by decide +kernel) _ fun j => ?_
  rw [after1_12]
  exact total_last V c _ _

end Val1

end Cert.KernelIdeal.Whole

end
-- ==== Proof.WholeVal2.lean ====
/-
  The whole program's third call, attention: its two arrays, as functions of the arrays that it is given.
-/
module

public import proofs.«01_k».proof.Proof.WholeFold
public import proofs.«01_k».proof.Proof.AttnArray
public import Idealize.ShloMosaic.Lib.Claim
public import Idealize.ShloMosaic.Lib.Pipeline.ValueKit.Geometry
public import Idealize.ShloMosaic.Lib.Pipeline.ValueKit.Acc
public import Idealize.ShloMosaic.Lib.Tactic

@[expose] public section

set_option maxRecDepth 16384

noncomputable section

open Idealize.ShloMosaic Idealize.ShloMosaic.TcCoe Idealize.ShloMosaic.Tactic Idealize.ShloMosaic.Pipeline

namespace Cert.KernelIdeal.Whole

open Cert.KernelIdeal Cert.KernelIdeal.Gen Cert.Spec

namespace Val2

variable (V : (c : Dev nD) → (b : Ref sig .tc) → Buf (Elt Ideal) ((c : Thread nD τ).loc b))

theorem lt32 (t : Fin cfg2.N) : t.val < 32 := t.isLt

section Same

variable (q : Vec Ideal S1x1024x128 .f32) (k v : Vec Ideal S1x2048x128 .f32) (ks vs : Vec Ideal S4096x128 .f32)

/-- The stacked keys are those of the call on its own. -/
theorem keys_same : k2_pay4 (F := Ideal) k = AttnIdeal.Gen.k0_pay4 (F := Ideal) k := rfl

/-- So are the stacked values. -/
theorem values_same : k2_pay5 (F := Ideal) v = AttnIdeal.Gen.k0_pay5 (F := Ideal) v := rfl

/-- The block of attention weights: two heads stored one after the other. -/
def weights : Vec Ideal S1x2x1024x2048 .f32 :=
  View.canon [⟨Rect.unit ![0, 1, 0, 0] ![1, 1, 1024, 2048] inb_S1x2x1024x2048_S1x1x1024x2048_0_1_0_0, k2_pay1 (k2_pay8 q ks)⟩,
    ⟨Rect.unit ![0, 0, 0, 0] ![1, 1, 1024, 2048] inb_S1x2x1024x2048_S1x1x1024x2048_0_0_0_0, k2_pay9 q ks⟩]

/-- It is that of the call on its own. -/
theorem weights_same : weights q ks = AttnIdeal.Block.weights (F := Ideal) q ks := rfl

/-- The context block. -/
def ctx : FVec Ideal S1x1024x128 .f32 := k2_pay2 (k2_pay7 q ks) (k2_pay8 q ks) vs

/-- It is that of the call on its own. -/
theorem ctx_same : ctx q ks vs =
    AttnIdeal.Gen.k0_pay2 (F := Ideal) (AttnIdeal.Gen.k0_pay7 (F := Ideal) q ks) (AttnIdeal.Gen.k0_pay8 (F := Ideal) q ks) vs := rfl

end Same

/-- The even point of the pair that `t` belongs to. -/
def base (t : Fin cfg2.N) : Fin cfg2.N := ⟨t.val - t.val % 2, lt_of_le_of_lt (Nat.sub_le _ _) t.isLt⟩

theorem base_even (t : Fin cfg2.N) (h : t.val % 2 = 0) : base t = t := Fin.ext (by unfold base; dsimp only; omega)

theorem base_odd (t : Fin cfg2.N) (h : ¬t.val % 2 = 0) :
    base ⟨t.val - 1, lt_of_le_of_lt (Nat.sub_le _ _) t.isLt⟩ = base t := Fin.ext (by unfold base; dsimp only; omega)

/-- The stacked keys after an even point. -/
theorem keys_even (c : Dev nD) (t : Fin cfg2.N) (h : t.val % 2 = 0) : (outsAt2 V c t.val t.isLt).2.2.1 = k2_pay4 (iblk2 V c 1 (base t)) := by
  rw [outsAt2_A V c t h, base_even t h]; frame_out

/-- The stacked values after an even point. -/
theorem values_even (c : Dev nD) (t : Fin cfg2.N) (h : t.val % 2 = 0) : (outsAt2 V c t.val t.isLt).2.2.2 = k2_pay5 (iblk2 V c 2 (base t)) := by
  rw [outsAt2_A V c t h, base_even t h]; frame_out

/-- What an odd point finds: the stacked keys of its pair. -/
theorem keys_before (c : Dev nD) (t : Fin cfg2.N) (h : ¬t.val % 2 = 0) (h') :
    (outsAt2 V c (t.val - 1) h').2.2.1 = k2_pay4 (iblk2 V c 1 (base t)) :=
  (keys_even V c ⟨t.val - 1, h'⟩ (by dsimp only; omega)).trans (by rw [base_odd t h])

/-- What an odd point finds: the stacked values of its pair. -/
theorem values_before (c : Dev nD) (t : Fin cfg2.N) (h : ¬t.val % 2 = 0) (h') :
    (outsAt2 V c (t.val - 1) h').2.2.2 = k2_pay5 (iblk2 V c 2 (base t)) :=
  (values_even V c ⟨t.val - 1, h'⟩ (by dsimp only; omega)).trans (by rw [base_odd t h])

/-- The weights a point leaves. -/
theorem weights_eq (c : Dev nD) (t : Fin cfg2.N) : (outsAt2 V c t.val t.isLt).1 =
    weights (iblk2 V c 0 t) (k2_pay4 (iblk2 V c 1 (base t))) := by
  by_cases h : t.val % 2 = 0
  · rw [outsAt2_A V c t h, base_even t h]; frame_out
  · rw [outsAt2_B V c t h]; frame_out; simp only [read_unread_whole, keys_before V c t h]

/-- The context block a point leaves. -/
theorem ctx_eq (c : Dev nD) (t : Fin cfg2.N) : (outsAt2 V c t.val t.isLt).2.1 =
    ctx (iblk2 V c 0 t) (k2_pay4 (iblk2 V c 1 (base t))) (k2_pay5 (iblk2 V c 2 (base t))) := by
  by_cases h : t.val % 2 = 0
  · rw [outsAt2_A V c t h, base_even t h]; frame_out; unfold ctx; rfl
  · rw [outsAt2_B V c t h]; frame_out; simp only [read_unread_whole, keys_before V c t h, values_before V c t h]; unfold ctx; rfl

/-- The batch a point serves. -/
def batch (t : Fin cfg2.N) : Fin 2 := ⟨t.val / 16, by have := lt32 t; omega⟩

/-- Row `r` of the half of the rows a point serves. -/
def row (t : Fin cfg2.N) (r : Fin 1024) : Fin 2048 := ⟨1024 * (t.val % 2) + r.val, by omega⟩

/-- Head `h` of the two heads a point serves. -/
def head (t : Fin cfg2.N) (h : Fin 2) : Fin 16 := ⟨2 * (t.val / 2 % 8) + h.val, by omega⟩

theorem index0 : ∀ t : Fin cfg2.N, win2_0.index t = ![t.val / 16, t.val % 2, t.val / 2 % 8] :=
  (by decide +kernel : ∀ t : Fin grid2.N, win2_0.index t = ![t.val / 16, t.val % 2, t.val / 2 % 8])
theorem index1 : ∀ t : Fin cfg2.N, win2_1.index t = ![t.val / 16, 0, t.val / 2 % 8] :=
  (by decide +kernel : ∀ t : Fin grid2.N, win2_1.index t = ![t.val / 16, 0, t.val / 2 % 8])
theorem index2 : ∀ t : Fin cfg2.N, win2_2.index t = ![t.val / 16, 0, t.val / 2 % 8] :=
  (by decide +kernel : ∀ t : Fin grid2.N, win2_2.index t = ![t.val / 16, 0, t.val / 2 % 8])
theorem index3 : ∀ t : Fin cfg2.N, win2_3.index t = ![t.val / 16, t.val / 2 % 8, t.val % 2, 0] :=
  (by decide +kernel : ∀ t : Fin grid2.N, win2_3.index t = ![t.val / 16, t.val / 2 % 8, t.val % 2, 0])
theorem index4 : ∀ t : Fin cfg2.N, win2_4.index t = ![t.val / 16, t.val % 2, t.val / 2 % 8] :=
  (by decide +kernel : ∀ t : Fin grid2.N, win2_4.index t = ![t.val / 16, t.val % 2, t.val / 2 % 8])

/-- The queries' block. -/
theorem q_at (c : Dev nD) (t : Fin cfg2.N) (r : Fin 1024) (h : Fin 2) (d : Fin 64) : iblk2 V c 0 t (ix3 0 r ⟨64 * h.val + d.val, by omega⟩) = V c main_v7 (ix3 (batch t) (row t r) (feature (head t h) d)) := by
  have e : ((View.whole main_v7).slice (win2_0.rect (t))).emb (ix3 0 r ⟨64 * h.val + d.val, by omega⟩) = ix3 (batch t) (row t r) (feature (head t h) d) := by blk_ext [index0, batch, row, feature, head]
  blk_simp [iblk2]
  rw [e]

/-- The keys' block, at the even point of the pair. -/
theorem k_at (c : Dev nD) (t : Fin cfg2.N) (s : Fin 2048) (h : Fin 2) (d : Fin 64) : iblk2 V c 1 (base t) (ix3 0 s ⟨64 * h.val + d.val, by omega⟩) = V c main_v8 (ix3 (batch t) s (feature (head t h) d)) := by
  have e : ((View.whole main_v8).slice (win2_1.rect ((base t)))).emb (ix3 0 s ⟨64 * h.val + d.val, by omega⟩) = ix3 (batch t) s (feature (head t h) d) := by blk_ext [index1, batch, feature, head, base]
  blk_simp [iblk2]
  rw [e]

/-- The values' block, at the even point of the pair. -/
theorem v_at (c : Dev nD) (t : Fin cfg2.N) (s : Fin 2048) (h : Fin 2) (d : Fin 64) : iblk2 V c 2 (base t) (ix3 0 s ⟨64 * h.val + d.val, by omega⟩) = V c main_v9 (ix3 (batch t) s (feature (head t h) d)) := by
  have e : ((View.whole main_v9).slice (win2_2.rect ((base t)))).emb (ix3 0 s ⟨64 * h.val + d.val, by omega⟩) = ix3 (batch t) s (feature (head t h) d) := by blk_ext [index2, batch, feature, head, base]
  blk_simp [iblk2]
  rw [e]

/-- A point's scores are those of its batch, head and rows. -/
theorem scores_at (c : Dev nD) (t : Fin cfg2.N) (h : Fin 2) (r : Fin 1024) :
    (fun s : Fin 2048 => AttnIdeal.Gen.k0_pay6 (F := Ideal) (iblk2 V c 0 t) (AttnIdeal.Gen.k0_pay4 (F := Ideal) (iblk2 V c 1 (base t))) (ix2 r ⟨2048 * h.val + s.val, by omega⟩)) =
      score (V c main_v7) (V c main_v8) (batch t) (head t h) (row t r) := by
  funext s
  rw [AttnIdeal.Row.score_apply]
  simp only [q_at, k_at]
  rfl

/-- The weights' array. -/
theorem final_weights (c : Dev nD) : (dat2 V c).arrAt 3 cfg2.N = AttnIdeal.Array.weightsOf (V c main_v7) (V c main_v8) := by
  refine (dat2 V c).arrAt_eq_of_covers 3 _ (by decide +kernel) fun t hf y => ?_
  blk_simp
  rw [after2_3, weights_eq]
  obtain ⟨z, h, r, s, rfl⟩ : ∃ (z : Fin 1) (h : Fin 2) (r : Fin 1024) (s : Fin 2048), y = ix4 z h r s := ⟨y 0, y 1, y 2, y 3, eq_ix4 y⟩
  obtain rfl : z = 0 := Subsingleton.elim _ _
  have e : ((View.whole main_v10_0).slice (win2_3.rect t)).emb (ix4 0 h r s) = ix4 (batch t) (head t h) (row t r) s := by
    blk_ext [index3, batch, row, head]
  rw [weights_same, keys_same, AttnIdeal.Row.weights_apply, e, scores_at]
  rfl

/-- The context's array. -/
theorem final_context (c : Dev nD) : (dat2 V c).arrAt 4 cfg2.N = AttnIdeal.Array.contextOf (V c main_v7) (V c main_v8) (V c main_v9) := by
  refine (dat2 V c).arrAt_eq_of_covers 4 _ (by decide +kernel) fun t hf y => ?_
  blk_simp
  rw [after2_4, ctx_eq]
  obtain ⟨z, r, n, rfl⟩ : ∃ (z : Fin 1) (r : Fin 1024) (n : Fin 128), y = ix3 z r n := ⟨y 0, y 1, y 2, eq_ix3 y⟩
  obtain rfl : z = 0 := Subsingleton.elim _ _
  obtain ⟨h, d, rfl⟩ : ∃ (h : Fin 2) (d : Fin 64), n = ⟨64 * h.val + d.val, by omega⟩ :=
    ⟨⟨n.val / 64, by omega⟩, ⟨n.val % 64, by omega⟩, Fin.ext (by dsimp only; omega)⟩
  have e : ((View.whole main_v10_1).slice (win2_4.rect t)).emb (ix3 0 r ⟨64 * h.val + d.val, by omega⟩) =
      ix3 (batch t) (row t r) (feature (head t h) d) := by blk_ext [index4, batch, row, feature, head]
  rw [ctx_same, keys_same, values_same, AttnIdeal.Row.ctx_apply, e, scores_at]
  simp only [v_at]
  rw [AttnIdeal.Array.contextOf_at]
  rfl

end Val2

end Cert.KernelIdeal.Whole

end
-- ==== Proof.WholeVal3.lean ====
/-
  The whole program's last call: its two arrays, as functions of the arrays that it is given.
-/
module

public import proofs.«01_k».proof.Proof.WholeFold
public import proofs.«01_k».proof.Proof.FfnArray
public import Idealize.ShloMosaic.Lib.Claim
public import Idealize.ShloMosaic.Lib.Pipeline.ValueKit.Geometry
public import Idealize.ShloMosaic.Lib.Pipeline.ValueKit.Acc
public import Idealize.ShloMosaic.Lib.Tactic

@[expose] public section

set_option maxRecDepth 16384

noncomputable section

open Idealize.ShloMosaic Idealize.ShloMosaic.TcCoe Idealize.ShloMosaic.Tactic Idealize.ShloMosaic.Pipeline

namespace Cert.KernelIdeal.Whole

open Cert.KernelIdeal Cert.KernelIdeal.Gen Cert.Spec

namespace Val3

variable (V : (c : Dev nD) → (b : Ref sig .tc) → Buf (Elt Ideal) ((c : Thread nD τ).loc b))

theorem lt8 (t : Fin cfg3.N) : t.val < 8 := t.isLt

section Same

variable (ctx : Vec Ideal S512x1024 .f32) (wo : Vec Ideal S1024x1024 .bf16) (x : Vec Ideal S512x1024 .f32)
  (g b : Vec Ideal S1x1024 .f32) (wg w1 : Vec Ideal S1024x4096 .bf16) (w2 : Vec Ideal S4096x1024 .bf16) (acc : Vec Ideal S1x1 .f32)

/-- The result's row block at a point. -/
def rows : Vec Ideal S512x1024 .f32 :=
  k3_pay9 (k3_pay1 ctx wo x) (k3_pay5 g) (k3_pay6 b) (k3_pay7 ctx wo x) (k3_pay8 ctx wo x) wg w1 w2

/-- It is that of the call on its own. -/
theorem rows_same : rows ctx wo x g b wg w1 w2 = FfnIdeal.Block.rows (F := Ideal) ctx wo x g b wg w1 w2 := rfl

/-- So is the row after attention. -/
theorem resid_same : k3_pay1 (F := Ideal) ctx wo x = FfnIdeal.Gen.k0_pay1 (F := Ideal) ctx wo x := rfl

end Same

/-- The row block a point leaves. -/
theorem rows_eq (c : Dev nD) (t : Fin cfg3.N) : (outsAt3 V c t.val t.isLt).1 =
    rows (iblk3 V c 0 t) (iblk3 V c 1 t) (iblk3 V c 2 t) (iblk3 V c 3 t) (iblk3 V c 4 t) (iblk3 V c 5 t) (iblk3 V c 6 t) (iblk3 V c 7 t) := by
  by_cases h0 : t.val % 8 = 0
  · rw [outsAt3_A V c t h0 (by omega)]; frame_out; unfold rows; rfl
  · by_cases h1 : t.val % 8 = 7
    · rw [outsAt3_C V c t h0 h1]; frame_out; unfold rows; rfl
    · rw [outsAt3_B V c t h0 h1]; frame_out; unfold rows; rfl

/-- The first point's energy: its block's, added to zero. -/
theorem energy_first (c : Dev nD) (t : Fin cfg3.N) (h0 : t.val % 8 = 0) : (outsAt3 V c t.val t.isLt).2 =
    k3_pay3 (iblk3 V c 0 t) (iblk3 V c 1 t) (iblk3 V c 2 t) (k3_pay2 (F := Ideal)) := by
  rw [outsAt3_A V c t h0 (by omega)]; frame_out

/-- An inner point's energy: its block's, added to what the point before left. -/
theorem energy_inner (c : Dev nD) (t : Fin cfg3.N) (h0 : ¬t.val % 8 = 0) (h1 : ¬t.val % 8 = 7) :
    (outsAt3 V c t.val t.isLt).2 = k3_pay3 (iblk3 V c 0 t) (iblk3 V c 1 t) (iblk3 V c 2 t)
      (outsAt3 V c (t.val - 1) (lt_of_le_of_lt (Nat.sub_le _ _) t.isLt)).2 := by
  rw [outsAt3_B V c t h0 h1]; frame_out

/-- The last point's energy: the same, divided by the number of entries. -/
theorem energy_last (c : Dev nD) (t : Fin cfg3.N) (h1 : t.val % 8 = 7) :
    (outsAt3 V c t.val t.isLt).2 = k3_pay4 (k3_pay3 (iblk3 V c 0 t) (iblk3 V c 1 t) (iblk3 V c 2 t)
      (outsAt3 V c (t.val - 1) (lt_of_le_of_lt (Nat.sub_le _ _) t.isLt)).2) := by
  rw [outsAt3_C V c t (by omega) h1]; frame_out

theorem index0 : ∀ t : Fin cfg3.N, win3_0.index t = ![t.val, 0] :=
  (by decide +kernel : ∀ t : Fin grid3.N, win3_0.index t = ![t.val, 0])
theorem index1 : ∀ t : Fin cfg3.N, win3_1.index t = ![0, 0] :=
  (by decide +kernel : ∀ t : Fin grid3.N, win3_1.index t = ![0, 0])
theorem index2 : ∀ t : Fin cfg3.N, win3_2.index t = ![t.val, 0] :=
  (by decide +kernel : ∀ t : Fin grid3.N, win3_2.index t = ![t.val, 0])
theorem index3 : ∀ t : Fin cfg3.N, win3_3.index t = ![0, 0] :=
  (by decide +kernel : ∀ t : Fin grid3.N, win3_3.index t = ![0, 0])
theorem index4 : ∀ t : Fin cfg3.N, win3_4.index t = ![0, 0] :=
  (by decide +kernel : ∀ t : Fin grid3.N, win3_4.index t = ![0, 0])
theorem index5 : ∀ t : Fin cfg3.N, win3_5.index t = ![0, 0] :=
  (by decide +kernel : ∀ t : Fin grid3.N, win3_5.index t = ![0, 0])
theorem index6 : ∀ t : Fin cfg3.N, win3_6.index t = ![0, 0] :=
  (by decide +kernel : ∀ t : Fin grid3.N, win3_6.index t = ![0, 0])
theorem index7 : ∀ t : Fin cfg3.N, win3_7.index t = ![0, 0] :=
  (by decide +kernel : ∀ t : Fin grid3.N, win3_7.index t = ![0, 0])
theorem index8 : ∀ t : Fin cfg3.N, win3_8.index t = ![t.val, 0] :=
  (by decide +kernel : ∀ t : Fin grid3.N, win3_8.index t = ![t.val, 0])

/-- The block of the attention context. -/
theorem ctx_at (c : Dev nD) (t : Fin cfg3.N) (r : Fin 512) (k : Fin 1024) : iblk3 V c 0 t (ix2 r k) = V c main_v11 (ix2 (pos t.val (lt8 t) r) k) := by
  have e : ((View.whole main_v11).slice (win3_0.rect (t))).emb (ix2 r k) = ix2 (pos t.val (lt8 t) r) k := by blk_ext [index0, pos]
  blk_simp [iblk3]
  rw [e]

/-- The block of the incoming features. -/
theorem x_at (c : Dev nD) (t : Fin cfg3.N) (r : Fin 512) (k : Fin 1024) : iblk3 V c 2 t (ix2 r k) = V c main_v0 (ix2 (pos t.val (lt8 t) r) k) := by
  have e : ((View.whole main_v0).slice (win3_2.rect (t))).emb (ix2 r k) = ix2 (pos t.val (lt8 t) r) k := by blk_ext [index2, pos]
  blk_simp [iblk3]
  rw [e]

/-- The output projection. -/
theorem wo_at (c : Dev nD) (t : Fin cfg3.N) (k : Fin 1024) (l : Fin 1024) : iblk3 V c 1 t (ix2 k l) = V c main_v12 (ix2 k l) := by
  have e : ((View.whole main_v12).slice (win3_1.rect (t))).emb (ix2 k l) = ix2 k l := by blk_ext [index1, pos]
  blk_simp [iblk3]
  rw [e]

/-- The gate weights. -/
theorem wg_at (c : Dev nD) (t : Fin cfg3.N) (k : Fin 1024) (l : Fin 4096) : iblk3 V c 5 t (ix2 k l) = V c main_v15 (ix2 k l) := by
  have e : ((View.whole main_v15).slice (win3_5.rect (t))).emb (ix2 k l) = ix2 k l := by blk_ext [index5, pos]
  blk_simp [iblk3]
  rw [e]

/-- The first layer. -/
theorem w1_at (c : Dev nD) (t : Fin cfg3.N) (k : Fin 1024) (l : Fin 4096) : iblk3 V c 6 t (ix2 k l) = V c main_v16 (ix2 k l) := by
  have e : ((View.whole main_v16).slice (win3_6.rect (t))).emb (ix2 k l) = ix2 k l := by blk_ext [index6, pos]
  blk_simp [iblk3]
  rw [e]

/-- The second layer. -/
theorem w2_at (c : Dev nD) (t : Fin cfg3.N) (k : Fin 4096) (l : Fin 1024) : iblk3 V c 7 t (ix2 k l) = V c main_v17 (ix2 k l) := by
  have e : ((View.whole main_v17).slice (win3_7.rect (t))).emb (ix2 k l) = ix2 k l := by blk_ext [index7, pos]
  blk_simp [iblk3]
  rw [e]

/-- The norm's scale. -/
theorem g_at (c : Dev nD) (t : Fin cfg3.N) (k : Fin 1024) : iblk3 V c 3 t (ix2 0 k) = V c main_v13 (ix2 0 k) := by
  have e : ((View.whole main_v13).slice (win3_3.rect (t))).emb (ix2 0 k) = ix2 0 k := by blk_ext [index3, pos]
  blk_simp [iblk3]
  rw [e]

/-- The norm's shift. -/
theorem b_at (c : Dev nD) (t : Fin cfg3.N) (k : Fin 1024) : iblk3 V c 4 t (ix2 0 k) = V c main_v14 (ix2 0 k) := by
  have e : ((View.whole main_v14).slice (win3_4.rect (t))).emb (ix2 0 k) = ix2 0 k := by blk_ext [index4, pos]
  blk_simp [iblk3]
  rw [e]

/-- The rows after attention, from the arrays that the call is given. -/
def after (c : Dev nD) (n : Fin 4096) : Fin 1024 → EReal :=
  resid (fun k => V c main_v11 (ix2 n k)) (fun k => V c main_v0 (ix2 n k)) (fun k l => V c main_v12 (ix2 k l))

/-- The layer's result. -/
def out (c : Dev nD) (n : Fin 4096) : Fin 1024 → EReal :=
  ffn (fun k => V c main_v11 (ix2 n k)) (fun k => V c main_v0 (ix2 n k)) (fun k l => V c main_v12 (ix2 k l))
    (fun k => V c main_v13 (ix2 0 k)) (fun k => V c main_v14 (ix2 0 k)) (fun k l => V c main_v15 (ix2 k l))
    (fun k l => V c main_v16 (ix2 k l)) (fun k l => V c main_v17 (ix2 k l))

/-- The result array is the layer. -/
theorem final_out (c : Dev nD) : (dat3 V c).arrAt 8 cfg3.N = fun i => out V c (i 0) (i 1) := by
  refine (dat3 V c).arrAt_eq_of_covers 8 _ (by decide +kernel) fun t hf y => ?_
  blk_simp
  rw [after3_8, rows_eq]
  obtain ⟨r, j, rfl⟩ : ∃ (r : Fin 512) (j : Fin 1024), y = ix2 r j := ⟨y 0, y 1, eq_ix2 y⟩
  have e : ((View.whole main_v18_0).slice (win3_8.rect t)).emb (ix2 r j) = ix2 (pos t.val (lt8 t) r) j := by blk_ext [index8, pos]
  rw [rows_same, FfnIdeal.Row.rows_apply, e]
  simp only [ctx_at, x_at, wo_at, wg_at, w1_at, w2_at, g_at, b_at]
  rfl

/-- One block's energy: the squares of its 512 rows after attention. -/
def part (c : Dev nD) (t : Fin 8) : EReal := ∑ r : Fin 512, ∑ j : Fin 1024, after V c (pos t.val t.isLt r) j * after V c (pos t.val t.isLt r) j

/-- A point adds its block's energy to what it is given. -/
theorem add_part (c : Dev nD) (t : Fin cfg3.N) (acc : Vec Ideal S1x1 .f32) (z w : Fin 1) :
    k3_pay3 (F := Ideal) (iblk3 V c 0 t) (iblk3 V c 1 t) (iblk3 V c 2 t) acc (ix2 z w) = acc (ix2 z w) + part V c ⟨t.val, lt8 t⟩ := by
  unfold k3_pay3
  simp only [resid_same]
  pointwise [FfnIdeal.Row.resid_apply]
  simp only [ctx_at, x_at, wo_at]
  rfl

/-- The energy carried after `n + 1` points. -/
theorem carried (c : Dev nD) (n : ℕ) (h : n < cfg3.N) (h7 : n < 7) (z w : Fin 1) :
    (outsAt3 V c n h).2 (ix2 z w) = ∑ t : Fin (n + 1), part V c ⟨t.val, by omega⟩ := by
  induction n with
  | zero =>
    have e := energy_first V c ⟨0, h⟩ rfl
    rw [show (outsAt3 V c 0 h).2 = _ from e, add_part]
    unfold k3_pay2
    pointwise
    simp
  | succ n ih =>
    have e := energy_inner V c ⟨n + 1, h⟩ (by dsimp only; omega) (by dsimp only; omega)
    rw [show (outsAt3 V c (n + 1) h).2 = _ from e, add_part, Fin.sum_univ_castSucc]
    refine congrArg (· + _) ?_
    exact ih (by omega) (by omega)

/-- The carried sum over the number of entries. -/
theorem over_count (acc : Vec Ideal S1x1 .f32) (z w : Fin 1) : k3_pay4 acc (ix2 z w) = Ideal.div (acc (ix2 z w)) count := by
  unfold k3_pay4 Cert.Spec.count
  pointwise

/-- The last point adds its block and divides by the number of entries. -/
theorem all_parts (c : Dev nD) (h : 7 < cfg3.N) (i : S1x1.Idx) : (outsAt3 V c 7 h).2 i = Ideal.div (squares (after V c)) count := by
  obtain ⟨z, w, rfl⟩ : ∃ (z w : Fin 1), i = ix2 z w := ⟨i 0, i 1, eq_ix2 i⟩
  have e := energy_last V c ⟨7, h⟩ rfl
  rw [show (outsAt3 V c 7 h).2 = _ from e, over_count, add_part]
  have e' := carried V c 6 (by omega) (by omega) z w
  rw [show (outsAt3 V c (7 - 1) _).2 (ix2 z w) = _ from e']
  unfold squares
  rw [sum_blocks (A := 8) (B := 512) rfl, Fin.sum_univ_castSucc (n := 7)]
  rfl

/-- The energy array is the mean square. -/
theorem final_energy (c : Dev nD) : (dat3 V c).arrAt 9 cfg3.N = fun _ => Ideal.div (squares (after V c)) count := by
  refine (dat3 V c).arrAt_eq_of_after_last 9 ⟨7, by decide⟩ (by decide +kernel) _ fun j => ?_
  rw [after3_9]
  exact all_parts V c _ _

end Val3

end Cert.KernelIdeal.Whole

end
-- ==== Proof.WholeSpec.lean ====
/-
  What the whole program computes, from its arguments, as plain functions: the encoder's rows, and, from any sparse
  coefficients, what the later stages make of them. Also: a batch's results depend on that batch's coefficients alone.
-/
module

public import proofs.«01_k».proof.Proof.EncSpec
public import proofs.«01_k».proof.Proof.EncArray
public import proofs.«01_k».proof.Proof.AttnArray

@[expose] public section

noncomputable section

open Idealize.ShloMosaic

namespace Cert.Spec

/-- Row `s` of batch `b`, of the 4096. -/
def at2 (b : Fin 2) (s : Fin 2048) : Fin 4096 := ⟨2048 * b.val + s.val, by omega⟩

/-- The 4096 rows, in their two batches. -/
def at3 {d : ℕ} (f : Fin 4096 → Fin d → EReal) : (⟨3, ![2, 2048, d]⟩ : Shape).Idx → EReal := fun i => f (at2 (i 0) (i 1)) (i 2)

/-- Reshaping the 4096 rows to two batches. -/
theorem at3_eq {d : ℕ} (a : Vec Ideal ⟨2, ![4096, d]⟩ .f32) (h : (⟨2, ![4096, d]⟩ : Shape).ShapeCasts ⟨3, ![2, 2048, d]⟩) :
    shapeCast (s := ⟨2, ![4096, d]⟩) ⟨3, ![2, 2048, d]⟩ a h = at3 fun n k => a (ix2 n k) := by
  funext i
  obtain ⟨b, s, k, rfl⟩ : ∃ (b : Fin 2) (s : Fin 2048) (k : Fin d), i = ix3 b s k := ⟨i 0, i 1, i 2, eq_ix3 i⟩
  refine shapeCast_apply a h (ix3 b s k) (ix2 (at2 b s) k) ?_
  rw [Shape.rowMajor_val_three, Shape.rowMajor_val_two]
  show (2048 * b.val + s.val) * d + k.val = (b.val * 2048 + s.val) * d + k.val
  rw [Nat.mul_comm 2048]

/-- A one-by-one array as a scalar. -/
theorem scalar_eq {α : Type} (a : (⟨2, ![1, 1]⟩ : Shape).Idx → α) (h : (⟨2, ![1, 1]⟩ : Shape).ShapeCasts ⟨0, ![]⟩) (i : (⟨0, ![]⟩ : Shape).Idx) :
    shapeCast (s := ⟨2, ![1, 1]⟩) ⟨0, ![]⟩ a h i = a (ix2 0 0) := by
  refine shapeCast_apply _ _ _ _ ?_
  have h : ((⟨0, ![]⟩ : Shape).rowMajor i).val < 1 := ((⟨0, ![]⟩ : Shape).rowMajor i).isLt
  have h' : ((⟨2, ![1, 1]⟩ : Shape).rowMajor (ix2 0 0)).val < 1 := ((⟨2, ![1, 1]⟩ : Shape).rowMajor (ix2 0 0)).isLt
  exact (Nat.lt_one_iff.mp h').trans (Nat.lt_one_iff.mp h).symm

/-- The program's arguments. -/
structure Args where
  x : (⟨3, ![2, 2048, 1024]⟩ : Shape).Idx → EReal
  wf : (⟨2, ![1024, 8]⟩ : Shape).Idx → EReal
  emb : (⟨2, ![8, 1024]⟩ : Shape).Idx → EReal
  we : (⟨2, ![1024, 4096]⟩ : Shape).Idx → EReal
  be : (⟨1, ![4096]⟩ : Shape).Idx → EReal
  dict : (⟨2, ![4096, 1024]⟩ : Shape).Idx → EReal
  bias : (⟨1, ![1024]⟩ : Shape).Idx → EReal
  g1 : (⟨1, ![1024]⟩ : Shape).Idx → EReal
  b1 : (⟨1, ![1024]⟩ : Shape).Idx → EReal
  wq : (⟨2, ![1024, 1024]⟩ : Shape).Idx → EReal
  wk : (⟨2, ![1024, 1024]⟩ : Shape).Idx → EReal
  wv : (⟨2, ![1024, 1024]⟩ : Shape).Idx → EReal
  wo : (⟨2, ![1024, 1024]⟩ : Shape).Idx → EReal
  g2 : (⟨1, ![1024]⟩ : Shape).Idx → EReal
  b2 : (⟨1, ![1024]⟩ : Shape).Idx → EReal
  w1 : (⟨2, ![1024, 4096]⟩ : Shape).Idx → EReal
  wg : (⟨2, ![1024, 4096]⟩ : Shape).Idx → EReal
  w2 : (⟨2, ![4096, 1024]⟩ : Shape).Idx → EReal

namespace Args

variable (A : Args)

/-- A row's family weights. -/
def weights (n : Fin 4096) : Fin 8 → EReal := families (flat A.x n) fun k l => A.wf (ix2 k l)

/-- A row's basis. -/
def basis (n : Fin 4096) : Fin 1024 → EReal := base (flat A.x n) (fun k l => A.wf (ix2 k l)) fun k l => A.emb (ix2 k l)

/-- A row's coefficients. -/
def code (n : Fin 4096) : Fin 4096 → EReal :=
  coeffs (flat A.x n) (fun k l => A.wf (ix2 k l)) (fun k l => A.emb (ix2 k l)) (fun k l => A.we (ix2 k l)) fun l => A.be (ix1 l)

/-- A row's coefficients that the search keeps. -/
def sparse (n : Fin 4096) : Fin 4096 → EReal := thinned (A.code n)

variable (S S' : Fin 4096 → Fin 4096 → EReal)

/-- A row put together again from its sparse coefficients. -/
def rows (n : Fin 4096) : Fin 1024 → EReal := recon (S n) (A.basis n) (fun k => A.bias (ix1 k)) fun k l => A.dict (ix2 k l)

/-- The rows, normalised and projected. -/
def proj (w : (⟨2, ![1024, 1024]⟩ : Shape).Idx → EReal) (n : Fin 4096) : Fin 1024 → EReal :=
  mul (norm (A.rows S n) (fun k => A.g1 (ix1 k)) fun k => A.b1 (ix1 k)) fun k l => w (ix2 k l)

/-- The attention weights. -/
def heads : (⟨4, ![2, 16, 2048, 2048]⟩ : Shape).Idx → EReal := AttnIdeal.Array.weightsOf (at3 (A.proj S A.wq)) (at3 (A.proj S A.wk))

/-- The attention's context. -/
def ctx : (⟨3, ![2, 2048, 1024]⟩ : Shape).Idx → EReal :=
  AttnIdeal.Array.contextOf (at3 (A.proj S A.wq)) (at3 (A.proj S A.wk)) (at3 (A.proj S A.wv))

/-- A row after attention. -/
def after (n : Fin 4096) : Fin 1024 → EReal := resid (flat (A.ctx S) n) (flat A.x n) fun k l => A.wo (ix2 k l)

/-- A row of the result. -/
def out (n : Fin 4096) : Fin 1024 → EReal :=
  ffn (flat (A.ctx S) n) (flat A.x n) (fun k l => A.wo (ix2 k l)) (fun k => A.g2 (ix1 k)) (fun k => A.b2 (ix1 k))
    (fun k l => A.wg (ix2 k l)) (fun k l => A.w1 (ix2 k l)) fun k l => A.w2 (ix2 k l)

/-- The first energy. -/
def energy1 : EReal := Ideal.div (squares (A.rows S)) count

/-- The second energy. -/
def energy2 : EReal := Ideal.div (squares (A.after S)) count

variable (b : Fin 2) (hS : ∀ s, S (at2 b s) = S' (at2 b s))

include hS

/-- A batch's projected rows depend on that batch's coefficients. -/
theorem proj_batch (w : (⟨2, ![1024, 1024]⟩ : Shape).Idx → EReal) (s : Fin 2048) (k : Fin 1024) :
    at3 (A.proj S w) (ix3 b s k) = at3 (A.proj S' w) (ix3 b s k) := by
  show A.proj S w (at2 b s) k = A.proj S' w (at2 b s) k
  unfold proj rows
  rw [hS]

/-- So do its attention weights. -/
theorem attend_batch (h : Fin 16) (s : Fin 2048) : attend (at3 (A.proj S A.wq)) (at3 (A.proj S A.wk)) b h s =
    attend (at3 (A.proj S' A.wq)) (at3 (A.proj S' A.wk)) b h s := by
  unfold attend score
  simp only [A.proj_batch S S' b hS]

theorem heads_batch (h : Fin 16) (s t : Fin 2048) : A.heads S (ix4 b h s t) = A.heads S' (ix4 b h s t) :=
  congrFun (A.attend_batch S S' b hS h s) t

/-- So does its context. -/
theorem ctx_batch (s : Fin 2048) (k : Fin 1024) : A.ctx S (ix3 b s k) = A.ctx S' (ix3 b s k) := by
  show context _ _ _ b ⟨k.val / 64, _⟩ s ⟨k.val % 64, _⟩ = context _ _ _ b ⟨k.val / 64, _⟩ s ⟨k.val % 64, _⟩
  unfold context
  rw [A.attend_batch S S' b hS]
  simp only [A.proj_batch S S' b hS]

/-- So does its result. -/
theorem out_batch (s : Fin 2048) : A.out S (at2 b s) = A.out S' (at2 b s) := by
  have e : flat (A.ctx S) (at2 b s) = flat (A.ctx S') (at2 b s) := by
    unfold at2
    rw [flat_batch, flat_batch]
    exact funext fun k => A.ctx_batch S S' b hS s k
  unfold out
  rw [e]

end Args

end Cert.Spec
-- ==== Proof.WholeReads.lean ====
/-
  The whole program's results, as functions of its arguments: each call is given what the operations and calls
  before it leave.
-/
module

public import proofs.«01_k».proof.Proof.WholeVal0
public import proofs.«01_k».proof.Proof.WholeVal1
public import proofs.«01_k».proof.Proof.WholeVal2
public import proofs.«01_k».proof.Proof.WholeVal3
public import proofs.«01_k».proof.Proof.WholeSpec

@[expose] public section

set_option maxRecDepth 16384

noncomputable section

open Idealize.ShloMosaic Idealize.ShloMosaic.TcCoe Idealize.ShloMosaic.Tactic Idealize.ShloMosaic.Pipeline

namespace Cert.KernelIdeal.Whole

open Cert.KernelIdeal Cert.KernelIdeal.Gen Cert.Spec

variable (m : (ℓ : Loc nD τ sig) → Buf (Elt Ideal) ℓ) (ρ : Dev nD → PrngReg) (c : Dev nD)

/-- The arguments, as launched. -/
def args : Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5),
  m ((c : Thread nD τ).loc main_arg6), m ((c : Thread nD τ).loc main_arg7), m ((c : Thread nD τ).loc main_arg8),
  m ((c : Thread nD τ).loc main_arg9), m ((c : Thread nD τ).loc main_arg10), m ((c : Thread nD τ).loc main_arg11),
  m ((c : Thread nD τ).loc main_arg12), m ((c : Thread nD τ).loc main_arg13), m ((c : Thread nD τ).loc main_arg14),
  m ((c : Thread nD τ).loc main_arg15), m ((c : Thread nD τ).loc main_arg16), m ((c : Thread nD τ).loc main_arg17)⟩

/-- The first call's rows. -/
theorem x_at (n : Fin 4096) : (fun k => V1 m ρ c main_v0 (ix2 n k)) = flat (args m c).x n := by
  funext k
  show StableHlo.after hostOps0 (W0 m ρ c) (Proc.devRef .tc main_v0) (ix2 n k) = _
  entry_read
  exact flat_eq _ _ n k

/-- The first call's bias. -/
theorem be_at : (fun l => V1 m ρ c main_v1 (ix2 0 l)) = fun l : Fin 4096 => (args m c).be (ix1 l) := by
  funext l
  show StableHlo.after hostOps0 (W0 m ρ c) (Proc.devRef .tc main_v1) (ix2 0 l) = _
  entry_read
  exact row_eq _ _ l

theorem wf_at : V1 m ρ c main_arg1 = (args m c).wf := W1_args m ρ c main_arg1 (by decide)
theorem emb_at : V1 m ρ c main_arg2 = (args m c).emb := W1_args m ρ c main_arg2 (by decide)
theorem we_at : V1 m ρ c main_arg3 = (args m c).we := W1_args m ρ c main_arg3 (by decide)

/-- The first call's coefficients. -/
theorem code_at (n : Fin 4096) : Val0.code (V1 m ρ) c n = (args m c).code n := by
  unfold Val0.code Args.code
  rw [x_at, be_at, wf_at, emb_at, we_at]

theorem weights_at (n : Fin 4096) : Val0.weights (V1 m ρ) c n = (args m c).weights n := by
  unfold Val0.weights Args.weights
  rw [x_at, wf_at]

theorem basis_at (n : Fin 4096) : Val0.basis (V1 m ρ) c n = (args m c).basis n := by
  unfold Val0.basis Args.basis
  rw [x_at, wf_at, emb_at]

/-- The first call's arrays. -/
theorem after_weights : V2 m ρ c main_v2_0 = fun i : S4096x8.Idx => (args m c).weights (i 0) (i 1) :=
  (W2_arr m ρ c 5).trans ((Val0.final_weights (V1 m ρ) c).trans (funext fun i => congrFun (weights_at m ρ c _) _))
theorem after_basis : V2 m ρ c main_v2_1 = fun i : S4096x1024.Idx => (args m c).basis (i 0) (i 1) :=
  (W2_arr m ρ c 6).trans ((Val0.final_basis (V1 m ρ) c).trans (funext fun i => congrFun (basis_at m ρ c _) _))
theorem after_sparse : V2 m ρ c main_v2_2 = fun i : S4096x4096.Idx => (args m c).sparse (i 0) (i 1) :=
  (W2_arr m ρ c 7).trans ((Val0.final_sparse (V1 m ρ) c).trans (funext fun i => congrFun (congrArg thinned (code_at m ρ c _)) _))
theorem after_total : V2 m ρ c main_v2_3 = fun _ : S1x1.Idx => EncIdeal.Array.magnitude (args m c).sparse :=
  (W2_arr m ρ c 8).trans ((Val0.final_total (V1 m ρ) c).trans (funext fun _ => congrArg EncIdeal.Array.magnitude
    (funext fun n => congrArg thinned (code_at m ρ c n))))

/-- A vector among the arguments, given to a call as one row. -/
theorem bias_at : (fun k => V3 m ρ c main_v3 (ix2 0 k)) = fun k : Fin 1024 => (args m c).bias (ix1 k) := by
  funext k
  show StableHlo.after hostOps1 (W2 m ρ c) (Proc.devRef .tc main_v3) (ix2 0 k) = _
  entry_read
  exact (row_eq _ _ k).trans (congrFun (W2_args m ρ c main_arg6 (by decide)) (ix1 k))
theorem g1_at : (fun k => V3 m ρ c main_v4 (ix2 0 k)) = fun k : Fin 1024 => (args m c).g1 (ix1 k) := by
  funext k
  show StableHlo.after hostOps1 (W2 m ρ c) (Proc.devRef .tc main_v4) (ix2 0 k) = _
  entry_read
  exact (row_eq _ _ k).trans (congrFun (W2_args m ρ c main_arg7 (by decide)) (ix1 k))
theorem b1_at : (fun k => V3 m ρ c main_v5 (ix2 0 k)) = fun k : Fin 1024 => (args m c).b1 (ix1 k) := by
  funext k
  show StableHlo.after hostOps1 (W2 m ρ c) (Proc.devRef .tc main_v5) (ix2 0 k) = _
  entry_read
  exact (row_eq _ _ k).trans (congrFun (W2_args m ρ c main_arg8 (by decide)) (ix1 k))

theorem dict_at : V3 m ρ c main_arg5 = (args m c).dict := W3_args m ρ c main_arg5 (by decide)
theorem wq_at : V3 m ρ c main_arg9 = (args m c).wq := W3_args m ρ c main_arg9 (by decide)
theorem wk_at : V3 m ρ c main_arg10 = (args m c).wk := W3_args m ρ c main_arg10 (by decide)
theorem wv_at : V3 m ρ c main_arg11 = (args m c).wv := W3_args m ρ c main_arg11 (by decide)
theorem sparse_at : V3 m ρ c main_v2_2 = fun i : S4096x4096.Idx => (args m c).sparse (i 0) (i 1) :=
  (W3_of m ρ c main_v2_2 (by decide)).trans (after_sparse m ρ c)
theorem basis_in : V3 m ρ c main_v2_1 = fun i : S4096x1024.Idx => (args m c).basis (i 0) (i 1) :=
  (W3_of m ρ c main_v2_1 (by decide)).trans (after_basis m ρ c)

/-- The second call's rows. -/
theorem rows_at (n : Fin 4096) : Val1.rows (V3 m ρ) c n = (args m c).rows (args m c).sparse n := by
  unfold Val1.rows Args.rows
  rw [sparse_at, basis_in, dict_at, bias_at]
  rfl

/-- The second call's rows, normalised and projected. -/
theorem proj_row (w : S1024x1024.Idx → EReal) (n : Fin 4096) :
    mul (norm (Val1.rows (V3 m ρ) c n) (fun k => V3 m ρ c main_v4 (ix2 0 k)) fun k => V3 m ρ c main_v5 (ix2 0 k)) (fun k l => w (ix2 k l)) =
      (args m c).proj (args m c).sparse w n := by
  unfold Args.proj
  rw [rows_at, g1_at, b1_at]

theorem proj_at (w : S1024x1024.Idx → EReal) : Val1.out (V3 m ρ) c w =
    fun i : S4096x1024.Idx => (args m c).proj (args m c).sparse w (i 0) (i 1) :=
  funext fun i => congrFun (proj_row m ρ c w (i 0)) (i 1)

/-- The second call's arrays. -/
theorem after_q : V4 m ρ c main_v6_0 = fun i : S4096x1024.Idx => (args m c).proj (args m c).sparse (args m c).wq (i 0) (i 1) :=
  (W4_arr m ρ c 9).trans ((Val1.final_q (V3 m ρ) c).trans ((congrArg (Val1.out (V3 m ρ) c) (wq_at m ρ c)).trans (proj_at m ρ c _)))
theorem after_k : V4 m ρ c main_v6_1 = fun i : S4096x1024.Idx => (args m c).proj (args m c).sparse (args m c).wk (i 0) (i 1) :=
  (W4_arr m ρ c 10).trans ((Val1.final_k (V3 m ρ) c).trans ((congrArg (Val1.out (V3 m ρ) c) (wk_at m ρ c)).trans (proj_at m ρ c _)))
theorem after_v : V4 m ρ c main_v6_2 = fun i : S4096x1024.Idx => (args m c).proj (args m c).sparse (args m c).wv (i 0) (i 1) :=
  (W4_arr m ρ c 11).trans ((Val1.final_v (V3 m ρ) c).trans ((congrArg (Val1.out (V3 m ρ) c) (wv_at m ρ c)).trans (proj_at m ρ c _)))
theorem after_energy1 : V4 m ρ c main_v6_3 = fun _ : S1x1.Idx => (args m c).energy1 (args m c).sparse :=
  (W4_arr m ρ c 12).trans ((Val1.final_energy (V3 m ρ) c).trans (funext fun _ => congrArg (fun r => Ideal.div (squares r) count)
    (funext fun n => rows_at m ρ c n)))

/-- The third call's queries, keys and values. -/
theorem q_at : V5 m ρ c main_v7 = at3 ((args m c).proj (args m c).sparse (args m c).wq) := by
  show StableHlo.after hostOps2 (W4 m ρ c) (Proc.devRef .tc main_v7) = _
  entry_read
  exact (at3_eq _ _).trans (congrArg at3 (funext fun n => funext fun k => congrFun (after_q m ρ c) (ix2 n k)))
theorem k_at : V5 m ρ c main_v8 = at3 ((args m c).proj (args m c).sparse (args m c).wk) := by
  show StableHlo.after hostOps2 (W4 m ρ c) (Proc.devRef .tc main_v8) = _
  entry_read
  exact (at3_eq _ _).trans (congrArg at3 (funext fun n => funext fun k => congrFun (after_k m ρ c) (ix2 n k)))
theorem v_at : V5 m ρ c main_v9 = at3 ((args m c).proj (args m c).sparse (args m c).wv) := by
  show StableHlo.after hostOps2 (W4 m ρ c) (Proc.devRef .tc main_v9) = _
  entry_read
  exact (at3_eq _ _).trans (congrArg at3 (funext fun n => funext fun k => congrFun (after_v m ρ c) (ix2 n k)))

/-- The third call's arrays. -/
theorem after_heads : V6 m ρ c main_v10_0 = (args m c).heads (args m c).sparse := by
  refine (W6_arr m ρ c 3).trans ((Val2.final_weights (V5 m ρ) c).trans ?_)
  rw [q_at, k_at]
  rfl
theorem after_ctx : V6 m ρ c main_v10_1 = (args m c).ctx (args m c).sparse := by
  refine (W6_arr m ρ c 4).trans ((Val2.final_context (V5 m ρ) c).trans ?_)
  rw [q_at, k_at, v_at]
  rfl

/-- The fourth call's context. -/
theorem ctx_at (n : Fin 4096) : (fun k => V7 m ρ c main_v11 (ix2 n k)) = flat ((args m c).ctx (args m c).sparse) n := by
  funext k
  show StableHlo.after hostOps3 (W6 m ρ c) (Proc.devRef .tc main_v11) (ix2 n k) = _
  entry_read
  exact (flat_eq _ _ n k).trans (congrArg (fun a => flat a n k) (after_ctx m ρ c))

/-- The fourth call's rows are the first's. -/
theorem x_last : V7 m ρ c main_v0 = V1 m ρ c main_v0 :=
  (W7_of m ρ c main_v0 (by decide)).trans ((W6_of m ρ c main_v0 (by decide +kernel)).trans ((W5_of m ρ c main_v0 (by decide)).trans
    ((W4_of m ρ c main_v0 (by decide +kernel)).trans ((W3_of m ρ c main_v0 (by decide)).trans (W2_of m ρ c main_v0 (by decide +kernel))))))

theorem x_in (n : Fin 4096) : (fun k => V7 m ρ c main_v0 (ix2 n k)) = flat (args m c).x n := by
  rw [x_last]
  exact x_at m ρ c n

theorem g2_at : (fun k => V7 m ρ c main_v13 (ix2 0 k)) = fun k : Fin 1024 => (args m c).g2 (ix1 k) := by
  funext k
  show StableHlo.after hostOps3 (W6 m ρ c) (Proc.devRef .tc main_v13) (ix2 0 k) = _
  entry_read
  exact (row_eq _ _ k).trans (congrFun (W6_args m ρ c main_arg13 (by decide)) (ix1 k))
theorem b2_at : (fun k => V7 m ρ c main_v14 (ix2 0 k)) = fun k : Fin 1024 => (args m c).b2 (ix1 k) := by
  funext k
  show StableHlo.after hostOps3 (W6 m ρ c) (Proc.devRef .tc main_v14) (ix2 0 k) = _
  entry_read
  exact (row_eq _ _ k).trans (congrFun (W6_args m ρ c main_arg14 (by decide)) (ix1 k))

/-- A change of float type is none over the extended reals. -/
theorem wo_at : V7 m ρ c main_v12 = (args m c).wo := by
  show StableHlo.after hostOps3 (W6 m ρ c) (Proc.devRef .tc main_v12) = _
  entry_read
  exact W6_args m ρ c main_arg12 (by decide)
theorem wg_at : V7 m ρ c main_v15 = (args m c).wg := by
  show StableHlo.after hostOps3 (W6 m ρ c) (Proc.devRef .tc main_v15) = _
  entry_read
  exact W6_args m ρ c main_arg16 (by decide)
theorem w1_at : V7 m ρ c main_v16 = (args m c).w1 := by
  show StableHlo.after hostOps3 (W6 m ρ c) (Proc.devRef .tc main_v16) = _
  entry_read
  exact W6_args m ρ c main_arg15 (by decide)
theorem w2_at : V7 m ρ c main_v17 = (args m c).w2 := by
  show StableHlo.after hostOps3 (W6 m ρ c) (Proc.devRef .tc main_v17) = _
  entry_read
  exact W6_args m ρ c main_arg17 (by decide)

/-- The fourth call's rows. -/
theorem out_at (n : Fin 4096) : Val3.out (V7 m ρ) c n = (args m c).out (args m c).sparse n := by
  unfold Val3.out Args.out
  rw [ctx_at, x_in, g2_at, b2_at, wo_at, wg_at, w1_at, w2_at]
theorem after_at (n : Fin 4096) : Val3.after (V7 m ρ) c n = (args m c).after (args m c).sparse n := by
  unfold Val3.after Args.after
  rw [ctx_at, x_in, wo_at]

/-- The fourth call's arrays. -/
theorem after_out : V8 m ρ c main_v18_0 = fun i : S4096x1024.Idx => (args m c).out (args m c).sparse (i 0) (i 1) :=
  (W8_arr m ρ c 8).trans ((Val3.final_out (V7 m ρ) c).trans (funext fun i => congrFun (out_at m ρ c _) _))
theorem after_energy2 : V8 m ρ c main_v18_1 = fun _ : S1x1.Idx => (args m c).energy2 (args m c).sparse :=
  (W8_arr m ρ c 9).trans ((Val3.final_energy (V7 m ρ) c).trans (funext fun _ => congrArg (fun r => Ideal.div (squares r) count)
    (funext fun n => after_at m ρ c n)))

/-- The first call's arrays at the end, and the second's. -/
theorem weights_last : V8 m ρ c main_v2_0 = V2 m ρ c main_v2_0 :=
  (W8_of m ρ c main_v2_0 (by decide +kernel)).trans ((W7_of m ρ c main_v2_0 (by decide)).trans ((W6_of m ρ c main_v2_0 (by decide +kernel)).trans
    ((W5_of m ρ c main_v2_0 (by decide)).trans ((W4_of m ρ c main_v2_0 (by decide +kernel)).trans (W3_of m ρ c main_v2_0 (by decide))))))
theorem total_last : V8 m ρ c main_v2_3 = V2 m ρ c main_v2_3 :=
  (W8_of m ρ c main_v2_3 (by decide +kernel)).trans ((W7_of m ρ c main_v2_3 (by decide)).trans ((W6_of m ρ c main_v2_3 (by decide +kernel)).trans
    ((W5_of m ρ c main_v2_3 (by decide)).trans ((W4_of m ρ c main_v2_3 (by decide +kernel)).trans (W3_of m ρ c main_v2_3 (by decide))))))
theorem energy1_last : V8 m ρ c main_v6_3 = V4 m ρ c main_v6_3 :=
  (W8_of m ρ c main_v6_3 (by decide +kernel)).trans ((W7_of m ρ c main_v6_3 (by decide)).trans ((W6_of m ρ c main_v6_3 (by decide +kernel)).trans
    (W5_of m ρ c main_v6_3 (by decide))))

/-- The six results. -/
theorem result_out : W9 m ρ c (Proc.devRef .tc main_v19) = at3 ((args m c).out (args m c).sparse) := by
  show StableHlo.after hostOps4 (W8 m ρ c) (Proc.devRef .tc main_v19) = _
  entry_read
  exact (at3_eq _ _).trans (congrArg at3 (funext fun n => funext fun k => congrFun (after_out m ρ c) (ix2 n k)))
theorem result_heads : W9 m ρ c (Proc.devRef .tc main_v10_0) = (args m c).heads (args m c).sparse :=
  (W9_of m ρ c main_v10_0 (by decide)).trans ((W8_of m ρ c main_v10_0 (by decide +kernel)).trans
    ((W7_of m ρ c main_v10_0 (by decide)).trans (after_heads m ρ c)))
theorem result_weights : W9 m ρ c (Proc.devRef .tc main_v20) = at3 (args m c).weights := by
  show StableHlo.after hostOps4 (W8 m ρ c) (Proc.devRef .tc main_v20) = _
  entry_read
  exact (at3_eq _ _).trans (congrArg at3 (funext fun n => funext fun k => congrFun ((weights_last m ρ c).trans (after_weights m ρ c)) (ix2 n k)))
theorem result_total (i : S_.Idx) : W9 m ρ c (Proc.devRef .tc main_v21) i = EncIdeal.Array.magnitude (args m c).sparse := by
  show StableHlo.after hostOps4 (W8 m ρ c) (Proc.devRef .tc main_v21) i = _
  entry_read
  exact (scalar_eq _ _ i).trans (congrFun ((total_last m ρ c).trans (after_total m ρ c)) _)
theorem result_energy1 (i : S_.Idx) : W9 m ρ c (Proc.devRef .tc main_v22) i = (args m c).energy1 (args m c).sparse := by
  show StableHlo.after hostOps4 (W8 m ρ c) (Proc.devRef .tc main_v22) i = _
  entry_read
  exact (scalar_eq _ _ i).trans (congrFun ((energy1_last m ρ c).trans (after_energy1 m ρ c)) _)
theorem result_energy2 (i : S_.Idx) : W9 m ρ c (Proc.devRef .tc main_v23) i = (args m c).energy2 (args m c).sparse := by
  show StableHlo.after hostOps4 (W8 m ρ c) (Proc.devRef .tc main_v23) i = _
  entry_read
  exact (scalar_eq _ _ i).trans (congrFun (after_energy2 m ρ c) _)

end Cert.KernelIdeal.Whole
-- ==== Proof.WholeState.lean ====
/- The proof data of the four calls, and what each thread holds between the segments. -/
module

public import proofs.«01_k».proof.Proof.WholeFold

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No call has a prefetched table. -/
abbrev adm : (p : Fin 4) → (pcfgs (F := F) p).Adm := fun p => (cfgs p).toPCfg_adm
/-- The proof data of the four calls. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
/-- No variants. -/
abbrev 𝒱₀ : Variants := Variants.none
/-- No levels. -/
abbrev L : GSem nD τ sig → Finset Unit := fun _ => ∅
abbrev lv : GSem nD τ sig → Unit → ℕ := fun _ _ => 0
/-- What rides beside the buffers. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the last segment leaves. -/
abbrev Tₙ (c : Dev nD) : sProp 𝕄 := iprop(StableHlo.held (c : Thread nD τ) (Pipeline.ucRefs τ sig) (W9 m ρ c) ∗ ∃ r, prngReg c r)

end Cert.KernelIdeal.Whole

end
-- ==== Proof.WholeRecords.lean ====
/- The four calls of the whole program as segments: entered from the buffers at one boundary, left at the next. -/
module

public import proofs.«01_k».proof.Proof.WholeState

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call as a segment. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V5 m ρ) c
    unfold Pipeline.ΦA at h
    rw [show (pdats m ρ 2 c).Φ 0 = (dat2 (V5 m ρ) c).Φ 0 from rfl]
    iintro ⟨Hp, -, Hr⟩
    iapply h
    isplitl [Hr]; · iexact Hr
    iexact Hp
  hout c := by
    have h := hout2 (V5 m ρ) c
    unfold Pipeline.ΦA at h
    rw [Pipeline.ownSems0_none, show (pdats m ρ 2 c).Φ (Fin.last _) = (dat2 (V5 m ρ) c).Φ (Fin.last cfg2.N) from rfl]
    iintro HΦ
    ihave HΦ := h $$ HΦ
    icases HΦ with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call as a segment. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.WholeRun.lean ====
/- The run of the whole program: what it leaves in every buffer, and that its arguments end unchanged. -/
module

public import proofs.«01_k».proof.Proof.WholeRecords

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program as segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- The program is the run of its segments. -/
theorem main_run (c : Dev nD) : main (F := F) c = Pipeline.Seg.run (segs m ρ) := (main_chain c).trans (by chain_rfl)

/-- No semaphore is unscoped. -/
theorem no_unscoped : ∀ sm : SemLoc sig, sm.isScoped .tc = true := by decide

set_option backward.isDefEq.respectTransparency.types false in
/-- The program terminates with every buffer it shares as at the last boundary, and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- After the run a shared buffer is as at the last boundary. -/
theorem kept (r : PUnit × MemSt nD τ sig (Elt F)) (h : ∀ c : Dev nD, ∀ b ∈ Pipeline.ucRefs τ sig, r.2.mem (((c : Thread nD τ)).1, b) = W9 m ρ c b)
    (c : Dev nD) (a : Ref sig .tc) (ha : a ∈ argRefs) (hs : ¬ (Proc.devRef .tc a : DevRef τ sig).isScoped := by decide) :
    r.2.mem ((c.tc : Thread nD τ).loc a) = m ((c.tc : Thread nD τ).loc a) :=
  (h c _ (mem_uc a hs)).trans (W9_args m ρ c a ha)

/-- The program terminates with its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c => ⟨kept m ρ r h.1 c main_arg0 (by decide),
      kept m ρ r h.1 c main_arg1 (by decide),
      kept m ρ r h.1 c main_arg2 (by decide),
      kept m ρ r h.1 c main_arg3 (by decide),
      kept m ρ r h.1 c main_arg4 (by decide),
      kept m ρ r h.1 c main_arg5 (by decide),
      kept m ρ r h.1 c main_arg6 (by decide),
      kept m ρ r h.1 c main_arg7 (by decide),
      kept m ρ r h.1 c main_arg8 (by decide),
      kept m ρ r h.1 c main_arg9 (by decide),
      kept m ρ r h.1 c main_arg10 (by decide),
      kept m ρ r h.1 c main_arg11 (by decide),
      kept m ρ r h.1 c main_arg12 (by decide),
      kept m ρ r h.1 c main_arg13 (by decide),
      kept m ρ r h.1 c main_arg14 (by decide),
      kept m ρ r h.1 c main_arg15 (by decide),
      kept m ρ r h.1 c main_arg16 (by decide),
      kept m ρ r h.1 c main_arg17 (by decide)⟩, h.2⟩) (run m ρ)

end Cert.KernelIdeal.Whole

end
-- ==== Proof.WholeRef.lean ====
/-
  The whole reference is the four references one after the other; its results, from the arguments and its own sparse
  coefficients.
-/
module

public import proofs.«01_k».proof.Proof.Gen.ReferenceIdeal.Read
public import proofs.«01_k».proof.Proof.EncRef
public import proofs.«01_k».proof.Proof.QkvRef
public import proofs.«01_k».proof.Proof.AttnRef
public import proofs.«01_k».proof.Proof.FfnRef
public import proofs.«01_k».proof.Proof.WholeSpec

@[expose] public section

set_option maxRecDepth 16384

noncomputable section

open Idealize.ShloMosaic Idealize.ShloMosaic.TcCoe

namespace Cert.ReferenceIdeal.Value

open Cert.ReferenceIdeal Cert.ReferenceIdeal.Gen Cert.ReferenceIdeal.Read Cert.Spec

variable (A : Args)

/-- The sparse coefficients. -/
def kept (n j : Fin 4096) : EReal := EncRefIdeal.Read.val_main_v50 (F := Ideal) A.x A.wf A.emb A.we A.be (ix2 n j)

theorem q_part : val_main_v78 (F := Ideal) A.x A.wf A.emb A.we A.be A.dict A.bias A.g1 A.b1 A.wq = QkvRefIdeal.Read.val_main_v26 (F := Ideal)
    (EncRefIdeal.Read.val_main_v50 A.x A.wf A.emb A.we A.be) (EncRefIdeal.Read.val_main_v49 A.x A.wf A.emb) A.dict A.bias A.g1 A.b1 A.wq := rfl

theorem k_part : val_main_v79 (F := Ideal) A.x A.wf A.emb A.we A.be A.dict A.bias A.g1 A.b1 A.wk = QkvRefIdeal.Read.val_main_v26 (F := Ideal)
    (EncRefIdeal.Read.val_main_v50 A.x A.wf A.emb A.we A.be) (EncRefIdeal.Read.val_main_v49 A.x A.wf A.emb) A.dict A.bias A.g1 A.b1 A.wk := rfl

theorem v_part : val_main_v80 (F := Ideal) A.x A.wf A.emb A.we A.be A.dict A.bias A.g1 A.b1 A.wv = QkvRefIdeal.Read.val_main_v26 (F := Ideal)
    (EncRefIdeal.Read.val_main_v50 A.x A.wf A.emb A.we A.be) (EncRefIdeal.Read.val_main_v49 A.x A.wf A.emb) A.dict A.bias A.g1 A.b1 A.wv := rfl

theorem energy1_part : val_main_v81 (F := Ideal) A.x A.wf A.emb A.we A.be A.dict A.bias = QkvRefIdeal.Read.val_main_v29 (F := Ideal)
    (EncRefIdeal.Read.val_main_v50 A.x A.wf A.emb A.we A.be) (EncRefIdeal.Read.val_main_v49 A.x A.wf A.emb) A.dict A.bias := rfl

theorem heads_part : val_main_v107 (F := Ideal) A.x A.wf A.emb A.we A.be A.dict A.bias A.g1 A.b1 A.wq A.wk = AttnRefIdeal.Read.val_main_v22 (F := Ideal)
    (val_main_v82 A.x A.wf A.emb A.we A.be A.dict A.bias A.g1 A.b1 A.wq) (val_main_v83 A.x A.wf A.emb A.we A.be A.dict A.bias A.g1 A.b1 A.wk) := rfl

theorem ctx_part : val_main_v110 (F := Ideal) A.x A.wf A.emb A.we A.be A.dict A.bias A.g1 A.b1 A.wq A.wk A.wv = AttnRefIdeal.Read.val_main_v25 (F := Ideal)
    (val_main_v82 A.x A.wf A.emb A.we A.be A.dict A.bias A.g1 A.b1 A.wq) (val_main_v83 A.x A.wf A.emb A.we A.be A.dict A.bias A.g1 A.b1 A.wk) (val_main_v84 A.x A.wf A.emb A.we A.be A.dict A.bias A.g1 A.b1 A.wv) := rfl

theorem out_part : val_main_v158 (F := Ideal) A.x A.wf A.emb A.we A.be A.dict A.bias A.g1 A.b1 A.wq A.wk A.wv A.wo A.g2 A.b2 A.w1 A.wg A.w2 = FfnRefIdeal.Read.val_main_v47 (F := Ideal)
    (val_main_v110 A.x A.wf A.emb A.we A.be A.dict A.bias A.g1 A.b1 A.wq A.wk A.wv) A.x A.wo A.g2 A.b2 A.w1 A.wg A.w2 := rfl

theorem energy2_part : val_main_v159 (F := Ideal) A.x A.wf A.emb A.we A.be A.dict A.bias A.g1 A.b1 A.wq A.wk A.wv A.wo = FfnRefIdeal.Read.val_main_v48 (F := Ideal)
    (val_main_v110 A.x A.wf A.emb A.we A.be A.dict A.bias A.g1 A.b1 A.wq A.wk A.wv) A.x A.wo := rfl

/-- A projection of the rows. -/
theorem proj_eq (w : FVec Ideal S1024x1024 .f32) : QkvRefIdeal.Read.val_main_v26 (F := Ideal)
    (EncRefIdeal.Read.val_main_v50 A.x A.wf A.emb A.we A.be) (EncRefIdeal.Read.val_main_v49 A.x A.wf A.emb) A.dict A.bias A.g1 A.b1 w =
    fun i : S4096x1024.Idx => A.proj (kept A) w (i 0) (i 1) := by
  rw [QkvRefIdeal.Value.out_eq]
  funext i
  have e : (fun k : Fin 1024 => EncRefIdeal.Read.val_main_v49 (F := Ideal) A.x A.wf A.emb (ix2 (i 0) k)) = A.basis (i 0) :=
    funext fun k => EncRefIdeal.Value.flat_basis A.x A.wf A.emb (i 0) k
  exact congrArg (fun r => mul (norm (recon (kept A (i 0)) r (fun k => A.bias (ix1 k)) fun k l => A.dict (ix2 k l)) (fun k => A.g1 (ix1 k))
    fun k => A.b1 (ix1 k)) (fun k l => w (ix2 k l)) (i 1)) e

/-- The queries. -/
theorem q_eq : val_main_v82 (F := Ideal) A.x A.wf A.emb A.we A.be A.dict A.bias A.g1 A.b1 A.wq = at3 (A.proj (kept A) A.wq) := by
  unfold val_main_v82
  rw [q_part, proj_eq]
  exact at3_eq _ _

/-- The keys. -/
theorem k_eq : val_main_v83 (F := Ideal) A.x A.wf A.emb A.we A.be A.dict A.bias A.g1 A.b1 A.wk = at3 (A.proj (kept A) A.wk) := by
  unfold val_main_v83
  rw [k_part, proj_eq]
  exact at3_eq _ _

/-- The values. -/
theorem v_eq : val_main_v84 (F := Ideal) A.x A.wf A.emb A.we A.be A.dict A.bias A.g1 A.b1 A.wv = at3 (A.proj (kept A) A.wv) := by
  unfold val_main_v84
  rw [v_part, proj_eq]
  exact at3_eq _ _

/-- The attention weights. -/
theorem heads_eq : val_main_v107 (F := Ideal) A.x A.wf A.emb A.we A.be A.dict A.bias A.g1 A.b1 A.wq A.wk = A.heads (kept A) := by
  rw [heads_part, q_eq, k_eq]
  funext i
  obtain ⟨b, h, s, t, rfl⟩ : ∃ (b : Fin 2) (h : Fin 16) (s t : Fin 2048), i = ix4 b h s t := ⟨i 0, i 1, i 2, i 3, eq_ix4 i⟩
  exact AttnRefIdeal.Value.weights_at _ _ b h s t

/-- The context. -/
theorem ctx_eq : val_main_v110 (F := Ideal) A.x A.wf A.emb A.we A.be A.dict A.bias A.g1 A.b1 A.wq A.wk A.wv = A.ctx (kept A) := by
  rw [ctx_part, q_eq, k_eq, v_eq]
  funext i
  obtain ⟨b, s, k, rfl⟩ : ∃ (b : Fin 2) (s : Fin 2048) (k : Fin 1024), i = ix3 b s k := ⟨i 0, i 1, i 2, eq_ix3 i⟩
  exact AttnRefIdeal.Value.context_at _ _ _ b s k

/-- The first result. -/
theorem out_eq : val_main_v160 (F := Ideal) A.x A.wf A.emb A.we A.be A.dict A.bias A.g1 A.b1 A.wq A.wk A.wv A.wo A.g2 A.b2 A.w1 A.wg A.w2 = at3 (A.out (kept A)) := by
  unfold val_main_v160
  rw [out_part, ctx_eq]
  refine (at3_eq _ _).trans (congrArg at3 (funext fun n => funext fun k => ?_))
  exact FfnRefIdeal.Value.out_at _ _ _ _ _ _ _ _ n k

/-- The family scores. -/
theorem weights_eq : val_main_v161 (F := Ideal) A.x A.wf = at3 A.weights := by
  refine (at3_eq (EncRefIdeal.Read.val_main_v48 (F := Ideal) A.x A.wf) _).trans (congrArg at3 (funext fun n => funext fun k => ?_))
  exact EncRefIdeal.Value.flat_weights A.x A.wf n k

/-- The sum of the sparse coefficients' sizes. -/
theorem total_eq (i : S_.Idx) : val_main_v162 (F := Ideal) A.x A.wf A.emb A.we A.be i = EncRefIdeal.Read.val_main_v51 (F := Ideal) A.x A.wf A.emb A.we A.be (ix2 0 0) :=
  scalar_eq _ _ i

/-- The first energy. -/
theorem energy1_eq (i : S_.Idx) : val_main_v163 (F := Ideal) A.x A.wf A.emb A.we A.be A.dict A.bias i = A.energy1 (kept A) := by
  unfold val_main_v163
  rw [energy1_part]
  refine (scalar_eq _ _ i).trans ((QkvRefIdeal.Value.energy_at _ _ _ _ _).trans ?_)
  simp only [EncRefIdeal.Value.flat_basis]
  rfl

/-- The second energy. -/
theorem energy2_eq (i : S_.Idx) : val_main_v164 (F := Ideal) A.x A.wf A.emb A.we A.be A.dict A.bias A.g1 A.b1 A.wq A.wk A.wv A.wo i = A.energy2 (kept A) := by
  unfold val_main_v164
  rw [energy2_part, ctx_eq]
  exact (scalar_eq _ _ i).trans (FfnRefIdeal.Value.energy_at _ _ _ _)

end Cert.ReferenceIdeal.Value
-- ==== Proof.WholeMask.lean ====
/-
  What the whole program's mask says: of a batch's results, that the batch's rows lie apart; of the numbers, that
  all rows do. There the reference's sparse coefficients are the ones the search leaves.
-/
module

public import proofs.«01_k».proof.Proof.EncEqual
public import proofs.«01_k».proof.Proof.Gen.On_settled
public import proofs.«01_k».proof.Proof.WholeRef

@[expose] public section

noncomputable section

open Idealize.ShloMosaic Idealize.ShloMosaic.TcCoe

namespace Cert.On_settled

open Cert.On_settled Facts Cert.Spec

variable (x : FVec Ideal S2x2048x4096 .f32) (v : FVec Ideal S2x2048x65 .f32)

/-- Whether a batch's rows all lie apart. -/
def batch : IVec S2 1 := Host.reduce IntOp.andi (On_separated.apart x v) (constantI S_ 1 1#1) reducesTo_S2x2048_S2_d1 h_S_

/-- Whether all rows lie apart. -/
def every : IVec S_ 1 := Host.reduce IntOp.andi (On_separated.apart x v) (constantI S_ 1 1#1) reducesTo_S2x2048_S_d0_1 h_S_

theorem of_batch (b : Fin 2) (s : Fin 2048) (h : batch x v (ix1 b) = 1#1) : On_separated.apart x v (ix2 b s) = 1#1 := by
  refine Host.reduce_andi_eq_one _ _ reducesTo_S2x2048_S2_d1 h_S_ (ix1 b) h (ix2 b s) ?_
  funext k
  fin_cases k
  rfl

theorem of_every (i : S_.Idx) (b : Fin 2) (s : Fin 2048) (h : every x v i = 1#1) : On_separated.apart x v (ix2 b s) = 1#1 := by
  haveI : Subsingleton S_.Idx := ⟨fun a b => funext fun k => k.elim0⟩
  exact Host.reduce_andi_all _ _ reducesTo_S2x2048_S_d0_1 h_S_ i h (ix2 b s)

/-- The mask, from the coefficients and their leading entries. -/
theorem parts : fn_part1 (F := Ideal) x v (constant (F := Ideal) S_ .f32 0x00000000#32) =
    (broadcastInDim S2x2048x1024 ![0, 1, 2] bcast_S2x1x1_S2x2048x1024_0_1_2 (shapeCast S2x1x1 (batch x v) shapeCasts_S2_S2x1x1),
      broadcastInDim S2x16x2048x2048 ![0, 1, 2, 3] bcast_S2x1x1x1_S2x16x2048x2048_0_1_2_3 (shapeCast S2x1x1x1 (batch x v) shapeCasts_S2_S2x1x1x1),
      broadcastInDim S2x2048x8 ![] bcast_S_S2x2048x8 (constantI S_ 1 1#1), every x v, every x v, every x v) := rfl

theorem batch3 (b : Fin 2) (s : Fin 2048) (k : Fin 1024) : broadcastInDim S2x2048x1024 ![0, 1, 2] bcast_S2x1x1_S2x2048x1024_0_1_2
    (shapeCast S2x1x1 (batch x v) shapeCasts_S2_S2x1x1) (ix3 b s k) = batch x v (ix1 b) := by
  refine (broadcastInDim_apply _ bcast_S2x1x1_S2x2048x1024_0_1_2 _ (ix3 b s k) (ix3 b (0 : Fin 1) (0 : Fin 1)) fun a => ?_).trans
    (shapeCast_apply _ _ (ix3 b (0 : Fin 1) (0 : Fin 1)) (ix1 b) ?_)
  · fin_cases a <;> rfl
  · rw [Shape.rowMajor_val_three, Shape.rowMajor_val_one]
    show b.val = (b.val * 1 + 0) * 1 + 0
    omega

theorem batch4 (b : Fin 2) (h : Fin 16) (s t : Fin 2048) : broadcastInDim S2x16x2048x2048 ![0, 1, 2, 3] bcast_S2x1x1x1_S2x16x2048x2048_0_1_2_3
    (shapeCast S2x1x1x1 (batch x v) shapeCasts_S2_S2x1x1x1) (ix4 b h s t) = batch x v (ix1 b) := by
  refine (broadcastInDim_apply _ bcast_S2x1x1x1_S2x16x2048x2048_0_1_2_3 _ (ix4 b h s t) (ix4 b (0 : Fin 1) (0 : Fin 1) (0 : Fin 1)) fun a => ?_).trans
    (shapeCast_apply _ _ (ix4 b (0 : Fin 1) (0 : Fin 1) (0 : Fin 1)) (ix1 b) ?_)
  · fin_cases a <;> rfl
  · rw [Shape.rowMajor_val_four, Shape.rowMajor_val_one]
    show b.val = ((b.val * 1 + 0) * 1 + 0) * 1 + 0
    omega

end Cert.On_settled

namespace Cert.ReferenceIdeal.Value

open Cert.Spec

variable (A : Args)

/-- The mask at the arguments. -/
def mask := Cert.On_settled.fn (F := Ideal) A.x A.wf A.emb A.we A.be A.dict A.bias A.g1 A.b1 A.wq A.wk A.wv A.wo A.g2 A.b2 A.w1 A.wg A.w2

/-- The leading entries of the reference's coefficients. -/
def leading : FVec Ideal On_separated.S2x2048x65 .f32 := (Host.topK On_separated.S2x2048x65 2 (FloatOps.cmpfTotal .gt)
  (EncRefIdeal.Read.val_main_v17 (F := Ideal) A.x A.wf A.emb A.we A.be) On_separated.Facts.sliceFits_S2x2048x4096_S2x2048x65).1

/-- The mask starts from the reference's own coefficients. -/
theorem mask_eq : mask A = Cert.On_settled.fn_part1 (F := Ideal) (EncRefIdeal.Read.val_main_v17 (F := Ideal) A.x A.wf A.emb A.we A.be) (leading A)
    (constant (F := Ideal) On_settled.S_ .f32 0x00000000#32) := rfl

/-- A row lies apart. -/
abbrev Settled (b : Fin 2) (s : Fin 2048) : Prop := EncRefIdeal.Value.RowApart A.x A.wf A.emb A.we A.be b s

/-- Where the mask takes the first result, the batch's rows lie apart. -/
theorem settled3 (b : Fin 2) (s : Fin 2048) (k : Fin 1024) (h : (mask A).1 (ix3 b s k) = 1#1) (s' : Fin 2048) : Settled A b s' := by
  rw [mask_eq, On_settled.parts] at h
  exact EncRefIdeal.Value.row_of_bit _ _ _ _ _ b s' (On_settled.of_batch _ _ b s' ((On_settled.batch3 _ _ b s k).symm.trans h))

/-- Where the mask takes the attention weights, the batch's rows lie apart. -/
theorem settled4 (b : Fin 2) (g : Fin 16) (s t : Fin 2048) (h : (mask A).2.1 (ix4 b g s t) = 1#1) (s' : Fin 2048) : Settled A b s' := by
  rw [mask_eq, On_settled.parts] at h
  exact EncRefIdeal.Value.row_of_bit _ _ _ _ _ b s' (On_settled.of_batch _ _ b s' ((On_settled.batch4 _ _ b g s t).symm.trans h))

/-- Where the mask takes a number, all rows lie apart. -/
theorem settled (i : On_settled.S_.Idx) (h : (mask A).2.2.2.1 i = 1#1 ∨ (mask A).2.2.2.2.1 i = 1#1 ∨ (mask A).2.2.2.2.2 i = 1#1)
    (b : Fin 2) (s : Fin 2048) : Settled A b s := by
  rw [mask_eq, On_settled.parts] at h
  have e : On_settled.every (EncRefIdeal.Read.val_main_v17 (F := Ideal) A.x A.wf A.emb A.we A.be) (leading A) i = 1#1 := by
    dsimp only at h
    rcases h with h | h | h <;> exact h
  exact EncRefIdeal.Value.row_of_bit _ _ _ _ _ b s (On_settled.of_every _ _ i b s e)

/-- A row that lies apart has the sparse coefficients that the search leaves. -/
theorem kept_eq (b : Fin 2) (s : Fin 2048) (h : Settled A b s) : kept A (at2 b s) = A.sparse (at2 b s) := by
  have e : (⟨(at2 b s).val / 2048, by omega⟩ : Fin 2) = b := Fin.ext (by show (2048 * b.val + s.val) / 2048 = b.val; omega)
  have e' : (⟨(at2 b s).val % 2048, by omega⟩ : Fin 2048) = s := Fin.ext (by show (2048 * b.val + s.val) % 2048 = s.val; omega)
  funext j
  refine (EncRefIdeal.Value.flat_sparse A.x A.wf A.emb A.we A.be (at2 b s) j).trans ?_
  rw [e, e', EncRefIdeal.Value.sparse_apart b s A.x A.wf A.emb A.we A.be h j]
  unfold Args.sparse Args.code
  have f : flat A.x (at2 b s) = fun k => A.x (ix3 b s k) := flat_batch A.x b s _
  rw [f]
  rfl

/-- If all rows lie apart, so do all sparse coefficients. -/
theorem kept_all (h : ∀ b s, Settled A b s) : kept A = A.sparse := by
  funext n
  have e : n = at2 ⟨n.val / 2048, by omega⟩ ⟨n.val % 2048, by omega⟩ :=
    Fin.ext (by show n.val = 2048 * (n.val / 2048) + n.val % 2048; omega)
  rw [e]
  exact kept_eq A _ _ (h _ _)

/-- The first result, where the mask takes it. -/
theorem out_of_mask (i : ReferenceIdeal.S2x2048x1024.Idx) (h : (mask A).1 i = 1#1) :
    ReferenceIdeal.Read.val_main_v160 (F := Ideal) A.x A.wf A.emb A.we A.be A.dict A.bias A.g1 A.b1 A.wq A.wk A.wv A.wo A.g2 A.b2 A.w1 A.wg A.w2 i = at3 (A.out A.sparse) i := by
  obtain ⟨b, s, k, rfl⟩ : ∃ (b : Fin 2) (s : Fin 2048) (k : Fin 1024), i = ix3 b s k := ⟨i 0, i 1, i 2, eq_ix3 i⟩
  rw [out_eq]
  exact congrFun (A.out_batch (kept A) A.sparse b (fun s' => kept_eq A b s' (settled3 A b s k h s')) s) k

/-- The attention weights, where the mask takes them. -/
theorem heads_of_mask (i : ReferenceIdeal.S2x16x2048x2048.Idx) (h : (mask A).2.1 i = 1#1) :
    ReferenceIdeal.Read.val_main_v107 (F := Ideal) A.x A.wf A.emb A.we A.be A.dict A.bias A.g1 A.b1 A.wq A.wk i = A.heads A.sparse i := by
  obtain ⟨b, g, s, t, rfl⟩ : ∃ (b : Fin 2) (g : Fin 16) (s t : Fin 2048), i = ix4 b g s t := ⟨i 0, i 1, i 2, i 3, eq_ix4 i⟩
  rw [heads_eq]
  exact A.heads_batch (kept A) A.sparse b (fun s' => kept_eq A b s' (settled4 A b g s t h s')) g s t

/-- The magnitude, where the mask takes it. -/
theorem total_of_mask (i : ReferenceIdeal.S_.Idx) (h : (mask A).2.2.2.1 i = 1#1) :
    ReferenceIdeal.Read.val_main_v162 (F := Ideal) A.x A.wf A.emb A.we A.be i = EncIdeal.Array.magnitude A.sparse :=
  (total_eq A i).trans (EncRefIdeal.Value.total_of_rows A.x A.wf A.emb A.we A.be _ (settled A i (.inl h)))

/-- The first energy, where the mask takes it. -/
theorem energy1_of_mask (i : ReferenceIdeal.S_.Idx) (h : (mask A).2.2.2.2.1 i = 1#1) :
    ReferenceIdeal.Read.val_main_v163 (F := Ideal) A.x A.wf A.emb A.we A.be A.dict A.bias i = A.energy1 A.sparse := by
  rw [energy1_eq, kept_all A (settled A i (.inr (.inl h)))]

/-- The second energy, where the mask takes it. -/
theorem energy2_of_mask (i : ReferenceIdeal.S_.Idx) (h : (mask A).2.2.2.2.2 i = 1#1) :
    ReferenceIdeal.Read.val_main_v164 (F := Ideal) A.x A.wf A.emb A.we A.be A.dict A.bias A.g1 A.b1 A.wq A.wk A.wv A.wo i = A.energy2 A.sparse := by
  rw [energy2_eq, kept_all A (settled A i (.inr (.inr h)))]

end Cert.ReferenceIdeal.Value
-- ==== Proof.WholeClaim.lean ====
/-
  The whole program's claim: its six results are the reference's, where the mask holds.
-/
module

public import proofs.«01_k».proof.Proof.WholeReads
public import proofs.«01_k».proof.Proof.WholeRun
public import proofs.«01_k».proof.Proof.WholeMask
public import proofs.«01_k».proof.Defs

@[expose] public section

set_option maxRecDepth 16384

noncomputable section

open Idealize.ShloMosaic Idealize.ShloMosaic.TcCoe Idealize.SL.Sem

namespace Cert.KernelIdeal.Whole

open Cert.KernelIdeal Cert.ReferenceIdeal.Read Cert.Spec

/-- From memories agreeing on the arguments, the program and the reference end with the same family weights, with the same
    output and attention weights in the batches the mask takes, and with the same three numbers where it takes all rows. -/
theorem algebraic : Cert.algebraic_KernelIdeal_ReferenceIdeal_on_settled (hKernelIdeal := Cert.KernelIdeal.Gen.facts)
    (hReferenceIdeal := Cert.ReferenceIdeal.Gen.facts) (hOn_settled := Cert.On_settled.Gen.facts) := by
  intro m g m' g' _ hagree
  refine ⟨fun c => at3 ((args m c).out (args m c).sparse), fun c => (args m c).heads (args m c).sparse, fun c => at3 (args m c).weights,
    fun c _ => EncIdeal.Array.magnitude (args m c).sparse, fun c _ => (args m c).energy1 (args m c).sparse,
    fun c _ => (args m c).energy2 (args m c).sparse, ?_, ?_⟩
  · refine (θ_run _ _ _).mono (fun r h c => ?_) (run m g)
    refine ⟨fun i _ => congrFun ((h.1 c _ (mem_uc main_v19 (by decide))).trans (result_out m g c)) i,
      fun i _ => congrFun ((h.1 c _ (mem_uc main_v10_0 (by decide))).trans (result_heads m g c)) i,
      fun i _ => congrFun ((h.1 c _ (mem_uc main_v20 (by decide))).trans (result_weights m g c)) i,
      fun i _ => (congrFun (h.1 c _ (mem_uc main_v21 (by decide))) i).trans (result_total m g c i),
      fun i _ => (congrFun (h.1 c _ (mem_uc main_v22 (by decide))) i).trans (result_energy1 m g c i),
      fun i _ => (congrFun (h.1 c _ (mem_uc main_v23 (by decide))) i).trans (result_energy2 m g c i), ?_⟩
    exact ⟨kept m g r h.1 c main_arg0 (by decide),
      kept m g r h.1 c main_arg1 (by decide),
      kept m g r h.1 c main_arg2 (by decide),
      kept m g r h.1 c main_arg3 (by decide),
      kept m g r h.1 c main_arg4 (by decide),
      kept m g r h.1 c main_arg5 (by decide),
      kept m g r h.1 c main_arg6 (by decide),
      kept m g r h.1 c main_arg7 (by decide),
      kept m g r h.1 c main_arg8 (by decide),
      kept m g r h.1 c main_arg9 (by decide),
      kept m g r h.1 c main_arg10 (by decide),
      kept m g r h.1 c main_arg11 (by decide),
      kept m g r h.1 c main_arg12 (by decide),
      kept m g r h.1 c main_arg13 (by decide),
      kept m g r h.1 c main_arg14 (by decide),
      kept m g r h.1 c main_arg15 (by decide),
      kept m g r h.1 c main_arg16 (by decide),
      kept m g r h.1 c main_arg17 (by decide)⟩
  · refine (θ_run _ _ _).mono (fun r h c => ?_) (Cert.ReferenceIdeal.Value.run m' g')
    obtain ⟨h0, h1, h2, h3, h4, h5, kept⟩ := h c
    obtain ⟨a0, a1, a2, a3, a4, a5, a6, a7, a8, a9, a10, a11, a12, a13, a14, a15, a16, a17⟩ := hagree c
    have e0 : StableHlo.launchContents m' c (Proc.devRef .tc ReferenceIdeal.main_arg0) = (args m c).x := a0
    have e1 : StableHlo.launchContents m' c (Proc.devRef .tc ReferenceIdeal.main_arg1) = (args m c).wf := a1
    have e2 : StableHlo.launchContents m' c (Proc.devRef .tc ReferenceIdeal.main_arg2) = (args m c).emb := a2
    have e3 : StableHlo.launchContents m' c (Proc.devRef .tc ReferenceIdeal.main_arg3) = (args m c).we := a3
    have e4 : StableHlo.launchContents m' c (Proc.devRef .tc ReferenceIdeal.main_arg4) = (args m c).be := a4
    have e5 : StableHlo.launchContents m' c (Proc.devRef .tc ReferenceIdeal.main_arg5) = (args m c).dict := a5
    have e6 : StableHlo.launchContents m' c (Proc.devRef .tc ReferenceIdeal.main_arg6) = (args m c).bias := a6
    have e7 : StableHlo.launchContents m' c (Proc.devRef .tc ReferenceIdeal.main_arg7) = (args m c).g1 := a7
    have e8 : StableHlo.launchContents m' c (Proc.devRef .tc ReferenceIdeal.main_arg8) = (args m c).b1 := a8
    have e9 : StableHlo.launchContents m' c (Proc.devRef .tc ReferenceIdeal.main_arg9) = (args m c).wq := a9
    have e10 : StableHlo.launchContents m' c (Proc.devRef .tc ReferenceIdeal.main_arg10) = (args m c).wk := a10
    have e11 : StableHlo.launchContents m' c (Proc.devRef .tc ReferenceIdeal.main_arg11) = (args m c).wv := a11
    have e12 : StableHlo.launchContents m' c (Proc.devRef .tc ReferenceIdeal.main_arg12) = (args m c).wo := a12
    have e13 : StableHlo.launchContents m' c (Proc.devRef .tc ReferenceIdeal.main_arg13) = (args m c).g2 := a13
    have e14 : StableHlo.launchContents m' c (Proc.devRef .tc ReferenceIdeal.main_arg14) = (args m c).b2 := a14
    have e15 : StableHlo.launchContents m' c (Proc.devRef .tc ReferenceIdeal.main_arg15) = (args m c).w1 := a15
    have e16 : StableHlo.launchContents m' c (Proc.devRef .tc ReferenceIdeal.main_arg16) = (args m c).wg := a16
    have e17 : StableHlo.launchContents m' c (Proc.devRef .tc ReferenceIdeal.main_arg17) = (args m c).w2 := a17
    refine ⟨fun i hi => (congrFun h0 i).trans ?_, fun i hi => (congrFun h1 i).trans ?_, fun i _ => (congrFun h2 i).trans ?_,
      fun i hi => (congrFun h3 i).trans ?_, fun i hi => (congrFun h4 i).trans ?_, fun i hi => (congrFun h5 i).trans ?_, kept⟩
    · rw [val_main_v160_eq, e0, e1, e2, e3, e4, e5, e6, e7, e8, e9, e10, e11, e12, e13, e14, e15, e16, e17]
      exact Cert.ReferenceIdeal.Value.out_of_mask (args m c) i hi
    · rw [val_main_v107_eq, e0, e1, e2, e3, e4, e5, e6, e7, e8, e9, e10]
      exact Cert.ReferenceIdeal.Value.heads_of_mask (args m c) i hi
    · rw [val_main_v161_eq, e0, e1]
      exact congrFun (Cert.ReferenceIdeal.Value.weights_eq (args m c)) i
    · rw [val_main_v162_eq, e0, e1, e2, e3, e4]
      exact Cert.ReferenceIdeal.Value.total_of_mask (args m c) i hi
    · rw [val_main_v163_eq, e0, e1, e2, e3, e4, e5, e6]
      exact Cert.ReferenceIdeal.Value.energy1_of_mask (args m c) i hi
    · rw [val_main_v164_eq, e0, e1, e2, e3, e4, e5, e6, e7, e8, e9, e10, e11, e12]
      exact Cert.ReferenceIdeal.Value.energy2_of_mask (args m c) i hi

end Cert.KernelIdeal.Whole

end
-- ==== Proof.WholeKernel.lean ====
/-
  The whole program before idealisation: it is the same text as the idealised one, so its arguments end unchanged as well.
-/
module

public import proofs.«01_k».proof.Proof.WholeRun
public import proofs.«01_k».proof.Proof.Gen.Kernel
public import proofs.«01_k».proof.Defs

@[expose] public section

set_option maxRecDepth 16384

noncomputable section

open Idealize.ShloMosaic Idealize.ShloMosaic.TcCoe Idealize.SL.Sem

namespace Cert.Kernel.Whole

set_option maxHeartbeats 4000000 in
/-- The calls' bodies are the same. -/
theorem bodies : (Cert.Kernel.defs₀ (F := Bits)) = Cert.KernelIdeal.defs₀ (F := Bits) := by
  unfold Cert.Kernel.defs₀ Cert.KernelIdeal.defs₀
  refine congrArg (Defs.onTc (τ := Cert.KernelIdeal.τ) (nD := Cert.KernelIdeal.nD)) (funext fun l => funext fun x => ?_)
  match l, x with
  | ⟨0, _⟩, _ => rfl
  | ⟨1, _⟩, _ => rfl
  | ⟨2, _⟩, _ => rfl
  | ⟨3, _⟩, _ => rfl

set_option maxHeartbeats 16000000 in
/-- So are the calls. -/
theorem calls : (Cert.Kernel.defs (F := Bits)) = Cert.KernelIdeal.defs (F := Bits) :=
  congrArg (Pipeline.defs (Cert.KernelIdeal.pcfgs (F := Bits))) bodies

/-- The idealised program's run, for calls that equal its own. -/
theorem run_of (m : (ℓ : Loc Cert.KernelIdeal.nD Cert.KernelIdeal.τ Cert.KernelIdeal.sig) → Buf (Elt Bits) ℓ) (g : Dev Cert.KernelIdeal.nD → PrngReg)
    (d) (hd : d = Cert.KernelIdeal.defs (F := Bits)) (Q) (h : θ_run (Cert.KernelIdeal.defs (F := Bits))
      (onTc (τ := Cert.KernelIdeal.τ) (Cert.KernelIdeal.main (F := Bits))) ⟨m, fun _ => 0, g⟩ Q) :
    θ_run d (onTc (τ := Cert.KernelIdeal.τ) (Cert.KernelIdeal.main (F := Bits))) ⟨m, fun _ => 0, g⟩ Q := by
  subst hd
  exact h

set_option maxHeartbeats 16000000 in
/-- The program terminates with its arguments as launched and every counter at zero. -/
theorem frame : Cert.quiescent_Kernel (hKernel := Cert.Kernel.Gen.facts) := fun m g _ =>
  run_of m g _ calls _ (Cert.KernelIdeal.Whole.frame (F := Bits) m g)

end Cert.Kernel.Whole

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Enc
public import proofs.«01_k».proof.Proof.Gen.Enc.Skeleton
public import proofs.«01_k».proof.Proof.Gen.Enc.Loops
public import proofs.«01_k».proof.Proof.Gen.Enc.Launch
public import proofs.«01_k».proof.Proof.Gen.Enc.Points
public import proofs.«01_k».proof.Proof.Gen.Enc.Frame
public import proofs.«01_k».proof.Proof.Gen.EncIdeal
public import proofs.«01_k».proof.Proof.Gen.EncIdeal.Skeleton
public import proofs.«01_k».proof.Proof.Gen.EncIdeal.Loops
public import proofs.«01_k».proof.Proof.Gen.EncIdeal.Launch
public import proofs.«01_k».proof.Proof.Gen.EncIdeal.Points
public import proofs.«01_k».proof.Proof.Gen.EncIdeal.Frame
public import proofs.«01_k».proof.Proof.Gen.EncRefIdeal
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.EncIdeal.Value
public import proofs.«01_k».proof.Proof.Gen.EncRefIdeal.Run
public import proofs.«01_k».proof.Proof.Gen.EncRefIdeal.Read
public import proofs.«01_k».proof.Proof.FfnClaim
public import proofs.«01_k».proof.Proof.QkvClaim
public import proofs.«01_k».proof.Proof.AttnClaim
public import proofs.«01_k».proof.Proof.EncClaim
public import proofs.«01_k».proof.Proof.WholeClaim
public import proofs.«01_k».proof.Proof.WholeKernel
public import Idealize.ShloMosaic.Lib.Quiescent
public import Idealize.ShloMosaic.Adequacy
public import Idealize.ShloMosaic.Init

@[expose] public section

noncomputable section

namespace Cert.Proof

open Idealize.ShloMosaic Idealize.SL.Sem Cert.Ffn

/-- The frames of the four calls, of the whole program and of their references, and the equations. -/
theorem claim : Cert.Claim := by
  refine ⟨Cert.Ffn.Gen.facts, Cert.FfnIdeal.Gen.facts, Cert.FfnRefIdeal.Gen.facts, Cert.Qkv.Gen.facts, Cert.QkvIdeal.Gen.facts, Cert.QkvRefIdeal.Gen.facts, Cert.Attn.Gen.facts, Cert.AttnIdeal.Gen.facts, Cert.AttnRefIdeal.Gen.facts, Cert.Enc.Gen.facts, Cert.EncIdeal.Gen.facts, Cert.EncRefIdeal.Gen.facts, Cert.Kernel.Gen.facts, Cert.KernelIdeal.Gen.facts, Cert.ReferenceIdeal.Gen.facts, Cert.On_separated.facts, Cert.On_settled.Gen.facts,
    ?_, ?_, ?_, ?_, ?_, ?_, ?_, ?_, ?_, ?_, ?_, ?_, ?_, ?_, ?_, trivial, Cert.Ffn.Equation.algebraic, trivial, Cert.Qkv.Equation.algebraic, trivial, Cert.Attn.Equation.algebraic, trivial, Cert.Enc.Equation.algebraic, trivial, Cert.KernelIdeal.Whole.algebraic⟩
  · exact fun m g _ => Cert.Ffn.Gen.frame m g
  · exact fun m g _ => Cert.FfnIdeal.Gen.frame m g
  · exact fun m g _ => (θ_run _ _ _).mono (fun r h => ⟨fun c => (h c).2.2, sem_eq_zero_of_no_sems rfl _⟩) (Cert.FfnRefIdeal.Value.run m g)
  · exact fun m g _ => Cert.Qkv.Gen.frame m g
  · exact fun m g _ => Cert.QkvIdeal.Gen.frame m g
  · exact fun m g _ => (θ_run _ _ _).mono (fun r h => ⟨fun c => (h c).2.2.2.2, sem_eq_zero_of_no_sems rfl _⟩) (Cert.QkvRefIdeal.Value.run m g)
  · exact fun m g _ => Cert.Attn.Gen.frame m g
  · exact fun m g _ => Cert.AttnIdeal.Gen.frame m g
  · exact fun m g _ => (θ_run _ _ _).mono (fun r h => ⟨fun c => (h c).2.2, sem_eq_zero_of_no_sems rfl _⟩) (Cert.AttnRefIdeal.Value.run m g)
  · exact fun m g _ => Cert.Enc.Gen.frame m g
  · exact fun m g _ => Cert.EncIdeal.Gen.frame m g
  · exact fun m g _ => (θ_run _ _ _).mono (fun r h => ⟨fun c => (h c).2.2.2.2, sem_eq_zero_of_no_sems rfl _⟩) (Cert.EncRefIdeal.Value.run m g)
  · exact Cert.Kernel.Whole.frame
  · exact fun m g _ => Cert.KernelIdeal.Whole.frame m g
  · exact fun m g _ => (θ_run _ _ _).mono (fun r h => ⟨fun c => (h c).2.2.2.2.2.2, sem_eq_zero_of_no_sems rfl _⟩) (Cert.ReferenceIdeal.Value.run m g)

end Cert.Proof

end
